-- ==== Defs.lean ====
def Pre_Up [hPre_up_tables : Cert.Pre_up_tables.Facts] (m : (ℓ : Loc Cert.Up.nD Cert.Up.τ Cert.Up.sig) → Buf (Elt Bits) ℓ) : Prop :=
  ∀ c : Dev Cert.Up.nD,
    (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_up_tables : Cert.Pre_up_tables.Facts] (m : (ℓ : Loc Cert.UpIdeal.nD Cert.UpIdeal.τ Cert.UpIdeal.sig) → Buf (Elt Ideal) ℓ) : Prop :=
  ∀ c : Dev Cert.UpIdeal.nD,
    (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_up_tables [hPre_up_tables : Cert.Pre_up_tables.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))) = (fun _ => 1#1)

def Pre_Down [hPre_down_tables : Cert.Pre_down_tables.Facts] (m : (ℓ : Loc Cert.Down.nD Cert.Down.τ Cert.Down.sig) → Buf (Elt Bits) ℓ) : Prop :=
  ∀ c : Dev Cert.Down.nD,
    (Cert.Pre_down_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_down_tables : Cert.Pre_down_tables.Facts] (m : (ℓ : Loc Cert.DownIdeal.nD Cert.DownIdeal.τ Cert.DownIdeal.sig) → Buf (Elt Ideal) ℓ) : Prop :=
  ∀ c : Dev Cert.DownIdeal.nD,
    (Cert.Pre_down_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_tables [hPre_down_tables : Cert.Pre_down_tables.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_tables.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkReferenceIdeal (m : (ℓ : Loc Cert.QkReferenceIdeal.nD Cert.QkReferenceIdeal.τ Cert.QkReferenceIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def quiescent_Up [hUp : Cert.Up.Facts] [hPre_up_tables : Cert.Pre_up_tables.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpReferenceIdeal_pre_up_tables [hUpReferenceIdeal : Cert.UpReferenceIdeal.Facts] [hPre_up_tables : Cert.Pre_up_tables.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_up_tables m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] [hPre_down_tables : Cert.Pre_down_tables.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DownReferenceIdeal_pre_down_tables [hDownReferenceIdeal : Cert.DownReferenceIdeal.Facts] [hPre_down_tables : Cert.Pre_down_tables.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_tables m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4)
      ∧ r.2.mem ((c.tc : Thread Cert.QkReferenceIdeal.nD Cert.QkReferenceIdeal.τ).loc Cert.QkReferenceIdeal.main_arg5) = m ((c.tc : Thread Cert.QkReferenceIdeal.nD Cert.QkReferenceIdeal.τ).loc Cert.QkReferenceIdeal.main_arg5))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def preserves_Up_UpIdeal : Prop :=
  True

def algebraic_UpIdeal_UpReferenceIdeal [hUpIdeal : Cert.UpIdeal.Facts] [hUpReferenceIdeal : Cert.UpReferenceIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v47) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal [hDownIdeal : Cert.DownIdeal.Facts] [hDownReferenceIdeal : Cert.DownReferenceIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v26) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v9)) (v3 : (c : Dev Cert.MixIdeal.nD) → Buf (Elt Ideal) ((c.tc : Thread Cert.MixIdeal.nD Cert.MixIdeal.τ).loc Cert.MixIdeal.main_v14)) (v4 : (c : Dev Cert.MixIdeal.nD) → Buf (Elt Ideal) ((c.tc : Thread Cert.MixIdeal.nD Cert.MixIdeal.τ).loc Cert.MixIdeal.main_v15)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v9) = v2 c
          ∧ r.2.mem ((c.tc : Thread Cert.MixIdeal.nD Cert.MixIdeal.τ).loc Cert.MixIdeal.main_v14) = v3 c
          ∧ r.2.mem ((c.tc : Thread Cert.MixIdeal.nD Cert.MixIdeal.τ).loc Cert.MixIdeal.main_v15) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v19) = v0 c
          ∧ r.2.mem ((c.tc : Thread Cert.MixReferenceIdeal.nD Cert.MixReferenceIdeal.τ).loc Cert.MixReferenceIdeal.main_v79) = v1 c
          ∧ r.2.mem ((c.tc : Thread Cert.MixReferenceIdeal.nD Cert.MixReferenceIdeal.τ).loc Cert.MixReferenceIdeal.main_v80) = v2 c
          ∧ r.2.mem ((c.tc : Thread Cert.MixReferenceIdeal.nD Cert.MixReferenceIdeal.τ).loc Cert.MixReferenceIdeal.main_v72) = v3 c
          ∧ r.2.mem ((c.tc : Thread Cert.MixReferenceIdeal.nD Cert.MixReferenceIdeal.τ).loc Cert.MixReferenceIdeal.main_v81) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Qk_QkIdeal : Prop :=
  True

def algebraic_QkIdeal_QkReferenceIdeal [hQkIdeal : Cert.QkIdeal.Facts] [hQkReferenceIdeal : Cert.QkReferenceIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkReferenceIdeal.nD Cert.QkReferenceIdeal.τ Cert.QkReferenceIdeal.sig) → Buf (Elt Ideal) ℓ) (g' : Dev Cert.QkReferenceIdeal.nD → PrngReg), Pre_QkIdeal m →
    (∀ c : Dev Cert.QkIdeal.nD,
      m' ((c.tc : Thread Cert.QkReferenceIdeal.nD Cert.QkReferenceIdeal.τ).loc Cert.QkReferenceIdeal.main_arg0) = m ((c.tc : Thread Cert.QkIdeal.nD Cert.QkIdeal.τ).loc Cert.QkIdeal.main_arg0)
      ∧ m' ((c.tc : Thread Cert.QkReferenceIdeal.nD Cert.QkReferenceIdeal.τ).loc Cert.QkReferenceIdeal.main_arg1) = m ((c.tc : Thread Cert.QkIdeal.nD Cert.QkIdeal.τ).loc Cert.QkIdeal.main_arg1)
      ∧ m' ((c.tc : Thread Cert.QkReferenceIdeal.nD Cert.QkReferenceIdeal.τ).loc Cert.QkReferenceIdeal.main_arg2) = m ((c.tc : Thread Cert.QkIdeal.nD Cert.QkIdeal.τ).loc Cert.QkIdeal.main_arg2)
      ∧ m' ((c.tc : Thread Cert.QkReferenceIdeal.nD Cert.QkReferenceIdeal.τ).loc Cert.QkReferenceIdeal.main_arg3) = m ((c.tc : Thread Cert.QkIdeal.nD Cert.QkIdeal.τ).loc Cert.QkIdeal.main_arg3)
      ∧ m' ((c.tc : Thread Cert.QkReferenceIdeal.nD Cert.QkReferenceIdeal.τ).loc Cert.QkReferenceIdeal.main_arg4) = m ((c.tc : Thread Cert.QkIdeal.nD Cert.QkIdeal.τ).loc Cert.QkIdeal.main_arg4)
      ∧ m' ((c.tc : Thread Cert.QkReferenceIdeal.nD Cert.QkReferenceIdeal.τ).loc Cert.QkReferenceIdeal.main_arg5) = m ((c.tc : Thread Cert.QkIdeal.nD Cert.QkIdeal.τ).loc Cert.QkIdeal.main_arg5)) →
    ∃ (v0 : (c : Dev Cert.QkIdeal.nD) → Buf (Elt Ideal) ((c.tc : Thread Cert.QkIdeal.nD Cert.QkIdeal.τ).loc Cert.QkIdeal.main_v67_0)) (v1 : (c : Dev Cert.QkIdeal.nD) → Buf (Elt Ideal) ((c.tc : Thread Cert.QkIdeal.nD Cert.QkIdeal.τ).loc Cert.QkIdeal.main_v67_1)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v67_0) = v0 c
          ∧ r.2.mem ((c.tc : Thread Cert.QkIdeal.nD Cert.QkIdeal.τ).loc Cert.QkIdeal.main_v67_1) = v1 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
          ∧ r.2.mem ((c.tc : Thread Cert.QkIdeal.nD Cert.QkIdeal.τ).loc Cert.QkIdeal.main_arg5) = m ((c.tc : Thread Cert.QkIdeal.nD Cert.QkIdeal.τ).loc Cert.QkIdeal.main_arg5))
      ∧ θ_run (Cert.QkReferenceIdeal.defs (F := Ideal)) (onTc (τ := Cert.QkReferenceIdeal.τ) (Cert.QkReferenceIdeal.main (F := Ideal))) ⟨m', fun _ => 0, g'⟩ (fun r => ∀ c : Dev Cert.QkReferenceIdeal.nD,
          r.2.mem ((c.tc : Thread Cert.QkReferenceIdeal.nD Cert.QkReferenceIdeal.τ).loc Cert.QkReferenceIdeal.main_v126) = v0 c
          ∧ r.2.mem ((c.tc : Thread Cert.QkReferenceIdeal.nD Cert.QkReferenceIdeal.τ).loc Cert.QkReferenceIdeal.main_v127) = v1 c
          ∧ r.2.mem ((c.tc : Thread Cert.QkReferenceIdeal.nD Cert.QkReferenceIdeal.τ).loc Cert.QkReferenceIdeal.main_arg0) = m' ((c.tc : Thread Cert.QkReferenceIdeal.nD Cert.QkReferenceIdeal.τ).loc Cert.QkReferenceIdeal.main_arg0)
          ∧ r.2.mem ((c.tc : Thread Cert.QkReferenceIdeal.nD Cert.QkReferenceIdeal.τ).loc Cert.QkReferenceIdeal.main_arg1) = m' ((c.tc : Thread Cert.QkReferenceIdeal.nD Cert.QkReferenceIdeal.τ).loc Cert.QkReferenceIdeal.main_arg1)
          ∧ r.2.mem ((c.tc : Thread Cert.QkReferenceIdeal.nD Cert.QkReferenceIdeal.τ).loc Cert.QkReferenceIdeal.main_arg2) = m' ((c.tc : Thread Cert.QkReferenceIdeal.nD Cert.QkReferenceIdeal.τ).loc Cert.QkReferenceIdeal.main_arg2)
          ∧ r.2.mem ((c.tc : Thread Cert.QkReferenceIdeal.nD Cert.QkReferenceIdeal.τ).loc Cert.QkReferenceIdeal.main_arg3) = m' ((c.tc : Thread Cert.QkReferenceIdeal.nD Cert.QkReferenceIdeal.τ).loc Cert.QkReferenceIdeal.main_arg3)
          ∧ r.2.mem ((c.tc : Thread Cert.QkReferenceIdeal.nD Cert.QkReferenceIdeal.τ).loc Cert.QkReferenceIdeal.main_arg4) = m' ((c.tc : Thread Cert.QkReferenceIdeal.nD Cert.QkReferenceIdeal.τ).loc Cert.QkReferenceIdeal.main_arg4)
          ∧ r.2.mem ((c.tc : Thread Cert.QkReferenceIdeal.nD Cert.QkReferenceIdeal.τ).loc Cert.QkReferenceIdeal.main_arg5) = m' ((c.tc : Thread Cert.QkReferenceIdeal.nD Cert.QkReferenceIdeal.τ).loc Cert.QkReferenceIdeal.main_arg5))

def preserves_Gmlp_GmlpIdeal : Prop :=
  True

def algebraic_GmlpIdeal_GmlpReferenceIdeal [hGmlpIdeal : Cert.GmlpIdeal.Facts] [hGmlpReferenceIdeal : Cert.GmlpReferenceIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpIdeal m →
    (∀ c : Dev Cert.GmlpIdeal.nD,
      m' ((c.tc : Thread Cert.GmlpReferenceIdeal.nD Cert.GmlpReferenceIdeal.τ).loc Cert.GmlpReferenceIdeal.main_arg0) = m ((c.tc : Thread Cert.GmlpIdeal.nD Cert.GmlpIdeal.τ).loc Cert.GmlpIdeal.main_arg0)
      ∧ m' ((c.tc : Thread Cert.GmlpReferenceIdeal.nD Cert.GmlpReferenceIdeal.τ).loc Cert.GmlpReferenceIdeal.main_arg1) = m ((c.tc : Thread Cert.GmlpIdeal.nD Cert.GmlpIdeal.τ).loc Cert.GmlpIdeal.main_arg1)
      ∧ m' ((c.tc : Thread Cert.GmlpReferenceIdeal.nD Cert.GmlpReferenceIdeal.τ).loc Cert.GmlpReferenceIdeal.main_arg2) = m ((c.tc : Thread Cert.GmlpIdeal.nD Cert.GmlpIdeal.τ).loc Cert.GmlpIdeal.main_arg2)
      ∧ m' ((c.tc : Thread Cert.GmlpReferenceIdeal.nD Cert.GmlpReferenceIdeal.τ).loc Cert.GmlpReferenceIdeal.main_arg3) = m ((c.tc : Thread Cert.GmlpIdeal.nD Cert.GmlpIdeal.τ).loc Cert.GmlpIdeal.main_arg3)) →
    ∃ (v0 : (c : Dev Cert.GmlpIdeal.nD) → Buf (Elt Ideal) ((c.tc : Thread Cert.GmlpIdeal.nD Cert.GmlpIdeal.τ).loc Cert.GmlpIdeal.main_v34)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v34) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v31) = v0 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v10)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v18) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v10)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v10) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v17) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def Claim : Prop :=
  ∃ (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hMix : Cert.Mix.Facts) (hMixIdeal : Cert.MixIdeal.Facts) (hMixReferenceIdeal : Cert.MixReferenceIdeal.Facts) (hQk : Cert.Qk.Facts) (hQkIdeal : Cert.QkIdeal.Facts) (hQkReferenceIdeal : Cert.QkReferenceIdeal.Facts) (hGmlp : Cert.Gmlp.Facts) (hGmlpIdeal : Cert.GmlpIdeal.Facts) (hGmlpReferenceIdeal : Cert.GmlpReferenceIdeal.Facts) (hOut : Cert.Out.Facts) (hOutIdeal : Cert.OutIdeal.Facts) (hOutReferenceIdeal : Cert.OutReferenceIdeal.Facts) (hPle : Cert.Ple.Facts) (hPleIdeal : Cert.PleIdeal.Facts) (hPleReferenceIdeal : Cert.PleReferenceIdeal.Facts) (hPre_up_tables : Cert.Pre_up_tables.Facts) (hPre_down_tables : Cert.Pre_down_tables.Facts),
    quiescent_Up (hUp := hUp) (hPre_up_tables := hPre_up_tables)
    ∧ quiescent_UpIdeal (hUpIdeal := hUpIdeal) (hPre_up_tables := hPre_up_tables)
    ∧ quiescent_UpReferenceIdeal (hUpReferenceIdeal := hUpReferenceIdeal)
    ∧ quiescent_UpReferenceIdeal_pre_up_tables (hUpReferenceIdeal := hUpReferenceIdeal) (hPre_up_tables := hPre_up_tables)
    ∧ quiescent_Down (hDown := hDown) (hPre_down_tables := hPre_down_tables)
    ∧ quiescent_DownIdeal (hDownIdeal := hDownIdeal) (hPre_down_tables := hPre_down_tables)
    ∧ quiescent_DownReferenceIdeal (hDownReferenceIdeal := hDownReferenceIdeal)
    ∧ quiescent_DownReferenceIdeal_pre_down_tables (hDownReferenceIdeal := hDownReferenceIdeal) (hPre_down_tables := hPre_down_tables)
    ∧ quiescent_Mix (hMix := hMix)
    ∧ quiescent_MixIdeal (hMixIdeal := hMixIdeal)
    ∧ quiescent_MixReferenceIdeal (hMixReferenceIdeal := hMixReferenceIdeal)
    ∧ quiescent_Qk (hQk := hQk)
    ∧ quiescent_QkIdeal (hQkIdeal := hQkIdeal)
    ∧ quiescent_QkReferenceIdeal (hQkReferenceIdeal := hQkReferenceIdeal)
    ∧ quiescent_Gmlp (hGmlp := hGmlp)
    ∧ quiescent_GmlpIdeal (hGmlpIdeal := hGmlpIdeal)
    ∧ quiescent_GmlpReferenceIdeal (hGmlpReferenceIdeal := hGmlpReferenceIdeal)
    ∧ quiescent_Out (hOut := hOut)
    ∧ quiescent_OutIdeal (hOutIdeal := hOutIdeal)
    ∧ quiescent_OutReferenceIdeal (hOutReferenceIdeal := hOutReferenceIdeal)
    ∧ quiescent_Ple (hPle := hPle)
    ∧ quiescent_PleIdeal (hPleIdeal := hPleIdeal)
    ∧ quiescent_PleReferenceIdeal (hPleReferenceIdeal := hPleReferenceIdeal)
    ∧ preserves_Up_UpIdeal
    ∧ algebraic_UpIdeal_UpReferenceIdeal (hUpIdeal := hUpIdeal) (hUpReferenceIdeal := hUpReferenceIdeal) (hPre_up_tables := hPre_up_tables)
    ∧ preserves_Down_DownIdeal
    ∧ algebraic_DownIdeal_DownReferenceIdeal (hDownIdeal := hDownIdeal) (hDownReferenceIdeal := hDownReferenceIdeal) (hPre_down_tables := hPre_down_tables)
    ∧ preserves_Mix_MixIdeal
    ∧ algebraic_MixIdeal_MixReferenceIdeal (hMixIdeal := hMixIdeal) (hMixReferenceIdeal := hMixReferenceIdeal)
    ∧ preserves_Qk_QkIdeal
    ∧ algebraic_QkIdeal_QkReferenceIdeal (hQkIdeal := hQkIdeal) (hQkReferenceIdeal := hQkReferenceIdeal)
    ∧ preserves_Gmlp_GmlpIdeal
    ∧ algebraic_GmlpIdeal_GmlpReferenceIdeal (hGmlpIdeal := hGmlpIdeal) (hGmlpReferenceIdeal := hGmlpReferenceIdeal)
    ∧ preserves_Out_OutIdeal
    ∧ algebraic_OutIdeal_OutReferenceIdeal (hOutIdeal := hOutIdeal) (hOutReferenceIdeal := hOutReferenceIdeal)
    ∧ preserves_Ple_PleIdeal
    ∧ algebraic_PleIdeal_PleReferenceIdeal (hPleIdeal := hPleIdeal) (hPleReferenceIdeal := hPleReferenceIdeal)
-- ==== Pre_down_tables.lean ====
abbrev S164 : Shape := ⟨1, ![164]⟩
abbrev S1 : Shape := ⟨1, ![1]⟩
abbrev S41984x2048 : Shape := ⟨2, ![41984, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S164 : S_.BroadcastsInDim S164 (![] : Fin 0 → Fin S164.rank)
  reducesTo_S164_S_d0 : S164.ReducesTo [0] S_
  h_S_ : 0 < S_.numel
  shapeCasts_S1_S_ : S1.ShapeCasts S_

variable [Facts]

def fn {F : FTy → Type} [FloatOps F] (main_arg0 : IVec S164 32) (main_arg1 : IVec S1 32) (main_arg2 : FVec F S41984x2048 .bf16) (main_arg3 : FVec F S32x2048x2048 .f32) (main_arg4 : FVec F S32x2048 .f32) : IVec S_ 1 :=
  let main_c : IVec S_ 32 := constantI S_ 32 0#32
  let main_v0 : IVec S164 32 := broadcastInDim S164 ![] bcast_S_S164 main_c
  let main_v1 : IVec S164 1 := cmpi .sge main_arg0 main_v0
  let main_c_0 : IVec S_ 32 := constantI S_ 32 32#32
  let main_v2 : IVec S164 32 := broadcastInDim S164 ![] bcast_S_S164 main_c_0
  let main_v3 : IVec S164 1 := cmpi .slt main_arg0 main_v2
  let main_v4 : IVec S164 1 := andi main_v1 main_v3
  let main_c_1 : IVec S_ 1 := constantI S_ 1 1#1
  let main_v5 : IVec S_ 1 := (fun x v => Host.reduce IntOp.andi x v reducesTo_S164_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_up_tables.lean ====
abbrev S164 : Shape := ⟨1, ![164]⟩
abbrev S1 : Shape := ⟨1, ![1]⟩
abbrev S41984x2048 : Shape := ⟨2, ![41984, 2048]⟩
abbrev S32x2048x4096 : Shape := ⟨3, ![32, 2048, 4096]⟩
abbrev S32x4096 : Shape := ⟨2, ![32, 4096]⟩
abbrev S_ : Shape := ⟨0, ![]⟩

class Facts : Prop where
  bcast_S_S164 : S_.BroadcastsInDim S164 (![] : Fin 0 → Fin S164.rank)
  reducesTo_S164_S_d0 : S164.ReducesTo [0] S_
  h_S_ : 0 < S_.numel
  shapeCasts_S1_S_ : S1.ShapeCasts S_

variable [Facts]

def fn {F : FTy → Type} [FloatOps F] (main_arg0 : IVec S164 32) (main_arg1 : IVec S1 32) (main_arg2 : FVec F S41984x2048 .bf16) (main_arg3 : FVec F S32x2048x4096 .f32) (main_arg4 : FVec F S32x4096 .f32) : IVec S_ 1 :=
  let main_c : IVec S_ 32 := constantI S_ 32 0#32
  let main_v0 : IVec S164 32 := broadcastInDim S164 ![] bcast_S_S164 main_c
  let main_v1 : IVec S164 1 := cmpi .sge main_arg0 main_v0
  let main_c_0 : IVec S_ 32 := constantI S_ 32 32#32
  let main_v2 : IVec S164 32 := broadcastInDim S164 ![] bcast_S_S164 main_c_0
  let main_v3 : IVec S164 1 := cmpi .slt main_arg0 main_v2
  let main_v4 : IVec S164 1 := andi main_v1 main_v3
  let main_c_1 : IVec S_ 1 := constantI S_ 1 1#1
  let main_v5 : IVec S_ 1 := (fun x v => Host.reduce IntOp.andi x v reducesTo_S164_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Up.lean ====
abbrev S164 : Shape := ⟨1, ![164]⟩
abbrev S1 : Shape := ⟨1, ![1]⟩
abbrev S41984x2048 : Shape := ⟨2, ![41984, 2048]⟩
abbrev S32x2048x4096 : Shape := ⟨3, ![32, 2048, 4096]⟩
abbrev S32x4096 : Shape := ⟨2, ![32, 4096]⟩
abbrev S32x1x4096 : Shape := ⟨3, ![32, 1, 4096]⟩
abbrev S256x2048 : Shape := ⟨2, ![256, 2048]⟩
abbrev S1x2048x1024 : Shape := ⟨3, ![1, 2048, 1024]⟩
abbrev S1x1x1024 : Shape := ⟨3, ![1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S41984x2048, .bf16⟩
  | .hbm, ⟨1, _⟩ => ⟨S32x2048x4096, .f32⟩
  | .hbm, ⟨2, _⟩ => ⟨S32x4096, .f32⟩
  | .hbm, ⟨3, _⟩ => ⟨S32x1x4096, .f32⟩
  | .hbm, ⟨4, _⟩ => ⟨S32x1x4096, .f32⟩
  | .hbm, ⟨5, _⟩ => ⟨S41984x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .smem, ⟨0, _⟩ => ⟨S164, .i32⟩
  | .local _ .smem, ⟨1, _⟩ => ⟨S1, .i32⟩
  | _, _ => ⟨S41984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 164], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S164) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S164) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S164) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S164) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S164 : Shape := ⟨1, ![164]⟩
abbrev S1 : Shape := ⟨1, ![1]⟩
abbrev S41984x2048 : Shape := ⟨2, ![41984, 2048]⟩
abbrev S32x2048x4096 : Shape := ⟨3, ![32, 2048, 4096]⟩
abbrev S32x4096 : Shape := ⟨2, ![32, 4096]⟩
abbrev S164x256x2048 : Shape := ⟨3, ![164, 256, 2048]⟩
abbrev S_ : Shape := ⟨0, ![]⟩
abbrev S164x1 : Shape := ⟨2, ![164, 1]⟩
abbrev S164x2048x4096 : Shape := ⟨3, ![164, 2048, 4096]⟩
abbrev S164x256x4096 : Shape := ⟨3, ![164, 256, 4096]⟩
abbrev S164x4096 : Shape := ⟨2, ![164, 4096]⟩
abbrev S164x1x4096 : Shape := ⟨3, ![164, 1, 4096]⟩
abbrev S164x1x1 : Shape := ⟨3, ![164, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S164, .i32⟩
  | .hbm, ⟨1, _⟩ => ⟨S1, .i32⟩
  | .hbm, ⟨2, _⟩ => ⟨S41984x2048, .bf16⟩
  | .hbm, ⟨3, _⟩ => ⟨S32x2048x4096, .f32⟩
  | .hbm, ⟨4, _⟩ => ⟨S32x4096, .f32⟩
  | .hbm, ⟨5, _⟩ => ⟨S41984x2048, .f32⟩
  | .hbm, ⟨6, _⟩ => ⟨S164x256x2048, .f32⟩
  | .hbm, ⟨7, _⟩ => ⟨S_, .i32⟩
  | .hbm, ⟨8, _⟩ => ⟨S164, .i32⟩
  | .hbm, ⟨9, _⟩ => ⟨S164, .i1⟩
  | .hbm, ⟨10, _⟩ => ⟨S_, .i32⟩
  | .hbm, ⟨11, _⟩ => ⟨S164, .i32⟩
  | .hbm, ⟨12, _⟩ => ⟨S164, .i32⟩
  | .hbm, ⟨13, _⟩ => ⟨S164, .i32⟩
  | .hbm, ⟨14, _⟩ => ⟨S164x1, .i32⟩
  | .hbm, ⟨15, _⟩ => ⟨S164x2048x4096, .f32⟩
  | .hbm, ⟨16, _⟩ => ⟨S164x256x4096, .f32⟩
  | .hbm, ⟨17, _⟩ => ⟨S_, .i32⟩
  | .hbm, ⟨18, _⟩ => ⟨S164, .i32⟩
  | .hbm, ⟨19, _⟩ => ⟨S164, .i1⟩
  | .hbm, ⟨20, _⟩ => ⟨S_, .i32⟩
  | .hbm, ⟨21, _⟩ => ⟨S164, .i32⟩
  | .hbm, ⟨22, _⟩ => ⟨S164, .i32⟩
  | .hbm, ⟨23, _⟩ => ⟨S164, .i32⟩
  | .hbm, ⟨24, _⟩ => ⟨S164x1, .i32⟩
  | .hbm, ⟨25, _⟩ => ⟨S164x4096, .f32⟩
  | .hbm, ⟨26, _⟩ => ⟨S164x1x4096, .f32⟩
  | .hbm, ⟨27, _⟩ => ⟨S164x256x4096, .f32⟩
  | .hbm, ⟨28, _⟩ => ⟨S164x256x4096, .f32⟩
  | .hbm, ⟨29, _⟩ => ⟨S164x256x2048, .f32⟩
  | .hbm, ⟨30, _⟩ => ⟨S_, .f32⟩
  | .hbm, ⟨31, _⟩ => ⟨S164x256x2048, .f32⟩
  | .hbm, ⟨32, _⟩ => ⟨S164x256x2048, .f32⟩
  | .hbm, ⟨33, _⟩ => ⟨S164x256x2048, .f32⟩
  | .hbm, ⟨34, _⟩ => ⟨S_, .f32⟩
  | .hbm, ⟨35, _⟩ => ⟨S164x256x2048, .f32⟩
  | .hbm, ⟨36, _⟩ => ⟨S164x256x2048, .f32⟩
  | .hbm, ⟨37, _⟩ => ⟨S_, .f32⟩
  | .hbm, ⟨38, _⟩ => ⟨S164x256x2048, .f32⟩
  | .hbm, ⟨39, _⟩ => ⟨S164x256x2048, .f32⟩
  | .hbm, ⟨40, _⟩ => ⟨S_, .f32⟩
  | .hbm, ⟨41, _⟩ => ⟨S164x256x2048, .f32⟩
  | .hbm, ⟨42, _⟩ => ⟨S164x256x2048, .f32⟩
  | .hbm, ⟨43, _⟩ => ⟨S164x256x2048, .f32⟩
  | .hbm, ⟨44, _⟩ => ⟨S164x256x2048, .f32⟩
  | .hbm, ⟨45, _⟩ => ⟨S_, .f32⟩
  | .hbm, ⟨46, _⟩ => ⟨S164x256x2048, .f32⟩
  | .hbm, ⟨47, _⟩ => ⟨S164x256x2048, .f32⟩
  | .hbm, ⟨48, _⟩ => ⟨S_, .f32⟩
  | .hbm, ⟨49, _⟩ => ⟨S164x256x2048, .f32⟩
  | .hbm, ⟨50, _⟩ => ⟨S164x256x2048, .f32⟩
  | .hbm, ⟨51, _⟩ => ⟨S164x256x2048, .f32⟩
  | .hbm, ⟨52, _⟩ => ⟨S_, .f32⟩
  | .hbm, ⟨53, _⟩ => ⟨S164x256x2048, .f32⟩
  | .hbm, ⟨54, _⟩ => ⟨S164x256x2048, .f32⟩
  | .hbm, ⟨55, _⟩ => ⟨S164x256x2048, .f32⟩
  | .hbm, ⟨56, _⟩ => ⟨S164, .i32⟩
  | .hbm, ⟨57, _⟩ => ⟨S_, .i32⟩
  | .hbm, ⟨58, _⟩ => ⟨S164, .i32⟩
  | .hbm, ⟨59, _⟩ => ⟨S164, .i1⟩
  | .hbm, ⟨60, _⟩ => ⟨S164x1x1, .i1⟩
  | .hbm, ⟨61, _⟩ => ⟨S_, .f32⟩
  | .hbm, ⟨62, _⟩ => ⟨S_, .f32⟩
  | .hbm, ⟨63, _⟩ => ⟨S164x256x2048, .i1⟩
  | .hbm, ⟨64, _⟩ => ⟨S164x256x2048, .f32⟩
  | .hbm, ⟨65, _⟩ => ⟨S164x256x2048, .f32⟩
  | .hbm, ⟨66, _⟩ => ⟨S41984x2048, .f32⟩
  | .hbm, ⟨67, _⟩ => ⟨S41984x2048, .bf16⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Down.lean ====
abbrev S164 : Shape := ⟨1, ![164]⟩
abbrev S1 : Shape := ⟨1, ![1]⟩
abbrev S41984x2048 : Shape := ⟨2, ![41984, 2048]⟩
abbrev S32x2048x2048 : Shape := ⟨3, ![32, 2048, 2048]⟩
abbrev S32x2048 : Shape := ⟨2, ![32, 2048]⟩
abbrev S32x1x2048 : Shape := ⟨3, ![32, 1, 2048]⟩
abbrev S1x671744x128 : Shape := ⟨3, ![1, 671744, 128]⟩
abbrev S256x2048 : Shape := ⟨2, ![256, 2048]⟩
abbrev S1x2048x2048 : Shape := ⟨3, ![1, 2048, 2048]⟩
abbrev S1x1x2048 : Shape := ⟨3, ![1, 1, 2048]⟩
abbrev S1x4096x128 : Shape := ⟨3, ![1, 4096, 128]⟩
abbrev S2048x2048 : Shape := ⟨2, ![2048, 2048]⟩
abbrev S1x2048 : Shape := ⟨2, ![1, 2048]⟩
abbrev S256x128 : Shape := ⟨2, ![256, 128]⟩
abbrev S1x256x128 : Shape := ⟨3, ![1, 256, 128]⟩
abbrev S4096x128 : Shape := ⟨2, ![4096, 128]⟩

abbrev nBuf : Space → Nat
  | .hbm => 5
  | .vmem => 9
  | .smem => 2
  | _ => 0

abbrev bufTy : (tb : Table) → Fin (tcTables nBuf tb) → BufTy
  | .hbm, ⟨0, _⟩ => ⟨S41984x2048, .bf16⟩
  | .hbm, ⟨1, _⟩ => ⟨S32x2048x2048, .f32⟩
  | .hbm, ⟨2, _⟩ => ⟨S32x2048, .f32⟩
  | .hbm, ⟨3, _⟩ => ⟨S32x1x2048, .f32⟩
  | .hbm, ⟨4, _⟩ => ⟨S1x671744x128, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .f32⟩
  | .local _ .vmem, ⟨3, _⟩ => ⟨S1x2048x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x4096x128, .f32⟩
  | .local _ .vmem, ⟨7, _⟩ => ⟨S1x4096x128, .f32⟩
  | .local _ .vmem, ⟨8, _⟩ => ⟨S2048x2048, .bf16⟩
  | .local _ .smem, ⟨0, _⟩ => ⟨S164, .i32⟩
  | .local _ .smem, ⟨1, _⟩ => ⟨S1, .i32⟩
  | _, _ => ⟨S41984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 164], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S164) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S164) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S164 : Shape := ⟨1, ![164]⟩
abbrev S1 : Shape := ⟨1, ![1]⟩
abbrev S41984x2048 : Shape := ⟨2, ![41984, 2048]⟩
abbrev S32x2048x2048 : Shape := ⟨3, ![32, 2048, 2048]⟩
abbrev S32x2048 : Shape := ⟨2, ![32, 2048]⟩
abbrev S164x256x2048 : Shape := ⟨3, ![164, 256, 2048]⟩
abbrev S_ : Shape := ⟨0, ![]⟩
abbrev S164x1 : Shape := ⟨2, ![164, 1]⟩
abbrev S164x2048x2048 : Shape := ⟨3, ![164, 2048, 2048]⟩
abbrev S164x2048 : Shape := ⟨2, ![164, 2048]⟩
abbrev S164x1x2048 : Shape := ⟨3, ![164, 1, 2048]⟩
abbrev S164x1x1 : Shape := ⟨3, ![164, 1, 1]⟩
abbrev S1x671744x128 : Shape := ⟨3, ![1, 671744, 128]⟩

abbrev nBuf : Space → Nat
  | .hbm => 40
  | .vmem => 0
  | .smem => 0
  | _ => 0

abbrev bufTy : (tb : Table) → Fin (tcTables nBuf tb) → BufTy
  | .hbm, ⟨0, _⟩ => ⟨S164, .i32⟩
  | .hbm, ⟨1, _⟩ => ⟨S1, .i32⟩
  | .hbm, ⟨2, _⟩ => ⟨S41984x2048, .bf16⟩
  | .hbm, ⟨3, _⟩ => ⟨S32x2048x2048, .f32⟩
  | .hbm, ⟨4, _⟩ => ⟨S32x2048, .f32⟩
  | .hbm, ⟨5, _⟩ => ⟨S41984x2048, .f32⟩
  | .hbm, ⟨6, _⟩ => ⟨S164x256x2048, .f32⟩
  | .hbm, ⟨7, _⟩ => ⟨S_, .i32⟩
  | .hbm, ⟨8, _⟩ => ⟨S164, .i32⟩
  | .hbm, ⟨9, _⟩ => ⟨S164, .i1⟩
  | .hbm, ⟨10, _⟩ => ⟨S_, .i32⟩
  | .hbm, ⟨11, _⟩ => ⟨S164, .i32⟩
  | .hbm, ⟨12, _⟩ => ⟨S164, .i32⟩
  | .hbm, ⟨13, _⟩ => ⟨S164, .i32⟩
  | .hbm, ⟨14, _⟩ => ⟨S164x1, .i32⟩
  | .hbm, ⟨15, _⟩ => ⟨S164x2048x2048, .f32⟩
  | .hbm, ⟨16, _⟩ => ⟨S164x256x2048, .f32⟩
  | .hbm, ⟨17, _⟩ => ⟨S_, .i32⟩
  | .hbm, ⟨18, _⟩ => ⟨S164, .i32⟩
  | .hbm, ⟨19, _⟩ => ⟨S164, .i1⟩
  | .hbm, ⟨20, _⟩ => ⟨S_, .i32⟩
  | .hbm, ⟨21, _⟩ => ⟨S164, .i32⟩
  | .hbm, ⟨22, _⟩ => ⟨S164, .i32⟩
  | .hbm, ⟨23, _⟩ => ⟨S164, .i32⟩
  | .hbm, ⟨24, _⟩ => ⟨S164x1, .i32⟩
  | .hbm, ⟨25, _⟩ => ⟨S164x2048, .f32⟩
  | .hbm, ⟨26, _⟩ => ⟨S164x1x2048, .f32⟩
  | .hbm, ⟨27, _⟩ => ⟨S164x256x2048, .f32⟩
  | .hbm, ⟨28, _⟩ => ⟨S164x256x2048, .f32⟩
  | .hbm, ⟨29, _⟩ => ⟨S164, .i32⟩
  | .hbm, ⟨30, _⟩ => ⟨S_, .i32⟩
  | .hbm, ⟨31, _⟩ => ⟨S164, .i32⟩
  | .hbm, ⟨32, _⟩ => ⟨S164, .i1⟩
  | .hbm, ⟨33, _⟩ => ⟨S164x1x1, .i1⟩
  | .hbm, ⟨34, _⟩ => ⟨S_, .f32⟩
  | .hbm, ⟨35, _⟩ => ⟨S_, .f32⟩
  | .hbm, ⟨36, _⟩ => ⟨S164x256x2048, .i1⟩
  | .hbm, ⟨37, _⟩ => ⟨S164x256x2048, .f32⟩
  | .hbm, ⟨38, _⟩ => ⟨S164x256x2048, .f32⟩
  | .hbm, ⟨39, _⟩ => ⟨S1x671744x128, .f32⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Mix.lean ====
abbrev S2x4096x2048 : Shape := ⟨3, ![2, 4096, 2048]⟩
abbrev S32x8x2048 : Shape := ⟨3, ![32, 8, 2048]⟩
abbrev S1x2048 : Shape := ⟨2, ![1, 2048]⟩
abbrev S1x2048x9216 : Shape := ⟨3, ![1, 2048, 9216]⟩
abbrev S1x1024 : Shape := ⟨2, ![1, 1024]⟩
abbrev S8192x2048 : Shape := ⟨2, ![8192, 2048]⟩
abbrev S256x2048 : Shape := ⟨2, ![256, 2048]⟩
abbrev S8448x2048 : Shape := ⟨2, ![8448, 2048]⟩
abbrev S2048x9216 : Shape := ⟨2, ![2048, 9216]⟩
abbrev S2048 : Shape := ⟨1, ![2048]⟩
abbrev S768x2048 : Shape := ⟨2, ![768, 2048]⟩
abbrev S768 : Shape := ⟨1, ![768]⟩
abbrev S768x1 : Shape := ⟨2, ![768, 1]⟩
abbrev S8448x1024 : Shape := ⟨2, ![8448, 1024]⟩
abbrev S2048x1024 : Shape := ⟨2, ![2048, 1024]⟩
abbrev S768x1024 : Shape := ⟨2, ![768, 1024]⟩
abbrev S1024 : Shape := ⟨1, ![1024]⟩
abbrev S8448x4096 : Shape := ⟨2, ![8448, 4096]⟩

abbrev nBuf : Space → Nat
  | .hbm => 23
  | .vmem => 30
  | .smem => 0
  | _ => 0

abbrev bufTy : (tb : Table) → Fin (tcTables nBuf tb) → BufTy
  | .hbm, ⟨0, _⟩ => ⟨S2x4096x2048, .f32⟩
  | .hbm, ⟨1, _⟩ => ⟨S32x8x2048, .f32⟩
  | .hbm, ⟨2, _⟩ => ⟨S1x2048, .f32⟩
  | .hbm, ⟨3, _⟩ => ⟨S1x2048x9216, .f32⟩
  | .hbm, ⟨4, _⟩ => ⟨S1x1024, .f32⟩
  | .hbm, ⟨5, _⟩ => ⟨S1x1024, .f32⟩
  | .hbm, ⟨6, _⟩ => ⟨S8192x2048, .f32⟩
  | .hbm, ⟨7, _⟩ => ⟨S256x2048, .f32⟩
  | .hbm, ⟨8, _⟩ => ⟨S8448x2048, .f32⟩
  | .hbm, ⟨9, _⟩ => ⟨S2048x9216, .f32⟩
  | .hbm, ⟨10, _⟩ => ⟨S2048x9216, .bf16⟩
  | .hbm, ⟨11, _⟩ => ⟨S2048, .f32⟩
  | .hbm, ⟨12, _⟩ => ⟨S1x2048, .f32⟩
  | .hbm, ⟨13, _⟩ => ⟨S8448x2048, .bf16⟩
  | .hbm, ⟨14, _⟩ => ⟨S8448x1024, .f32⟩
  | .hbm, ⟨15, _⟩ => ⟨S8448x1024, .bf16⟩
  | .hbm, ⟨16, _⟩ => ⟨S8448x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8448x1024, .f32⟩
  | .hbm, ⟨22, _⟩ => ⟨S8448x4096, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S768x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .bf16⟩
  | .local _ .vmem, ⟨7, _⟩ => ⟨S2048x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .bf16⟩
  | .local _ .vmem, ⟨11, _⟩ => ⟨S768x1024, .bf16⟩
  | .local _ .vmem, ⟨12, _⟩ => ⟨S768x2048, .bf16⟩
  | .local _ .vmem, ⟨13, _⟩ => ⟨S768x2048, .bf16⟩
  | .local _ .vmem, ⟨14, _⟩ => ⟨S2048x1024, .bf16⟩
  | .local _ .vmem, ⟨15, _⟩ => ⟨S768x1024, .bf16⟩
  | .local _ .vmem, ⟨16, _⟩ => ⟨S768x1024, .bf16⟩
  | .local _ .vmem, ⟨17, _⟩ => ⟨S768x2048, .bf16⟩
  | .local _ .vmem, ⟨18, _⟩ => ⟨S768x2048, .bf16⟩
  | .local _ .vmem, ⟨19, _⟩ => ⟨S2048x1024, .bf16⟩
  | .local _ .vmem, ⟨20, _⟩ => ⟨S1x1024, .f32⟩
  | .local _ .vmem, ⟨21, _⟩ => ⟨S1x1024, .f32⟩
  | .local _ .vmem, ⟨22, _⟩ => ⟨S768x1024, .f32⟩
  | .local _ .vmem, ⟨23, _⟩ => ⟨S768x1024, .f32⟩
  | .local _ .vmem, ⟨24, _⟩ => ⟨S768x2048, .bf16⟩
  | .local _ .vmem, ⟨25, _⟩ => ⟨S768x2048, .bf16⟩
  | .local _ .vmem, ⟨26, _⟩ => ⟨S2048x1024, .bf16⟩
  | .local _ .vmem, ⟨27, _⟩ => ⟨S2048x1024, .bf16⟩
  | .local _ .vmem, ⟨28, _⟩ => ⟨S768x1024, .bf16⟩
  | .local _ .vmem, ⟨29, _⟩ => ⟨S768x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S768x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S768x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S768x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S768x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

abbrev stage3_4 : Fin 2 → Memref sig .tc .vmem S768x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![4, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S768x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S768x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== MixReferenceIdeal.lean ====
abbrev S2x4096x2048 : Shape := ⟨3, ![2, 4096, 2048]⟩
abbrev S32x8x2048 : Shape := ⟨3, ![32, 8, 2048]⟩
abbrev S1x2048 : Shape := ⟨2, ![1, 2048]⟩
abbrev S1x2048x9216 : Shape := ⟨3, ![1, 2048, 9216]⟩
abbrev S1x1024 : Shape := ⟨2, ![1, 1024]⟩
abbrev S8192x2048 : Shape := ⟨2, ![8192, 2048]⟩
abbrev S256x2048 : Shape := ⟨2, ![256, 2048]⟩
abbrev S8448x2048 : Shape := ⟨2, ![8448, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S2048x9216 : Shape := ⟨2, ![2048, 9216]⟩
abbrev S8448x9216 : Shape := ⟨2, ![8448, 9216]⟩
abbrev S8448x1024 : Shape := ⟨2, ![8448, 1024]⟩
abbrev S8448x4096 : Shape := ⟨2, ![8448, 4096]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x8x2048, .f32⟩
  | .hbm, ⟨2, _⟩ => ⟨S1x2048, .f32⟩
  | .hbm, ⟨3, _⟩ => ⟨S1x2048x9216, .f32⟩
  | .hbm, ⟨4, _⟩ => ⟨S1x1024, .f32⟩
  | .hbm, ⟨5, _⟩ => ⟨S1x1024, .f32⟩
  | .hbm, ⟨6, _⟩ => ⟨S8192x2048, .f32⟩
  | .hbm, ⟨7, _⟩ => ⟨S256x2048, .f32⟩
  | .hbm, ⟨8, _⟩ => ⟨S8448x2048, .f32⟩
  | .hbm, ⟨9, _⟩ => ⟨S2048, .f32⟩
  | .hbm, ⟨10, _⟩ => ⟨S8448x2048, .f32⟩
  | .hbm, ⟨11, _⟩ => ⟨S_, .f32⟩
  | .hbm, ⟨12, _⟩ => ⟨S8448, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1, .f32⟩
  | .hbm, ⟨21, _⟩ => ⟨S8448x2048, .f32⟩
  | .hbm, ⟨22, _⟩ => ⟨S8448x2048, .f32⟩
  | .hbm, ⟨23, _⟩ => ⟨S1x2048, .f32⟩
  | .hbm, ⟨24, _⟩ => ⟨S8448x2048, .f32⟩
  | .hbm, ⟨25, _⟩ => ⟨S8448x2048, .f32⟩
  | .hbm, ⟨26, _⟩ => ⟨S2048x9216, .f32⟩
  | .hbm, ⟨27, _⟩ => ⟨S8448x9216, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x4096, .f32⟩
  | .hbm, ⟨32, _⟩ => ⟨S8448x1024, .f32⟩
  | .hbm, ⟨33, _⟩ => ⟨S8448x1024, .f32⟩
  | .hbm, ⟨34, _⟩ => ⟨S_, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S_, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S_, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S_, .f32⟩
  | .hbm, ⟨56, _⟩ => ⟨S8448x1024, .f32⟩
  | .hbm, ⟨57, _⟩ => ⟨S8448x1024, .f32⟩
  | .hbm, ⟨58, _⟩ => ⟨S8448x1024, .f32⟩
  | .hbm, ⟨59, _⟩ => ⟨S_, .f32⟩
  | .hbm, ⟨60, _⟩ => ⟨S8448x1024, .f32⟩
  | .hbm, ⟨61, _⟩ => ⟨S8448x1024, .f32⟩
  | .hbm, ⟨62, _⟩ => ⟨S_, .f32⟩
  | .hbm, ⟨63, _⟩ => ⟨S8448x1024, .f32⟩
  | .hbm, ⟨64, _⟩ => ⟨S8448x1024, .f32⟩
  | .hbm, ⟨65, _⟩ => ⟨S8448x1024, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S8448, .f32⟩
  | .hbm, ⟨70, _⟩ => ⟨S8448x1, .f32⟩
  | .hbm, ⟨71, _⟩ => ⟨S_, .f32⟩
  | .hbm, ⟨72, _⟩ => ⟨S8448x1, .f32⟩
  | .hbm, ⟨73, _⟩ => ⟨S8448x1, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S_, .f32⟩
  | .hbm, ⟨78, _⟩ => ⟨S8448, .f32⟩
  | .hbm, ⟨79, _⟩ => ⟨S8448x1, .f32⟩
  | .hbm, ⟨80, _⟩ => ⟨S_, .f32⟩
  | .hbm, ⟨81, _⟩ => ⟨S8448x1, .f32⟩
  | .hbm, ⟨82, _⟩ => ⟨S8448x1, .f32⟩
  | .hbm, ⟨83, _⟩ => ⟨S_, .f32⟩
  | .hbm, ⟨84, _⟩ => ⟨S8448x1, .f32⟩
  | .hbm, ⟨85, _⟩ => ⟨S8448x1, .f32⟩
  | .hbm, ⟨86, _⟩ => ⟨S8448x1, .f32⟩
  | .hbm, ⟨87, _⟩ => ⟨S8448x1024, .f32⟩
  | .hbm, ⟨88, _⟩ => ⟨S8448x1024, .f32⟩
  | .hbm, ⟨89, _⟩ => ⟨S1x1024, .f32⟩
  | .hbm, ⟨90, _⟩ => ⟨S8448x1024, .f32⟩
  | .hbm, ⟨91, _⟩ => ⟨S8448x1024, .f32⟩
  | .hbm, ⟨92, _⟩ => ⟨S1x1024, .f32⟩
  | .hbm, ⟨93, _⟩ => ⟨S8448x1024, .f32⟩
  | .hbm, ⟨94, _⟩ => ⟨S8448x1024, .f32⟩
  | .hbm, ⟨95, _⟩ => ⟨S8448x4096, .f32⟩
  | .hbm, ⟨96, _⟩ => ⟨S8448x4096, .f32⟩
  | .hbm, ⟨97, _⟩ => ⟨S_, .f32⟩
  | .hbm, ⟨98, _⟩ => ⟨S8448x4096, .f32⟩
  | .hbm, ⟨99, _⟩ => ⟨S8448x4096, .f32⟩
  | .hbm, ⟨100, _⟩ => ⟨S_, .f32⟩
  | .hbm, ⟨101, _⟩ => ⟨S8448x4096, .f32⟩
  | .hbm, ⟨102, _⟩ => ⟨S8448x4096, .f32⟩
  | .hbm, ⟨103, _⟩ => ⟨S8448x1024, .bf16⟩
  | .hbm, ⟨104, _⟩ => ⟨S8448x1024, .bf16⟩
  | .hbm, ⟨105, _⟩ => ⟨S8448x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== Qk.lean ====
abbrev S2x4096x2048 : Shape := ⟨3, ![2, 4096, 2048]⟩
abbrev S32x8x2048 : Shape := ⟨3, ![32, 8, 2048]⟩
abbrev S1x2048 : Shape := ⟨2, ![1, 2048]⟩
abbrev S1x2048x9216 : Shape := ⟨3, ![1, 2048, 9216]⟩
abbrev S1x64 : Shape := ⟨2, ![1, 64]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S8448 : Shape := ⟨1, ![8448]⟩
abbrev S32 : Shape := ⟨1, ![32]⟩
abbrev S8448x1 : Shape := ⟨2, ![8448, 1]⟩
abbrev S1x32 : Shape := ⟨2, ![1, 32]⟩
abbrev S8448x32 : Shape := ⟨2, ![8448, 32]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S8192x2048 : Shape := ⟨2, ![8192, 2048]⟩
abbrev S256x2048 : Shape := ⟨2, ![256, 2048]⟩
abbrev S8448x2048 : Shape := ⟨2, ![8448, 2048]⟩
abbrev S2048x9216 : Shape := ⟨2, ![2048, 9216]⟩
abbrev S2048 : Shape := ⟨1, ![2048]⟩
abbrev S768x2048 : Shape := ⟨2, ![768, 2048]⟩
abbrev S768 : Shape := ⟨1, ![768]⟩
abbrev S768x1 : Shape := ⟨2, ![768, 1]⟩
abbrev S64 : Shape := ⟨1, ![64]⟩
abbrev S16x64 : Shape := ⟨2, ![16, 64]⟩
abbrev S1024 : Shape := ⟨1, ![1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2048x1024 : Shape := ⟨2, ![2048, 1024]⟩
abbrev S1x1024 : Shape := ⟨2, ![1, 1024]⟩
abbrev S768x128 : Shape := ⟨2, ![768, 128]⟩
abbrev S768x1024 : Shape := ⟨2, ![768, 1024]⟩

abbrev nBuf : Space → Nat
  | .hbm => 115
  | .vmem => 22
  | .smem => 0
  | _ => 0

abbrev bufTy : (tb : Table) → Fin (tcTables nBuf tb) → BufTy
  | .hbm, ⟨0, _⟩ => ⟨S2x4096x2048, .f32⟩
  | .hbm, ⟨1, _⟩ => ⟨S32x8x2048, .f32⟩
  | .hbm, ⟨2, _⟩ => ⟨S1x2048, .f32⟩
  | .hbm, ⟨3, _⟩ => ⟨S1x2048x9216, .f32⟩
  | .hbm, ⟨4, _⟩ => ⟨S1x64, .f32⟩
  | .hbm, ⟨5, _⟩ => ⟨S1x64, .f32⟩
  | .hbm, ⟨6, _⟩ => ⟨S4096, .i32⟩
  | .hbm, ⟨7, _⟩ => ⟨S1x4096, .i32⟩
  | .hbm, ⟨8, _⟩ => ⟨S2x4096, .i32⟩
  | .hbm, ⟨9, _⟩ => ⟨S8192, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S1x8, .i32⟩
  | .hbm, ⟨15, _⟩ => ⟨S32x8, .i32⟩
  | .hbm, ⟨16, _⟩ => ⟨S256, .i32⟩
  | .hbm, ⟨17, _⟩ => ⟨S8448, .i32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8448, .f32⟩
  | .hbm, ⟨30, _⟩ => ⟨S8448x1, .f32⟩
  | .hbm, ⟨31, _⟩ => ⟨S1x32, .f32⟩
  | .hbm, ⟨32, _⟩ => ⟨S8448x32, .f32⟩
  | .hbm, ⟨33, _⟩ => ⟨S8448x32, .f32⟩
  | .hbm, ⟨34, _⟩ => ⟨S8448x32, .f32⟩
  | .hbm, ⟨35, _⟩ => ⟨S8448x32, .f32⟩
  | .hbm, ⟨36, _⟩ => ⟨S8448x32, .f32⟩
  | .hbm, ⟨37, _⟩ => ⟨S8448x64, .f32⟩
  | .hbm, ⟨38, _⟩ => ⟨S1x8448x1x64, .f32⟩
  | .hbm, ⟨39, _⟩ => ⟨S1x8448x2x64, .f32⟩
  | .hbm, ⟨40, _⟩ => ⟨S8448x128, .f32⟩
  | .hbm, ⟨41, _⟩ => ⟨S8448x32, .f32⟩
  | .hbm, ⟨42, _⟩ => ⟨S8448x64, .f32⟩
  | .hbm, ⟨43, _⟩ => ⟨S1x8448x1x64, .f32⟩
  | .hbm, ⟨44, _⟩ => ⟨S1x8448x2x64, .f32⟩
  | .hbm, ⟨45, _⟩ => ⟨S8448x128, .f32⟩
  | .hbm, ⟨46, _⟩ => ⟨S8192x2048, .f32⟩
  | .hbm, ⟨47, _⟩ => ⟨S256x2048, .f32⟩
  | .hbm, ⟨48, _⟩ => ⟨S8448x2048, .f32⟩
  | .hbm, ⟨49, _⟩ => ⟨S2048x9216, .f32⟩
  | .hbm, ⟨50, _⟩ => ⟨S2048x9216, .bf16⟩
  | .hbm, ⟨51, _⟩ => ⟨S2048, .f32⟩
  | .hbm, ⟨52, _⟩ => ⟨S1x2048, .f32⟩
  | .hbm, ⟨53, _⟩ => ⟨S8448x2048, .bf16⟩
  | .hbm, ⟨54, _⟩ => ⟨S64, .f32⟩
  | .hbm, ⟨55, _⟩ => ⟨S1x64, .f32⟩
  | .hbm, ⟨56, _⟩ => ⟨S16x64, .f32⟩
  | .hbm, ⟨57, _⟩ => ⟨S1024, .f32⟩
  | .hbm, ⟨58, _⟩ => ⟨S64, .f32⟩
  | .hbm, ⟨59, _⟩ => ⟨S1x64, .f32⟩
  | .hbm, ⟨60, _⟩ => ⟨S16x64, .f32⟩
  | .hbm, ⟨61, _⟩ => ⟨S1024, .f32⟩
  | .hbm, ⟨62, _⟩ => ⟨S2048, .f32⟩
  | .hbm, ⟨63, _⟩ => ⟨S1x2048, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S2048, .f32⟩
  | .hbm, ⟨69, _⟩ => ⟨S1x2048, .f32⟩
  | .hbm, ⟨70, _⟩ => ⟨S128, .i32⟩
  | .hbm, ⟨71, _⟩ => ⟨S128x1, .i32⟩
  | .hbm, ⟨72, _⟩ => ⟨S_, .i32⟩
  | .hbm, ⟨73, _⟩ => ⟨S_, .i32⟩
  | .hbm, ⟨74, _⟩ => ⟨S128x1, .i32⟩
  | .hbm, ⟨75, _⟩ => ⟨S128x1, .i32⟩
  | .hbm, ⟨76, _⟩ => ⟨S128x1, .i32⟩
  | .hbm, ⟨77, _⟩ => ⟨S_, .i32⟩
  | .hbm, ⟨78, _⟩ => ⟨S128x1, .i32⟩
  | .hbm, ⟨79, _⟩ => ⟨S128x1, .i1⟩
  | .hbm, ⟨80, _⟩ => ⟨S128x1, .i32⟩
  | .hbm, ⟨81, _⟩ => ⟨S128x1, .i32⟩
  | .hbm, ⟨82, _⟩ => ⟨S_, .i32⟩
  | .hbm, ⟨83, _⟩ => ⟨S128x1, .i32⟩
  | .hbm, ⟨84, _⟩ => ⟨S128x1, .i1⟩
  | .hbm, ⟨85, _⟩ => ⟨S128x1, .i1⟩
  | .hbm, ⟨86, _⟩ => ⟨S_, .i32⟩
  | .hbm, ⟨87, _⟩ => ⟨S128x1, .i32⟩
  | .hbm, ⟨88, _⟩ => ⟨S128x1, .i32⟩
  | .hbm, ⟨89, _⟩ => ⟨S128x1, .i32⟩
  | .hbm, ⟨90, _⟩ => ⟨S1x128, .i32⟩
  | .hbm, ⟨91, _⟩ => ⟨S_, .i32⟩
  | .hbm, ⟨92, _⟩ => ⟨S_, .i32⟩
  | .hbm, ⟨93, _⟩ => ⟨S1x128, .i32⟩
  | .hbm, ⟨94, _⟩ => ⟨S1x128, .i32⟩
  | .hbm, ⟨95, _⟩ => ⟨S1x128, .i32⟩
  | .hbm, ⟨96, _⟩ => ⟨S_, .i32⟩
  | .hbm, ⟨97, _⟩ => ⟨S1x128, .i32⟩
  | .hbm, ⟨98, _⟩ => ⟨S1x128, .i1⟩
  | .hbm, ⟨99, _⟩ => ⟨S1x128, .i32⟩
  | .hbm, ⟨100, _⟩ => ⟨S1x128, .i32⟩
  | .hbm, ⟨101, _⟩ => ⟨S_, .i32⟩
  | .hbm, ⟨102, _⟩ => ⟨S1x128, .i32⟩
  | .hbm, ⟨103, _⟩ => ⟨S1x128, .i1⟩
  | .hbm, ⟨104, _⟩ => ⟨S1x128, .i1⟩
  | .hbm, ⟨105, _⟩ => ⟨S_, .i32⟩
  | .hbm, ⟨106, _⟩ => ⟨S1x128, .i32⟩
  | .hbm, ⟨107, _⟩ => ⟨S1x128, .i32⟩
  | .hbm, ⟨108, _⟩ => ⟨S1x128, .i32⟩
  | .hbm, ⟨109, _⟩ => ⟨S128x128, .i32⟩
  | .hbm, ⟨110, _⟩ => ⟨S128x128, .i32⟩
  | .hbm, ⟨111, _⟩ => ⟨S128x128, .i1⟩
  | .hbm, ⟨112, _⟩ => ⟨S128x128, .bf16⟩
  | .hbm, ⟨113, _⟩ => ⟨S8448x2048, .f32⟩
  | .hbm, ⟨114, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S768x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S768x128, .f32⟩
  | .local _ .vmem, ⟨14, _⟩ => ⟨S768x128, .f32⟩
  | .local _ .vmem, ⟨15, _⟩ => ⟨S768x128, .f32⟩
  | .local _ .vmem, ⟨16, _⟩ => ⟨S768x128, .f32⟩
  | .local _ .vmem, ⟨17, _⟩ => ⟨S128x128, .bf16⟩
  | .local _ .vmem, ⟨18, _⟩ => ⟨S768x1024, .f32⟩
  | .local _ .vmem, ⟨19, _⟩ => ⟨S768x1024, .f32⟩
  | .local _ .vmem, ⟨20, _⟩ => ⟨S768x1024, .bf16⟩
  | .local _ .vmem, ⟨21, _⟩ => ⟨S768x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_2 : Ref sig .tc := ⟨.hbm, 64, rfl⟩
abbrev main_v54 : Ref sig .tc := ⟨.hbm, 65, rfl⟩
abbrev main_cst_3 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_c_4 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_c : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_0 : Ref sig .tc := ⟨.hbm, 86, rfl⟩
abbrev main_call0_v12 : Ref sig .tc := ⟨.hbm, 87, rfl⟩
abbrev main_call0_v13 : Ref sig .tc := ⟨.hbm, 88, rfl⟩
abbrev main_v60 : Ref sig .tc := ⟨.hbm, 89, rfl⟩
abbrev main_v61 : Ref sig .tc := ⟨.hbm, 90, rfl⟩
abbrev main_c_5 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_c : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_0 : Ref sig .tc := ⟨.hbm, 105, rfl⟩
abbrev main_call1_v12 : Ref sig .tc := ⟨.hbm, 106, rfl⟩
abbrev main_call1_v13 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67_0 : Ref sig .tc := ⟨.hbm, 113, rfl⟩
abbrev main_v67_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S768x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S768x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S768x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S768x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== QkReferenceIdeal.lean ====
abbrev S2x4096x2048 : Shape := ⟨3, ![2, 4096, 2048]⟩
abbrev S32x8x2048 : Shape := ⟨3, ![32, 8, 2048]⟩
abbrev S1x2048 : Shape := ⟨2, ![1, 2048]⟩
abbrev S1x2048x9216 : Shape := ⟨3, ![1, 2048, 9216]⟩
abbrev S1x64 : Shape := ⟨2, ![1, 64]⟩
abbrev S8192x2048 : Shape := ⟨2, ![8192, 2048]⟩
abbrev S256x2048 : Shape := ⟨2, ![256, 2048]⟩
abbrev S8448x2048 : Shape := ⟨2, ![8448, 2048]⟩
abbrev S4096 : Shape := ⟨1, ![4096]⟩
abbrev S256 : Shape := ⟨1, ![256]⟩
abbrev S_ : Shape := ⟨0, ![]⟩
abbrev S8448 : Shape := ⟨1, ![8448]⟩
abbrev S2048 : Shape := ⟨1, ![2048]⟩
abbrev S8448x1 : Shape := ⟨2, ![8448, 1]⟩
abbrev S2048x9216 : Shape := ⟨2, ![2048, 9216]⟩
abbrev S8448x9216 : Shape := ⟨2, ![8448, 9216]⟩
abbrev S8448x1024 : Shape := ⟨2, ![8448, 1024]⟩
abbrev S8448x16x64 : Shape := ⟨3, ![8448, 16, 64]⟩
abbrev S64 : Shape := ⟨1, ![64]⟩
abbrev S8448x16 : Shape := ⟨2, ![8448, 16]⟩
abbrev S8448x16x1 : Shape := ⟨3, ![8448, 16, 1]⟩
abbrev S1x1x64 : Shape := ⟨3, ![1, 1, 64]⟩
abbrev S32 : Shape := ⟨1, ![32]⟩
abbrev S1x32 : Shape := ⟨2, ![1, 32]⟩
abbrev S8448x32 : Shape := ⟨2, ![8448, 32]⟩
abbrev S8448x1x32 : Shape := ⟨3, ![8448, 1, 32]⟩
abbrev S8448x16x32 : Shape := ⟨3, ![8448, 16, 32]⟩

abbrev nBuf : Space → Nat
  | .hbm => 152
  | .vmem => 0
  | .smem => 0
  | _ => 0

abbrev hbmTy0_0 (i : Nat) : BufTy := match i % 128 with
  | 0 => ⟨S2x4096x2048, .f32⟩
  | 1 => ⟨S32x8x2048, .f32⟩
  | 2 => ⟨S1x2048, .f32⟩
  | 3 => ⟨S1x2048x9216, .f32⟩
  | 4 => ⟨S1x64, .f32⟩
  | 5 => ⟨S1x64, .f32⟩
  | 6 => ⟨S8192x2048, .f32⟩
  | 7 => ⟨S256x2048, .f32⟩
  | 8 => ⟨S8448x2048, .f32⟩
  | 9 => ⟨S4096, .i32⟩
  | 10 => ⟨S4096, .i32⟩
  | 11 => ⟨S256, .i32⟩
  | 12 => ⟨S_, .i32⟩
  | 13 => ⟨S256, .i32⟩
  | 14 => ⟨S256, .i32⟩
  | 15 => ⟨S_, .i32⟩
  | 16 => ⟨S256, .i32⟩
  | 17 => ⟨S256, .i32⟩
  | 18 => ⟨S8448, .i32⟩
  | 19 => ⟨S2048, .f32⟩
  | 20 => ⟨S8448x2048, .f32⟩
  | 21 => ⟨S_, .f32⟩
  | 22 => ⟨S8448, .f32⟩
  | 23 => ⟨S8448x1, .f32⟩
  | 24 => ⟨S_, .f32⟩
  | 25 => ⟨S8448x1, .f32⟩
  | 26 => ⟨S8448x1, .f32⟩
  | 27 => ⟨S_, .f32⟩
  | 28 => ⟨S8448x1, .f32⟩
  | 29 => ⟨S8448x1, .f32⟩
  | 30 => ⟨S8448x1, .f32⟩
  | 31 => ⟨S8448x2048, .f32⟩
  | 32 => ⟨S8448x2048, .f32⟩
  | 33 => ⟨S1x2048, .f32⟩
  | 34 => ⟨S8448x2048, .f32⟩
  | 35 => ⟨S8448x2048, .f32⟩
  | 36 => ⟨S2048x9216, .f32⟩
  | 37 => ⟨S8448x9216, .f32⟩
  | 38 => ⟨S8448x1024, .f32⟩
  | 39 => ⟨S8448x1024, .f32⟩
  | 40 => ⟨S8448x16x64, .f32⟩
  | 41 => ⟨S64, .f32⟩
  | 42 => ⟨S8448x16x64, .f32⟩
  | 43 => ⟨S_, .f32⟩
  | 44 => ⟨S8448x16, .f32⟩
  | 45 => ⟨S8448x16x1, .f32⟩
  | 46 => ⟨S_, .f32⟩
  | 47 => ⟨S8448x16x1, .f32⟩
  | 48 => ⟨S8448x16x1, .f32⟩
  | 49 => ⟨S_, .f32⟩
  | 50 => ⟨S8448x16x1, .f32⟩
  | 51 => ⟨S8448x16x1, .f32⟩
  | 52 => ⟨S8448x16x1, .f32⟩
  | 53 => ⟨S8448x16x64, .f32⟩
  | 54 => ⟨S8448x16x64, .f32⟩
  | 55 => ⟨S1x1x64, .f32⟩
  | 56 => ⟨S8448x16x64, .f32⟩
  | 57 => ⟨S8448x16x64, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S8448, .f32⟩
  | 70 => ⟨S8448x1, .f32⟩
  | 71 => ⟨S1x32, .f32⟩
  | 72 => ⟨S8448x32, .f32⟩
  | 73 => ⟨S8448x32, .f32⟩
  | 74 => ⟨S8448x32, .f32⟩
  | 75 => ⟨S8448x32, .f32⟩
  | 76 => ⟨S8448x1x32, .f32⟩
  | 77 => ⟨S8448x32, .f32⟩
  | 78 => ⟨S8448x1x32, .f32⟩
  | 79 => ⟨S8448x16x32, .f32⟩
  | 80 => ⟨S8448x16x32, .f32⟩
  | 81 => ⟨S8448x16x32, .f32⟩
  | 82 => ⟨S8448x16x32, .f32⟩
  | 83 => ⟨S8448x16x32, .f32⟩
  | 84 => ⟨S8448x16x32, .f32⟩
  | 85 => ⟨S8448x16x32, .f32⟩
  | 86 => ⟨S8448x16x32, .f32⟩
  | 87 => ⟨S8448x16x32, .f32⟩
  | 88 => ⟨S8448x16x32, .f32⟩
  | 89 => ⟨S8448x16x32, .f32⟩
  | 90 => ⟨S8448x16x32, .f32⟩
  | 91 => ⟨S8448x16x64, .f32⟩
  | 92 => ⟨S8448x1024, .f32⟩
  | 93 => ⟨S8448x16x64, .f32⟩
  | 94 => ⟨S64, .f32⟩
  | 95 => ⟨S8448x16x64, .f32⟩
  | 96 => ⟨S_, .f32⟩
  | 97 => ⟨S8448x16, .f32⟩
  | 98 => ⟨S8448x16x1, .f32⟩
  | 99 => ⟨S_, .f32⟩
  | 100 => ⟨S8448x16x1, .f32⟩
  | 101 => ⟨S8448x16x1, .f32⟩
  | 102 => ⟨S_, .f32⟩
  | 103 => ⟨S8448x16x1, .f32⟩
  | 104 => ⟨S8448x16x1, .f32⟩
  | 105 => ⟨S8448x16x1, .f32⟩
  | 106 => ⟨S8448x16x64, .f32⟩
  | 107 => ⟨S8448x16x64, .f32⟩
  | 108 => ⟨S1x1x64, .f32⟩
  | 109 => ⟨S8448x16x64, .f32⟩
  | 110 => ⟨S8448x16x64, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S8448, .f32⟩
  | 123 => ⟨S8448x1, .f32⟩
  | 124 => ⟨S1x32, .f32⟩
  | 125 => ⟨S8448x32, .f32⟩
  | 126 => ⟨S8448x32, .f32⟩
  | 127 => ⟨S8448x32, .f32⟩
  | _ => ⟨S2x4096x2048, .f32⟩

abbrev hbmTy0_1 (i : Nat) : BufTy := match i % 128 with
  | 0 => ⟨S8448x32, .f32⟩
  | 1 => ⟨S8448x1x32, .f32⟩
  | 2 => ⟨S8448x32, .f32⟩
  | 3 => ⟨S8448x1x32, .f32⟩
  | 4 => ⟨S8448x16x32, .f32⟩
  | 5 => ⟨S8448x16x32, .f32⟩
  | 6 => ⟨S8448x16x32, .f32⟩
  | 7 => ⟨S8448x16x32, .f32⟩
  | 8 => ⟨S8448x16x32, .f32⟩
  | 9 => ⟨S8448x16x32, .f32⟩
  | 10 => ⟨S8448x16x32, .f32⟩
  | 11 => ⟨S8448x16x32, .f32⟩
  | 12 => ⟨S8448x16x32, .f32⟩
  | 13 => ⟨S8448x16x32, .f32⟩
  | 14 => ⟨S8448x16x32, .f32⟩
  | 15 => ⟨S8448x16x32, .f32⟩
  | 16 => ⟨S8448x16x64, .f32⟩
  | 17 => ⟨S8448x1024, .f32⟩
  | 18 => ⟨S_, .f32⟩
  | 19 => ⟨S8448x1024, .f32⟩
  | 20 => ⟨S8448x1024, .f32⟩
  | 21 => ⟨S8448x2048, .f32⟩
  | 22 => ⟨S8448x2048, .f32⟩
  | 23 => ⟨S8448x2048, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_12 : Ref sig .tc := ⟨.hbm, 113, rfl⟩
abbrev main_v93 : Ref sig .tc := ⟨.hbm, 114, rfl⟩
abbrev main_v94 : Ref sig .tc := ⟨.hbm, 115, rfl⟩
abbrev main_cst_13 : Ref sig .tc := ⟨.hbm, 116, rfl⟩
abbrev main_v95 : Ref sig .tc := ⟨.hbm, 117, rfl⟩
abbrev main_v96 : Ref sig .tc := ⟨.hbm, 118, rfl⟩
abbrev main_cst_14 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_15 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩

abbrev nD : Nat := 1
abbrev τ : Topo := Topo.v7x

variable {F : FTy → Type} [FloatOps F]
-- ==== Gmlp.lean ====
abbrev S8448x1024 : Shape := ⟨2, ![8448, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S8x128x128 : Shape := ⟨3, ![8, 128, 128]⟩
abbrev S1x128x128 : Shape := ⟨3, ![1, 128, 128]⟩
abbrev S16x16 : Shape := ⟨2, ![16, 16]⟩
abbrev S1x16x1x16x1 : Shape := ⟨5, ![1, 16, 1, 16, 1]⟩
abbrev S8x8x8 : Shape := ⟨3, ![8, 8, 8]⟩
abbrev S8x1x8x1x8 : Shape := ⟨5, ![8, 1, 8, 1, 8]⟩
abbrev S8x16x8x16x8 : Shape := ⟨5, ![8, 16, 8, 16, 8]⟩
abbrev S2x8x128x128 : Shape := ⟨4, ![2, 8, 128, 128]⟩
abbrev S8x128 : Shape := ⟨2, ![8, 128]⟩
abbrev S8x8 : Shape := ⟨2, ![8, 8]⟩
abbrev S1x8x1x8 : Shape := ⟨4, ![1, 8, 1, 8]⟩
abbrev S1x8x16x8 : Shape := ⟨4, ![1, 8, 16, 8]⟩
abbrev S2x8x128 : Shape := ⟨3, ![2, 8, 128]⟩
abbrev S2x8x128x1 : Shape := ⟨4, ![2, 8, 128, 1]⟩
abbrev S128x1024 : Shape := ⟨2, ![128, 1024]⟩
abbrev S1x1x128x128 : Shape := ⟨4, ![1, 1, 128, 128]⟩

abbrev nBuf : Space → Nat
  | .hbm => 49
  | .vmem => 10
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S1x8x128x128, .f32⟩
  | .hbm, ⟨3, _⟩ => ⟨S1x8x128, .f32⟩
  | .hbm, ⟨4, _⟩ => ⟨S_, .f32⟩
  | .hbm, ⟨5, _⟩ => ⟨S128x128, .f32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S8x128x128, .f32⟩
  | .hbm, ⟨16, _⟩ => ⟨S1x128x128, .f32⟩
  | .hbm, ⟨17, _⟩ => ⟨S8x128x128, .f32⟩
  | .hbm, ⟨18, _⟩ => ⟨S8x128x128, .f32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S16x16, .i1⟩
  | .hbm, ⟨25, _⟩ => ⟨S16x16, .f32⟩
  | .hbm, ⟨26, _⟩ => ⟨S1x16x1x16x1, .f32⟩
  | .hbm, ⟨27, _⟩ => ⟨S8x8x8, .f32⟩
  | .hbm, ⟨28, _⟩ => ⟨S8x1x8x1x8, .f32⟩
  | .hbm, ⟨29, _⟩ => ⟨S8x16x8x16x8, .f32⟩
  | .hbm, ⟨30, _⟩ => ⟨S8x16x8x16x8, .f32⟩
  | .hbm, ⟨31, _⟩ => ⟨S8x16x8x16x8, .f32⟩
  | .hbm, ⟨32, _⟩ => ⟨S8x128x128, .f32⟩
  | .hbm, ⟨33, _⟩ => ⟨S1x8x128x128, .f32⟩
  | .hbm, ⟨34, _⟩ => ⟨S1x8x128x128, .f32⟩
  | .hbm, ⟨35, _⟩ => ⟨S2x8x128x128, .f32⟩
  | .hbm, ⟨36, _⟩ => ⟨S2x8x128x128, .bf16⟩
  | .hbm, ⟨37, _⟩ => ⟨S8x128, .f32⟩
  | .hbm, ⟨38, _⟩ => ⟨S8x128, .f32⟩
  | .hbm, ⟨39, _⟩ => ⟨S8x8, .f32⟩
  | .hbm, ⟨40, _⟩ => ⟨S1x8x1x8, .f32⟩
  | .hbm, ⟨41, _⟩ => ⟨S1x8x16x8, .f32⟩
  | .hbm, ⟨42, _⟩ => ⟨S8x128, .f32⟩
  | .hbm, ⟨43, _⟩ => ⟨S1x8x128, .f32⟩
  | .hbm, ⟨44, _⟩ => ⟨S1x8x128, .f32⟩
  | .hbm, ⟨45, _⟩ => ⟨S2x8x128, .f32⟩
  | .hbm, ⟨46, _⟩ => ⟨S2x8x128x1, .f32⟩
  | .hbm, ⟨47, _⟩ => ⟨S2x8x128x128, .f32⟩
  | .hbm, ⟨48, _⟩ => ⟨S8448x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S1x8x128x128, .bf16⟩
  | .local _ .vmem, ⟨5, _⟩ => ⟨S1x8x128x128, .bf16⟩
  | .local _ .vmem, ⟨6, _⟩ => ⟨S1x8x128x128, .f32⟩
  | .local _ .vmem, ⟨7, _⟩ => ⟨S1x8x128x128, .f32⟩
  | .local _ .vmem, ⟨8, _⟩ => ⟨S128x1024, .bf16⟩
  | .local _ .vmem, ⟨9, _⟩ => ⟨S128x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 4 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GmlpReferenceIdeal.lean ====
abbrev S8448x1024 : Shape := ⟨2, ![8448, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S_ : Shape := ⟨0, ![]⟩
abbrev S128x128 : Shape := ⟨2, ![128, 128]⟩
abbrev S1x128x128 : Shape := ⟨3, ![1, 128, 128]⟩
abbrev S8192x1024 : Shape := ⟨2, ![8192, 1024]⟩
abbrev S64x128x8x128 : Shape := ⟨4, ![64, 128, 8, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩
abbrev S256x1024 : Shape := ⟨2, ![256, 1024]⟩
abbrev S32x8x8x128 : Shape := ⟨4, ![32, 8, 8, 128]⟩
abbrev S8x8x8 : Shape := ⟨3, ![8, 8, 8]⟩
abbrev S8x32x128x8 : Shape := ⟨4, ![8, 32, 128, 8]⟩
abbrev S8x8 : Shape := ⟨2, ![8, 8]⟩
abbrev S1x8x8x1 : Shape := ⟨4, ![1, 8, 8, 1]⟩

abbrev nBuf : Space → Nat
  | .hbm => 45
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S1x8x128x128, .f32⟩
  | .hbm, ⟨3, _⟩ => ⟨S1x8x128, .f32⟩
  | .hbm, ⟨4, _⟩ => ⟨S8x128x128, .f32⟩
  | .hbm, ⟨5, _⟩ => ⟨S_, .f32⟩
  | .hbm, ⟨6, _⟩ => ⟨S128x128, .f32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S1x128x128, .f32⟩
  | .hbm, ⟨17, _⟩ => ⟨S8x128x128, .f32⟩
  | .hbm, ⟨18, _⟩ => ⟨S8x128x128, .f32⟩
  | .hbm, ⟨19, _⟩ => ⟨S8192x1024, .f32⟩
  | .hbm, ⟨20, _⟩ => ⟨S64x128x8x128, .f32⟩
  | .hbm, ⟨21, _⟩ => ⟨S8x64x128x128, .f32⟩
  | .hbm, ⟨22, _⟩ => ⟨S64x128x8x128, .f32⟩
  | .hbm, ⟨23, _⟩ => ⟨S8x128, .f32⟩
  | .hbm, ⟨24, _⟩ => ⟨S128x8, .f32⟩
  | .hbm, ⟨25, _⟩ => ⟨S1x128x8x1, .f32⟩
  | .hbm, ⟨26, _⟩ => ⟨S64x128x8x128, .f32⟩
  | .hbm, ⟨27, _⟩ => ⟨S64x128x8x128, .f32⟩
  | .hbm, ⟨28, _⟩ => ⟨S256x1024, .f32⟩
  | .hbm, ⟨29, _⟩ => ⟨S32x8x8x128, .f32⟩
  | .hbm, ⟨30, _⟩ => ⟨S8x8x8, .f32⟩
  | .hbm, ⟨31, _⟩ => ⟨S8x32x128x8, .f32⟩
  | .hbm, ⟨32, _⟩ => ⟨S32x8x8x128, .f32⟩
  | .hbm, ⟨33, _⟩ => ⟨S8x128, .f32⟩
  | .hbm, ⟨34, _⟩ => ⟨S8x8, .f32⟩
  | .hbm, ⟨35, _⟩ => ⟨S8x8, .f32⟩
  | .hbm, ⟨36, _⟩ => ⟨S1x8x8x1, .f32⟩
  | .hbm, ⟨37, _⟩ => ⟨S32x8x8x128, .f32⟩
  | .hbm, ⟨38, _⟩ => ⟨S32x8x8x128, .f32⟩
  | .hbm, ⟨39, _⟩ => ⟨S8192x1024, .f32⟩
  | .hbm, ⟨40, _⟩ => ⟨S256x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Out.lean ====
abbrev S8448x1024 : Shape := ⟨2, ![8448, 1024]⟩
abbrev S8448x4096 : Shape := ⟨2, ![8448, 4096]⟩
abbrev S2x4096x2048 : Shape := ⟨3, ![2, 4096, 2048]⟩
abbrev S32x8x2048 : Shape := ⟨3, ![32, 8, 2048]⟩
abbrev S1x1024x2048 : Shape := ⟨3, ![1, 1024, 2048]⟩
abbrev S1x2048x2048 : Shape := ⟨3, ![1, 2048, 2048]⟩
abbrev S8192x2048 : Shape := ⟨2, ![8192, 2048]⟩
abbrev S256x2048 : Shape := ⟨2, ![256, 2048]⟩
abbrev S8448x2048 : Shape := ⟨2, ![8448, 2048]⟩
abbrev S1024x2048 : Shape := ⟨2, ![1024, 2048]⟩
abbrev S768x1024 : Shape := ⟨2, ![768, 1024]⟩
abbrev S1024x1024 : Shape := ⟨2, ![1024, 1024]⟩
abbrev S2048x2048 : Shape := ⟨2, ![2048, 2048]⟩
abbrev S768x2048 : Shape := ⟨2, ![768, 2048]⟩
abbrev S2048x1024 : Shape := ⟨2, ![2048, 1024]⟩

abbrev nBuf : Space → Nat
  | .hbm => 19
  | .vmem => 22
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x4096, .bf16⟩
  | .hbm, ⟨3, _⟩ => ⟨S2x4096x2048, .f32⟩
  | .hbm, ⟨4, _⟩ => ⟨S32x8x2048, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S8192x2048, .f32⟩
  | .hbm, ⟨9, _⟩ => ⟨S256x2048, .f32⟩
  | .hbm, ⟨10, _⟩ => ⟨S8448x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S8448x2048, .bf16⟩
  | .hbm, ⟨16, _⟩ => ⟨S2048x2048, .f32⟩
  | .hbm, ⟨17, _⟩ => ⟨S2048x2048, .bf16⟩
  | .hbm, ⟨18, _⟩ => ⟨S8448x2048, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S768x1024, .bf16⟩
  | .local _ .vmem, ⟨14, _⟩ => ⟨S768x2048, .bf16⟩
  | .local _ .vmem, ⟨15, _⟩ => ⟨S768x2048, .bf16⟩
  | .local _ .vmem, ⟨16, _⟩ => ⟨S2048x1024, .bf16⟩
  | .local _ .vmem, ⟨17, _⟩ => ⟨S2048x1024, .bf16⟩
  | .local _ .vmem, ⟨18, _⟩ => ⟨S768x1024, .f32⟩
  | .local _ .vmem, ⟨19, _⟩ => ⟨S768x1024, .f32⟩
  | .local _ .vmem, ⟨20, _⟩ => ⟨S768x1024, .f32⟩
  | .local _ .vmem, ⟨21, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S768x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== OutReferenceIdeal.lean ====
abbrev S8448x1024 : Shape := ⟨2, ![8448, 1024]⟩
abbrev S8448x4096 : Shape := ⟨2, ![8448, 4096]⟩
abbrev S2x4096x2048 : Shape := ⟨3, ![2, 4096, 2048]⟩
abbrev S32x8x2048 : Shape := ⟨3, ![32, 8, 2048]⟩
abbrev S1x1024x2048 : Shape := ⟨3, ![1, 1024, 2048]⟩
abbrev S1x2048x2048 : Shape := ⟨3, ![1, 2048, 2048]⟩
abbrev S8192x2048 : Shape := ⟨2, ![8192, 2048]⟩
abbrev S256x2048 : Shape := ⟨2, ![256, 2048]⟩
abbrev S8448x2048 : Shape := ⟨2, ![8448, 2048]⟩
abbrev S1024x2048 : Shape := ⟨2, ![1024, 2048]⟩
abbrev S2048x2048 : Shape := ⟨2, ![2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x4096, .bf16⟩
  | .hbm, ⟨3, _⟩ => ⟨S2x4096x2048, .f32⟩
  | .hbm, ⟨4, _⟩ => ⟨S32x8x2048, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S8192x2048, .f32⟩
  | .hbm, ⟨9, _⟩ => ⟨S256x2048, .f32⟩
  | .hbm, ⟨10, _⟩ => ⟨S8448x2048, .f32⟩
  | .hbm, ⟨11, _⟩ => ⟨S8448x2048, .bf16⟩
  | .hbm, ⟨12, _⟩ => ⟨S8448x2048, .f32⟩
  | .hbm, ⟨13, _⟩ => ⟨S8448x2048, .bf16⟩
  | .hbm, ⟨14, _⟩ => ⟨S8448x2048, .f32⟩
  | .hbm, ⟨15, _⟩ => ⟨S8448x1024, .f32⟩
  | .hbm, ⟨16, _⟩ => ⟨S1024x2048, .f32⟩
  | .hbm, ⟨17, _⟩ => ⟨S8448x2048, .f32⟩
  | .hbm, ⟨18, _⟩ => ⟨S8448x1024, .f32⟩
  | .hbm, ⟨19, _⟩ => ⟨S1024x2048, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S8448x2048, .f32⟩
  | .hbm, ⟨24, _⟩ => ⟨S2048x2048, .f32⟩
  | .hbm, ⟨25, _⟩ => ⟨S8448x2048, .f32⟩
  | .hbm, ⟨26, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Ple.lean ====
abbrev S8448x2048 : Shape := ⟨2, ![8448, 2048]⟩
abbrev S1x2x4096x256 : Shape := ⟨4, ![1, 2, 4096, 256]⟩
abbrev S1x32x8x256 : Shape := ⟨4, ![1, 32, 8, 256]⟩
abbrev S1x2048x2048 : Shape := ⟨3, ![1, 2048, 2048]⟩
abbrev S1x256x2048 : Shape := ⟨3, ![1, 256, 2048]⟩
abbrev S2x4096x256 : Shape := ⟨3, ![2, 4096, 256]⟩
abbrev S8192x256 : Shape := ⟨2, ![8192, 256]⟩
abbrev S32x8x256 : Shape := ⟨3, ![32, 8, 256]⟩
abbrev S256x256 : Shape := ⟨2, ![256, 256]⟩
abbrev S8448x256 : Shape := ⟨2, ![8448, 256]⟩
abbrev S2048x2048 : Shape := ⟨2, ![2048, 2048]⟩
abbrev S256x2048 : Shape := ⟨2, ![256, 2048]⟩
abbrev S768x2048 : Shape := ⟨2, ![768, 2048]⟩
abbrev S2048x1024 : Shape := ⟨2, ![2048, 1024]⟩
abbrev S768x1024 : Shape := ⟨2, ![768, 1024]⟩
abbrev S768x256 : Shape := ⟨2, ![768, 256]⟩
abbrev S256x1024 : Shape := ⟨2, ![256, 1024]⟩

abbrev nBuf : Space → Nat
  | .hbm => 17
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S1x2x4096x256, .f32⟩
  | .hbm, ⟨3, _⟩ => ⟨S1x32x8x256, .f32⟩
  | .hbm, ⟨4, _⟩ => ⟨S1x2048x2048, .f32⟩
  | .hbm, ⟨5, _⟩ => ⟨S1x256x2048, .f32⟩
  | .hbm, ⟨6, _⟩ => ⟨S2x4096x256, .f32⟩
  | .hbm, ⟨7, _⟩ => ⟨S8192x256, .f32⟩
  | .hbm, ⟨8, _⟩ => ⟨S32x8x256, .f32⟩
  | .hbm, ⟨9, _⟩ => ⟨S256x256, .f32⟩
  | .hbm, ⟨10, _⟩ => ⟨S8448x256, .f32⟩
  | .hbm, ⟨11, _⟩ => ⟨S8448x256, .bf16⟩
  | .hbm, ⟨12, _⟩ => ⟨S2048x2048, .f32⟩
  | .hbm, ⟨13, _⟩ => ⟨S2048x2048, .bf16⟩
  | .hbm, ⟨14, _⟩ => ⟨S256x2048, .f32⟩
  | .hbm, ⟨15, _⟩ => ⟨S256x2048, .bf16⟩
  | .hbm, ⟨16, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x256, .bf16⟩
  | .local _ .vmem, ⟨7, _⟩ => ⟨S768x256, .bf16⟩
  | .local _ .vmem, ⟨8, _⟩ => ⟨S256x1024, .bf16⟩
  | .local _ .vmem, ⟨9, _⟩ => ⟨S256x1024, .bf16⟩
  | .local _ .vmem, ⟨10, _⟩ => ⟨S768x1024, .f32⟩
  | .local _ .vmem, ⟨11, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleReferenceIdeal.lean ====
abbrev S8448x2048 : Shape := ⟨2, ![8448, 2048]⟩
abbrev S1x2x4096x256 : Shape := ⟨4, ![1, 2, 4096, 256]⟩
abbrev S1x32x8x256 : Shape := ⟨4, ![1, 32, 8, 256]⟩
abbrev S1x2048x2048 : Shape := ⟨3, ![1, 2048, 2048]⟩
abbrev S1x256x2048 : Shape := ⟨3, ![1, 256, 2048]⟩
abbrev S2x4096x256 : Shape := ⟨3, ![2, 4096, 256]⟩
abbrev S8192x256 : Shape := ⟨2, ![8192, 256]⟩
abbrev S32x8x256 : Shape := ⟨3, ![32, 8, 256]⟩
abbrev S256x256 : Shape := ⟨2, ![256, 256]⟩
abbrev S8448x256 : Shape := ⟨2, ![8448, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S1x2x4096x256, .f32⟩
  | .hbm, ⟨3, _⟩ => ⟨S1x32x8x256, .f32⟩
  | .hbm, ⟨4, _⟩ => ⟨S1x2048x2048, .f32⟩
  | .hbm, ⟨5, _⟩ => ⟨S1x256x2048, .f32⟩
  | .hbm, ⟨6, _⟩ => ⟨S2x4096x256, .f32⟩
  | .hbm, ⟨7, _⟩ => ⟨S8192x256, .f32⟩
  | .hbm, ⟨8, _⟩ => ⟨S32x8x256, .f32⟩
  | .hbm, ⟨9, _⟩ => ⟨S256x256, .f32⟩
  | .hbm, ⟨10, _⟩ => ⟨S8448x256, .f32⟩
  | .hbm, ⟨11, _⟩ => ⟨S8448x2048, .f32⟩
  | .hbm, ⟨12, _⟩ => ⟨S2048x2048, .f32⟩
  | .hbm, ⟨13, _⟩ => ⟨S8448x2048, .f32⟩
  | .hbm, ⟨14, _⟩ => ⟨S8448x2048, .f32⟩
  | .hbm, ⟨15, _⟩ => ⟨S8448x2048, .f32⟩
  | .hbm, ⟨16, _⟩ => ⟨S_, .f32⟩
  | .hbm, ⟨17, _⟩ => ⟨S8448x2048, .f32⟩
  | .hbm, ⟨18, _⟩ => ⟨S8448x2048, .f32⟩
  | .hbm, ⟨19, _⟩ => ⟨S_, .f32⟩
  | .hbm, ⟨20, _⟩ => ⟨S8448x2048, .f32⟩
  | .hbm, ⟨21, _⟩ => ⟨S8448x2048, .f32⟩
  | .hbm, ⟨22, _⟩ => ⟨S256x2048, .f32⟩
  | .hbm, ⟨23, _⟩ => ⟨S8448x2048, .f32⟩
  | .hbm, ⟨24, _⟩ => ⟨S8448x2048, .f32⟩
  | .hbm, ⟨25, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.UpPre.lean ====
module
public import proofs.«01_k».proof.Proof.Gen.Pre_up_tables
public import Idealize.ShloMosaic.Lib.ReduceAll
public import Idealize.ShloMosaic.Lib.Pointwise
public import Idealize.ShloMosaic.Lib.Pipeline.Value

@[expose] public section

set_option maxRecDepth 16384

/-! # The precondition, read

    Every tile's expert is one of the 32, and at least one tile is live. -/

noncomputable section

namespace Cert.Pre_up_tables

open Idealize.ShloMosaic Cert.Pre_up_tables.Gen

variable {F : FTy → Type} [FloatOps F]

theorem word_of_bits (v : BitVec 32) (h : IntOp.andi (IntOp.cmpi .sge v 0#32) (IntOp.cmpi .slt v 32#32) = 1#1) : v.toNat < 32 := by
  obtain ⟨h1, h2⟩ := IntOp.andi_eq_one.1 h
  have a : (0#32 : BitVec 32).sle v = true := by
    have : BitVec.ofBool ((0#32 : BitVec 32).sle v) = 1#1 := h1
    revert this; cases (0#32 : BitVec 32).sle v <;> decide
  have b : v.slt 32#32 = true := by
    have : BitVec.ofBool (v.slt 32#32) = 1#1 := h2
    revert this; cases v.slt 32#32 <;> decide
  have a' : (0 : Int) ≤ v.toInt := by simpa [BitVec.sle] using a
  have b' : v.toInt < 32 := by simpa [BitVec.slt] using b
  have := v.isLt
  rw [BitVec.toInt_eq_toNat_cond] at a' b'
  split at a' <;> omega

theorem pos_of_bit (v : BitVec 32) (h : IntOp.cmpi .sge v 1#32 = 1#1) : 0 < v.toInt := by
  have a : (1#32 : BitVec 32).sle v = true := by
    have : BitVec.ofBool ((1#32 : BitVec 32).sle v) = 1#1 := h
    revert this; cases (1#32 : BitVec 32).sle v <;> decide
  have a' : (1 : Int) ≤ v.toInt := by simpa [BitVec.sle] using a
  omega

theorem read {T0 : IVec S164 32} {T1 : IVec S1 32} {x : FVec F S41984x2048 .bf16} {w : FVec F S32x2048x4096 .f32} {b : FVec F S32x4096 .f32}
    (h : fn (F := F) T0 T1 x w b = fun _ => 1#1) : (∀ i, (T0 i).toNat < 32) ∧ ∀ j, 0 < (T1 j).toInt := by
  have h0 := congrFun h (fun a => a.elim0)
  obtain ⟨ha, hb⟩ := IntOp.andi_eq_one.1 h0
  haveI : Subsingleton S_.Idx := ⟨fun i j => funext fun a => a.elim0⟩
  constructor
  · intro i
    exact word_of_bits _ (Host.reduce_andi_all _ _ _ _ _ ha i)
  · intro j
    refine pos_of_bit _ ?_
    have e : shapeCast S_ T1 Facts.shapeCasts_S1_S_ (fun a => a.elim0) = T1 j := by
      refine (shapeCast_apply T1 _ _ j ?_)
      have a := (S1.rowMajor j).isLt
      have b := (S_.rowMajor (fun a => a.elim0)).isLt
      have ha : S1.numel = 1 := by decide
      have hb : S_.numel = 1 := by decide
      show (S1.rowMajor j).val = (S_.rowMajor _).val
      omega
    rw [← e]
    exact hb

end Cert.Pre_up_tables
end
-- ==== Proof.UpBody.lean ====
module
public import proofs.«01_k».proof.Proof.Gen.UpIdeal.Launch
public import proofs.«01_k».proof.Proof.Gen.UpIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.UpIdeal.Moe

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Whether the body rounds a new expert's weights into its scratch, from the words it read: the tile is live, and it is
    the first or its expert is not the one before. -/
def refresh (i : grid0.Coords) (v0 v5 v8 : BitVec 32) : BitVec 1 :=
  Scalar.cmpi .ne (Scalar.extui (Scalar.andi (Scalar.cmpi .slt (BitVec.ofNat 32 (i 1).val) v0)
    (Scalar.ori (Scalar.cmpi .eq (BitVec.ofNat 32 (i 1).val) 0#32) (Scalar.cmpi .ne v8 v5)))) 0#32

/-- The number of live tiles, as the body reads it. -/
def nvw (T1 : Vec F S1 .i32) : BitVec 32 := T1 ((Rect.unit (s := S1) ![0] S1.size inb_S1_S1_0).emb (Shape.Idx.first (show 0 < S1.numel by decide)))

/-- The tile's expert, as the body reads it. -/
def tew (i : grid0.Coords) (T0 : Vec F S164 .i32) : BitVec 32 := T0 ((Rect.unit (s := S164) (k0_off1 i) S1.size (k0_off1_inb i)).emb (Shape.Idx.first (show 0 < S1.numel by decide)))

/-- The expert of the tile before, as the body reads it. -/
def tpw (i : grid0.Coords) (T0 : Vec F S164 .i32) : BitVec 32 := T0 ((Rect.unit (s := S164) (k0_off2 i) S1.size (k0_off2_inb i)).emb (Shape.Idx.first (show 0 < S1.numel by decide)))

/-- What the gate half's scratch holds after the body. -/
def wgv (i : grid0.Coords) (T0 : Vec F S164 .i32) (T1 : Vec F S1 .i32) (x1 : Vec F S1x2048x1024 .f32) (s0 : Vec F S2048x1024 .bf16) : Vec F S2048x1024 .bf16 :=
  if refresh i (nvw T1) (tpw i T0) (tew i T0) = 1#1 then k0_pay1 x1 else s0

/-- What the linear half's scratch holds after the body. -/
def wlv (i : grid0.Coords) (T0 : Vec F S164 .i32) (T1 : Vec F S1 .i32) (x2 : Vec F S1x2048x1024 .f32) (s1 : Vec F S2048x1024 .bf16) : Vec F S2048x1024 .bf16 :=
  if refresh i (nvw T1) (tpw i T0) (tew i T0) = 1#1 then k0_pay2 x2 else s1

/-- What the body leaves in the output block: the expert's gated product in a live tile, zeros behind the live ones. -/
def outv (i : grid0.Coords) (T1 : Vec F S1 .i32) (x0 : Vec F S256x2048 .bf16) (wg : Vec F S2048x1024 .bf16) (x3 : Vec F S1x1x1024 .f32) (wl : Vec F S2048x1024 .bf16) (x4 : Vec F S1x1x1024 .f32) : Vec F S256x1024 .bf16 :=
  if k0_cond2 i (nvw T1) = 1#1 then k0_pay3 x0 wg x3 wl x4 else k0_pay4

/-- The second guard is the first one's negation. -/
theorem cond3_iff (i : grid0.Coords) (v : BitVec 32) : k0_cond3 i v = 1#1 ↔ ¬ k0_cond2 i v = 1#1 := by
  simp only [k0_cond3, k0_cond2]
  generalize Scalar.cmpi .slt (BitVec.ofNat 32 (i 1).val) v = b
  revert b
  decide

/-- A store of the whole block, read back. -/
theorem read_put {κ : Kind} {sp : Space} {s : Shape} {e : EltTy} (v : View sig κ sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := by
  funext y
  exact View.read_writes_cons_unit_of_mem v _ inb w [] y y rfl (fun a => by have := inb a; omega)

set_option maxHeartbeats 1000000 in
/-- One run of the body, at whatever the tables, blocks and scratches hold. -/
theorem run_body (c : Dev nD) (i : grid0.Coords) (arg2 : Memref sig .tc .smem S164 .i32) (harg2 : arg2.IsWhole) (arg3 : Memref sig .tc .smem S1 .i32) (harg3 : arg3.IsWhole) (arg4 : Memref sig .tc .vmem S256x2048 .bf16) (harg4 : arg4.IsWhole) (arg5 : Memref sig .tc .vmem S1x2048x1024 .f32) (harg5 : arg5.IsWhole) (arg6 : Memref sig .tc .vmem S1x2048x1024 .f32) (harg6 : arg6.IsWhole)
    (arg7 : Memref sig .tc .vmem S1x1x1024 .f32) (harg7 : arg7.IsWhole) (arg8 : Memref sig .tc .vmem S1x1x1024 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole)
    (q : PosShare TreeShare) (T0 : Vec F S164 .i32) (T1 : Vec F S1 .i32)
    (x0 : Vec F S256x2048 .bf16) (x1 x2 : Vec F S1x2048x1024 .f32) (x3 x4 : Vec F S1x1x1024 .f32) (s0 s1 : Vec F S2048x1024 .bf16)
    (E : Set ℕ) (K : PUnit → sProp 𝕄) :
    iprop(owns (c : Thread nD τ) arg2 q T0
        ∗ owns (c : Thread nD τ) arg3 q T1
        ∗ owns (c : Thread nD τ) arg4 fullShare x0
        ∗ owns (c : Thread nD τ) arg5 fullShare x1
        ∗ owns (c : Thread nD τ) arg6 fullShare x2
        ∗ owns (c : Thread nD τ) arg7 fullShare x3
        ∗ owns (c : Thread nD τ) arg8 fullShare x4
        ∗ (∃ d, owns (c : Thread nD τ) arg9 fullShare d)
        ∗ owns (c : Thread nD τ) arg10 fullShare s0
        ∗ owns (c : Thread nD τ) arg11 fullShare s1
        ∗ (iprop(owns (c : Thread nD τ) arg2 q T0
        ∗ owns (c : Thread nD τ) arg3 q T1
        ∗ owns (c : Thread nD τ) arg4 fullShare x0
        ∗ owns (c : Thread nD τ) arg5 fullShare x1
        ∗ owns (c : Thread nD τ) arg6 fullShare x2
        ∗ owns (c : Thread nD τ) arg7 fullShare x3
        ∗ owns (c : Thread nD τ) arg8 fullShare x4
        ∗ owns (c : Thread nD τ) arg9 fullShare (outv i T1 x0 (wgv i T0 T1 x1 s0) x3 (wlv i T0 T1 x2 s1) x4)
        ∗ owns (c : Thread nD τ) arg10 fullShare (wgv i T0 T1 x1 s0)
        ∗ owns (c : Thread nD τ) arg11 fullShare (wlv i T0 T1 x2 s1)) -∗ K ⟨⟩))
      ⊢ wp frame (wpE (defs₀ (F := F)) Variants.none c none) E (cc0__moe_up_kernel i arg2 harg2 arg3 harg3 arg4 harg4 arg5 harg5 arg6 harg6 arg7 harg7 arg8 harg8 arg9 harg9 arg10 harg10 arg11 harg11) K := by
  simp only [cc0__moe_up_kernel_eq_skeleton]; unfold cc0__moe_up_kernel_skel
  unfold owns
  iintro ⟨⟨%g0, %hg0, G0⟩, ⟨%g1, %hg1, G1⟩, ⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
  obtain rfl := harg2.eq_unread hg0; obtain rfl := harg3.eq_unread hg1
  obtain rfl := harg4.eq_unread hf0; obtain rfl := harg5.eq_unread hf1; obtain rfl := harg6.eq_unread hf2; obtain rfl := harg7.eq_unread hf3; obtain rfl := harg8.eq_unread hf4
  sl_exec
  sl_step
  have hr : run_body.sl.r c arg3 harg3 T1 = nvw T1 := by
    unfold run_body.sl.r nvw
    rw [View.readAt_apply, harg3.read_unread]; rfl
  have hv : run_body.sl.v13 c i arg2 harg2 arg3 harg3 T0 T1 = refresh i (nvw T1) (tpw i T0) (tew i T0) := by
    sl_unfold_words
    simp only [View.readAt_apply, harg3.read_unread, harg2.read_unread]; rfl
  have h20 : run_body.sl.v20 c i arg2 harg2 arg3 harg3 arg5 harg5 arg10 T0 T1 x1 fs0 = wgv i T0 T1 x1 s0 := by
    unfold run_body.sl.v20 wgv
    rw [View.readAt_full]
    simp only [hv]
    split
    · rw [read_put, View.readAt_full, harg5.read_unread]
    · exact hs0
  have h26 : run_body.sl.v26 c i arg2 harg2 arg3 harg3 arg6 harg6 arg11 T0 T1 x2 fs1 = wlv i T0 T1 x2 s1 := by
    unfold run_body.sl.v26 wlv
    rw [View.readAt_full]
    simp only [hv]
    split
    · rw [read_put, View.readAt_full, harg6.read_unread]
    · exact hs1
  iapply Hk
  isplitl [G0]
  · iexists _; isplitr; · ipureintro; exact harg2.read_unread _
    iexact G0
  isplitl [G1]
  · iexists _; isplitr; · ipureintro; exact harg3.read_unread _
    iexact G1
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    rw [h20, h26]
    simp only [hr, cond3_iff]
    unfold outv
    by_cases h2 : k0_cond2 i (nvw T1) = 1#1
    · rw [dif_neg (not_not.mpr h2), dif_pos h2, if_pos h2, read_put]
      exact congr (congr (congr (congr (congrArg k0_pay3 ((View.readAt_full _ _ _).trans (harg4.read_unread x0))) rfl) ((View.readAt_full _ _ _).trans (harg7.read_unread x3))) rfl) ((View.readAt_full _ _ _).trans (harg8.read_unread x4))
    · rw [dif_pos h2, if_neg h2, dif_neg h2, read_put]
  isplitl [HS0]
  · iexists _; isplitr; swap; · iexact HS0
    ipureintro
    unfold wgv
    simp only [hv]
    split
    · rw [read_put, View.readAt_full, harg5.read_unread]
    · exact hs0
  · iexists _; isplitr; swap; · iexact HS1
    ipureintro
    unfold wlv
    simp only [hv]
    split
    · rw [read_put, View.readAt_full, harg6.read_unread]
    · exact hs1

end Cert.UpIdeal.Moe
end
-- ==== Proof.Words.lean ====
module
public import Idealize.ShloMosaic.PureOps
public import Idealize.ShloMosaic.Lib.WordCmp

@[expose] public section

/-! # The tile number's words

    What the kernels compute of a tile number `t` and the number of live tiles `v`, as plain numbers. -/

namespace Cert.Words

open Idealize.ShloMosaic Idealize.ShloMosaic.WordCmp

/-- The number of live tiles read as a natural number, when it is positive. -/
theorem nat_of_pos {v : BitVec 32} (hv : 0 < v.toInt) : v.toInt = (v.toNat : Int) ∧ 0 < v.toNat ∧ v.toNat < 2147483648 := by
  have := v.isLt
  rw [BitVec.toInt_eq_toNat_cond] at hv ⊢
  by_cases h : 2 * v.toNat < 2 ^ 32
  · rw [if_pos h] at hv ⊢; omega
  · rw [if_neg h] at hv; omega

theorem toInt_small {t : ℕ} (ht : t < 164) : (BitVec.ofNat 32 t).toInt = (t : Int) :=
  toInt_ofNat_of_lt (w := 32) (by omega)

/-- The tile whose rows are fetched: `t` itself while live, the last live one behind. -/
theorem minsi_nat {t : ℕ} (ht : t < 164) {v : BitVec 32} (hv : 0 < v.toInt) :
    (Scalar.minsi (BitVec.ofNat 32 t) (Scalar.subi v 1#32)).toNat = min t (v.toNat - 1) := by
  obtain ⟨h1, h2, h3⟩ := nat_of_pos hv
  have hs : (v - 1#32).toNat = v.toNat - 1 := by
    rw [BitVec.toNat_sub]
    simp only [BitVec.toNat_ofNat]
    omega
  have hsi : (v - 1#32).toInt = ((v.toNat - 1 : ℕ) : Int) := by
    rw [BitVec.toInt_eq_toNat_cond, hs, if_pos (by omega)]
  have htn : (BitVec.ofNat 32 t).toNat = t := by
    rw [BitVec.toNat_ofNat]; omega
  show (if (BitVec.ofNat 32 t).slt (v - 1#32) then BitVec.ofNat 32 t else v - 1#32).toNat = _
  by_cases hc : (BitVec.ofNat 32 t).slt (v - 1#32) = true
  · rw [if_pos hc, htn]
    simp only [BitVec.slt, toInt_small ht, hsi, decide_eq_true_eq] at hc
    omega
  · rw [if_neg hc, hs]
    simp only [BitVec.slt, toInt_small ht, hsi, decide_eq_true_eq] at hc
    omega

/-- The guard of a live tile. -/
theorem live_iff {t : ℕ} (ht : t < 164) {v : BitVec 32} (hv : 0 < v.toInt) :
    Scalar.cmpi .ne (Scalar.extui (Scalar.cmpi .slt (BitVec.ofNat 32 t) v)) 0#32 = 1#1 ↔ t < v.toNat := by
  obtain ⟨h1, h2, h3⟩ := nat_of_pos hv
  have e : ∀ b : BitVec 1, Scalar.cmpi .ne (Scalar.extui b) 0#32 = 1#1 ↔ b = 1#1 := by decide
  rw [e, show Scalar.cmpi .slt (BitVec.ofNat 32 t) v = BitVec.ofBool (decide ((BitVec.ofNat 32 t).toInt < v.toInt)) from rfl,
    ofBool_decide_eq_one_iff, toInt_small ht, h1]
  omega

/-- The guard of a tile that rounds its expert's weights anew. -/
theorem refresh_iff {t : ℕ} (ht : t < 164) {v : BitVec 32} (hv : 0 < v.toInt) (a b : BitVec 32) :
    Scalar.cmpi .ne (Scalar.extui (Scalar.andi (Scalar.cmpi .slt (BitVec.ofNat 32 t) v)
      (Scalar.ori (Scalar.cmpi .eq (BitVec.ofNat 32 t) 0#32) (Scalar.cmpi .ne a b)))) 0#32 = 1#1 ↔ t < v.toNat ∧ (t = 0 ∨ a ≠ b) := by
  obtain ⟨h1, h2, h3⟩ := nat_of_pos hv
  have e : ∀ x y z : BitVec 1, Scalar.cmpi .ne (Scalar.extui (Scalar.andi x (Scalar.ori y z))) 0#32 = 1#1 ↔ x = 1#1 ∧ (y = 1#1 ∨ z = 1#1) := by decide
  have hne : Scalar.cmpi .ne a b = 1#1 ↔ a ≠ b := by
    rw [show Scalar.cmpi .ne a b = IntOp.cmpi .ne a b from rfl, cmpi_ne_eq, ofBool_decide_eq_one_iff]
  have heq : Scalar.cmpi .eq (BitVec.ofNat 32 t) 0#32 = 1#1 ↔ t = 0 := by
    rw [show Scalar.cmpi .eq (BitVec.ofNat 32 t) 0#32 = IntOp.cmpi .eq (BitVec.ofNat 32 t) 0#32 from rfl, cmpi_eq_eq_toNat, ofBool_decide_eq_one_iff,
      BitVec.toNat_ofNat, BitVec.toNat_ofNat]
    omega
  rw [e, hne, heq, show Scalar.cmpi .slt (BitVec.ofNat 32 t) v = BitVec.ofBool (decide ((BitVec.ofNat 32 t).toInt < v.toInt)) from rfl,
    ofBool_decide_eq_one_iff, toInt_small ht, h1]
  have : ((t : Int) < (v.toNat : Int)) ↔ t < v.toNat := by omega
  rw [this]

/-- The tile before, the first one's being itself. -/
theorem prev_nat {t : ℕ} (ht : t < 164) : (Scalar.maxsi (Scalar.subi (BitVec.ofNat 32 t) 1#32) 0#32).toNat = t - 1 := by
  have e : ∀ u : Fin 164, (Scalar.maxsi (Scalar.subi (BitVec.ofNat 32 u.val) 1#32) 0#32).toNat = u.val - 1 := by decide +kernel
  exact e ⟨t, ht⟩

end Cert.Words
-- ==== Proof.UpTables.lean ====
module
public import proofs.«01_k».proof.Proof.UpBody
public import proofs.«01_k».proof.Proof.Words
public import Idealize.ShloMosaic.Lib.ValueIdx

@[expose] public section

set_option maxRecDepth 16384

/-! # The routing tables

    What the tables must hold for the blocks the index maps choose to lie inside their arrays, the index maps in closed
    form, and the guards of the body as statements about tile numbers. -/

noncomputable section

namespace Cert.UpIdeal.Moe

open Cert.UpIdeal Cert.UpIdeal.Gen
open Idealize.ShloMosaic Idealize.ShloMosaic.TcCoe
open Idealize.SL Idealize.SL.Sem

variable {F : FTy → Type} [FloatOps F]

/-- Every tile's expert is one of the thirty-two, and some tile is live. -/
def Good (pf : pre0.Contents (Elt F)) : Prop :=
  (∀ x : S164.Idx, ((pf 0 : Vec F S164 .i32) x).toNat < 32) ∧ 0 < (nvw (F := F) (pf 1)).toInt

/-- The number of live tiles. -/
def nv (pf : pre0.Contents (Elt F)) : ℕ := (nvw (F := F) (pf 1)).toNat

/-- The expert of the point's tile. -/
def te (pf : pre0.Contents (Elt F)) (i : grid0.Coords) : ℕ := (tew (F := F) i (pf 0)).toNat

theorem te_lt {pf : pre0.Contents (Elt F)} (h : Good pf) (i : grid0.Coords) : te pf i < 32 := h.1 _

theorem nv_pos {pf : pre0.Contents (Elt F)} (h : Good pf) : 0 < nv pf := (Words.nat_of_pos h.2).2.1

theorem i1_lt (i : grid0.Coords) : (i 1).val < 164 := (i 1).isLt
theorem i0_lt (i : grid0.Coords) : (i 0).val < 2 := (i 0).isLt

/-- The rows fetched: the point's own tile, or the last live one. -/
theorem ix_0 {pf : pre0.Contents (Elt F)} (h : Good pf) (i : grid0.Coords) :
    cc0_transform_0 inb_S1_S1_0 numel1_S1 pf i = ![min (i 1).val (nv pf - 1), 0] := by
  show ![(Scalar.minsi (BitVec.ofNat 32 (i 1).val) (Scalar.subi (nvw (F := F) (pf 1)) 1#32)).toNat, (0#32).toNat] = _
  rw [Words.minsi_nat (i1_lt i) h.2]; rfl

/-- The number of a column chunk, as a word. -/
theorem c_nat (i : grid0.Coords) : (BitVec.ofNat 32 (i 0).val).toNat = (i 0).val := by
  have := i0_lt i
  rw [BitVec.toNat_ofNat]; omega
theorem c2_nat (i : grid0.Coords) : (Scalar.addi 2#32 (BitVec.ofNat 32 (i 0).val)).toNat = 2 + (i 0).val := by
  have := i0_lt i
  show (2#32 + BitVec.ofNat 32 (i 0).val).toNat = _
  rw [BitVec.toNat_add, BitVec.toNat_ofNat, BitVec.toNat_ofNat]; omega
theorem t_nat (i : grid0.Coords) : (BitVec.ofNat 32 (i 1).val).toNat = (i 1).val := by
  have := i1_lt i
  rw [BitVec.toNat_ofNat]; omega

theorem ix_1 (pf : pre0.Contents (Elt F)) (i : grid0.Coords) :
    cc0_transform_1 k0_off1_inb numel1_S1 pf i = ![te pf i, 0, (i 0).val] := by
  show ![te pf i, (0#32).toNat, (BitVec.ofNat 32 (i 0).val).toNat] = _
  rw [c_nat]; rfl
theorem ix_2 (pf : pre0.Contents (Elt F)) (i : grid0.Coords) :
    cc0_transform_2 k0_off1_inb numel1_S1 pf i = ![te pf i, 0, 2 + (i 0).val] := by
  show ![te pf i, (0#32).toNat, (Scalar.addi 2#32 (BitVec.ofNat 32 (i 0).val)).toNat] = _
  rw [c2_nat]; rfl
theorem ix_3 (pf : pre0.Contents (Elt F)) (i : grid0.Coords) :
    cc0_transform_3 k0_off1_inb numel1_S1 pf i = ![te pf i, 0, (i 0).val] := by
  show ![te pf i, (0#32).toNat, (BitVec.ofNat 32 (i 0).val).toNat] = _
  rw [c_nat]; rfl
theorem ix_4 (pf : pre0.Contents (Elt F)) (i : grid0.Coords) :
    cc0_transform_4 k0_off1_inb numel1_S1 pf i = ![te pf i, 0, 2 + (i 0).val] := by
  show ![te pf i, (0#32).toNat, (Scalar.addi 2#32 (BitVec.ofNat 32 (i 0).val)).toNat] = _
  rw [c2_nat]; rfl
theorem ix_5 (i : grid0.Coords) : cc0_transform_5 i = ![(i 1).val, (i 0).val] := by
  show ![(BitVec.ofNat 32 (i 1).val).toNat, (BitVec.ofNat 32 (i 0).val).toNat] = _
  rw [c_nat, t_nat]

/-- Tables that are good choose blocks inside the arrays. -/
theorem ok_of_good {pf : pre0.Contents (Elt F)} (h : Good pf) : ok0 pf := by
  have hn := nv_pos h
  refine ⟨fun i => ⟨?_, .inr (Affine.block_words_dvd (of_decide_eq_true rfl) (by decide))⟩, fun i => ⟨?_, .inl rfl⟩, fun i => ⟨?_, .inl rfl⟩,
    fun i => ⟨?_, .inl rfl⟩, fun i => ⟨?_, .inl rfl⟩⟩
  · rw [ix_0 h]
    have := i1_lt i
    intro a; fin_cases a <;> simp [S256x2048, S41984x2048] <;> omega
  all_goals first | rw [ix_1] | rw [ix_2] | rw [ix_3] | rw [ix_4]
  all_goals
    have h1 := te_lt h i
    have h2 := i0_lt i
    intro a; fin_cases a <;> simp [S1x2048x1024, S32x2048x4096, S1x1x1024, S32x1x4096] <;> omega

/-- The body's guards: a live tile, and a tile whose expert is new. -/
theorem cond2_iff {pf : pre0.Contents (Elt F)} (h : Good pf) (i : grid0.Coords) : k0_cond2 i (nvw (F := F) (pf 1)) = 1#1 ↔ (i 1).val < nv pf :=
  Words.live_iff (i1_lt i) h.2

theorem refresh_iff {pf : pre0.Contents (Elt F)} (h : Good pf) (i : grid0.Coords) :
    refresh i (nvw (F := F) (pf 1)) (tpw (F := F) i (pf 0)) (tew (F := F) i (pf 0)) = 1#1
      ↔ (i 1).val < nv pf ∧ ((i 1).val = 0 ∨ tew (F := F) i (pf 0) ≠ tpw (F := F) i (pf 0)) :=
  Words.refresh_iff (i1_lt i) h.2 _ _

/-- The word read of the tile before is the expert of the tile before. -/
theorem tpw_eq (T0 : Vec F S164 .i32) {i j : grid0.Coords} (h : (j 1).val + 1 = (i 1).val) : tpw i T0 = tew j T0 := by
  unfold tpw tew
  refine congrArg T0 (funext fun a => Fin.ext ?_)
  fin_cases a
  show k0_off2 i 0 + 1 * _ = k0_off1 j 0 + 1 * _
  have h1 : k0_off2 i 0 = (i 1).val - 1 := Words.prev_nat (i1_lt i)
  have h2 : k0_off1 j 0 = (j 1).val := t_nat j
  rw [h1, h2]
  omega

/-- The expert of a tile, by its number. -/
theorem tew_eq (T0 : Vec F S164 .i32) (i : grid0.Coords) : tew i T0 = T0 (ValueIdx.ix1 ⟨(i 1).val, i1_lt i⟩) := by
  unfold tew
  refine congrArg T0 (funext fun a => Fin.ext ?_)
  fin_cases a
  show k0_off1 i 0 + 1 * 0 = (i 1).val
  have h2 : k0_off1 i 0 = (i 1).val := t_nat i
  rw [h2]
  rfl

end Cert.UpIdeal.Moe
end
-- ==== Proof.UpData.lean ====
module
public import proofs.«01_k».proof.Proof.UpTables

@[expose] public section

set_option maxRecDepth 16384

/-! # The proof data of the pipeline

    The windows' blocks at the launched tables, the scratch contents a live point leaves behind, and the data the launch
    theorem takes. -/

noncomputable section

namespace Cert.UpIdeal.Moe

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The one core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem V_eq (b : Ref sig .tc) (h0 : b ≠ main_v0) (h1 : b ≠ main_v1) (c : Dev nD) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The tables as launched. -/
def pf0 : pre0.Contents (Elt F) := fun k => m ((0 : Dev nD).tc.loc (pre0.ref k))

/-- The tile-to-expert table, and the number of live tiles. -/
abbrev tab0 : Vec F S164 .i32 := pf0 m 0
abbrev tab1 : Vec F S1 .i32 := pf0 m 1

/-- The pipeline's one configuration is admitted. -/
def adm (h : Good (pf0 m)) (p : Fin 1) : (pcfgs (F := F) p).Adm := ⟨pf0 m, ok_of_good h⟩

variable {m} (h : Good (pf0 m))

/-- The configuration at the launched tables. -/
abbrev cfgA : Pipeline.Cfg sig Λ₀ := Pipeline.pin (pcfgs (F := F)) (adm m h) 0

/-- Window `w`'s block at point `t`, read off its array as the region finds it. -/
def iblk (c : Dev nD) (w : Fin (cfgA h).W) (t : Fin (cfgA h).N) : (((cfgA h).win w).xblock ((cfgA h).grid.coords t)).Idx → Elt F ((cfgA h).win w).elt :=
  (((cfgA h).win w).blk t).view.read (Elt F) (V m c (Pipeline.arrRef spec0 w))

/-- The point's coordinates: column chunk and tile. -/
abbrev pt (t : Fin (cfgA h).N) : grid0.Coords := grid0.coords t

theorem coords_val : ∀ t : Fin grid0.N, (grid0.coords t 0).val = t.val / 164 ∧ (grid0.coords t 1).val = t.val % 164 := by
  decide +kernel

/-- A live point. -/
def live (t : Fin (cfgA h).N) : Prop := (pt h t 1).val < nv (pf0 m)

instance (t : Fin (cfgA h).N) : Decidable (live h t) := Nat.decLt _ _

/-- The rounded gate half of the point's expert. -/
def wg (c : Dev nD) (t : Fin (cfgA h).N) : Vec F S2048x1024 .bf16 := k0_pay1 (iblk h c 1 t)
/-- The rounded linear half. -/
def wl (c : Dev nD) (t : Fin (cfgA h).N) : Vec F S2048x1024 .bf16 := k0_pay2 (iblk h c 2 t)

/-- What the body leaves in the output's buffer. -/
def outT (c : Dev nD) (t : Fin (cfgA h).N) : Vec F S256x1024 .bf16 :=
  if live h t then k0_pay3 (iblk h c 0 t) (wg h c t) (iblk h c 3 t) (wl h c t) (iblk h c 4 t) else k0_pay4

/-- What the scratches hold between points: behind a live point, that point's rounded weights. -/
def Inv (c : Dev nD) (k : ℕ) (s0 s1 : Vec F S2048x1024 .bf16) : Prop :=
  ∀ t : Fin (cfgA h).N, t.val + 1 = k → live h t → s0 = wg h c t ∧ s1 = wl h c t

/-- Two points whose tiles have one expert, in one column chunk, have the same weight blocks. -/
theorem iblk1_congr (c : Dev nD) {t t' : Fin (cfgA h).N} (he : te (pf0 m) (pt h t) = te (pf0 m) (pt h t')) (hc : (pt h t 0).val = (pt h t' 0).val) :
    iblk h c 1 t = iblk h c 1 t' := by
  have e : cc0_transform_1 k0_off1_inb numel1_S1 (pf0 m) (pt h t) = cc0_transform_1 k0_off1_inb numel1_S1 (pf0 m) (pt h t') := by
    rw [ix_1, ix_1, he, hc]
  funext x
  refine congrArg (V m c main_arg3) (funext fun a => Fin.ext ?_)
  show cc0_transform_1 k0_off1_inb numel1_S1 (pf0 m) (pt h t) a * S1x2048x1024.size a + 1 * _ = cc0_transform_1 k0_off1_inb numel1_S1 (pf0 m) (pt h t') a * S1x2048x1024.size a + 1 * _
  rw [e]
theorem iblk2_congr (c : Dev nD) {t t' : Fin (cfgA h).N} (he : te (pf0 m) (pt h t) = te (pf0 m) (pt h t')) (hc : (pt h t 0).val = (pt h t' 0).val) :
    iblk h c 2 t = iblk h c 2 t' := by
  have e : cc0_transform_2 k0_off1_inb numel1_S1 (pf0 m) (pt h t) = cc0_transform_2 k0_off1_inb numel1_S1 (pf0 m) (pt h t') := by
    rw [ix_2, ix_2, he, hc]
  funext x
  refine congrArg (V m c main_arg3) (funext fun a => Fin.ext ?_)
  show cc0_transform_2 k0_off1_inb numel1_S1 (pf0 m) (pt h t) a * S1x2048x1024.size a + 1 * _ = cc0_transform_2 k0_off1_inb numel1_S1 (pf0 m) (pt h t') a * S1x2048x1024.size a + 1 * _
  rw [e]

/-- The scratches after a live point hold its weights: rounded there, or kept from the point before. -/
theorem step_w (c : Dev nD) (t : Fin (cfgA h).N) {s0 s1 : Vec F S2048x1024 .bf16} (hI : Inv h c t.val s0 s1) (hl : live h t) :
    wgv (pt h t) (tab0 m) (tab1 m) (iblk h c 1 t) s0 = wg h c t ∧ wlv (pt h t) (tab0 m) (tab1 m) (iblk h c 2 t) s1 = wl h c t := by
  unfold wgv wlv
  by_cases hr : refresh (pt h t) (nvw (F := F) (tab1 m)) (tpw (F := F) (pt h t) (tab0 m)) (tew (F := F) (pt h t) (tab0 m)) = 1#1
  · rw [if_pos hr, if_pos hr]; exact ⟨rfl, rfl⟩
  · rw [if_neg hr, if_neg hr]
    rw [refresh_iff h] at hr
    have hl' : (pt h t 1).val < nv (pf0 m) := hl
    have h0 : (pt h t 1).val ≠ 0 := fun e => hr ⟨hl', .inl e⟩
    have hte : tew (F := F) (pt h t) (tab0 m) = tpw (F := F) (pt h t) (tab0 m) := not_not.mp fun e => hr ⟨hl', .inr e⟩
    have hc := coords_val t
    have hc1 : (pt h t 1).val = t.val % 164 := hc.2
    have htpos : 0 < t.val := Nat.pos_of_ne_zero fun e => h0 (by rw [hc1, e])
    let t' : Fin (cfgA h).N := ⟨t.val - 1, lt_of_le_of_lt (Nat.sub_le _ _) t.isLt⟩
    have hc' := coords_val t'
    have hv : t'.val = t.val - 1 := rfl
    have e1 : (pt h t' 1).val + 1 = (pt h t 1).val := by
      have a := hc'.2; have b := hc.2
      show (grid0.coords t' 1).val + 1 = (grid0.coords t 1).val
      rw [a, b, hv]; rw [hc1] at h0; omega
    have e0 : (pt h t 0).val = (pt h t' 0).val := by
      have a := hc'.1; have b := hc.1
      show (grid0.coords t 0).val = (grid0.coords t' 0).val
      rw [a, b, hv]; rw [hc1] at h0; omega
    have he : te (pf0 m) (pt h t) = te (pf0 m) (pt h t') := by
      unfold te
      rw [hte, tpw_eq (F := F) (tab0 m) e1]
    have := hI t' (by rw [hv]; omega) (show (pt h t' 1).val < nv (pf0 m) by omega)
    rw [this.1, this.2]
    unfold wg wl
    rw [iblk1_congr h c he e0, iblk2_congr h c he e0]
    exact ⟨rfl, rfl⟩

/-- The invariant is kept by a point, live or not. -/
theorem step_inv (c : Dev nD) (t : Fin (cfgA h).N) {s0 s1 : Vec F S2048x1024 .bf16} (hI : Inv h c t.val s0 s1) :
    Inv h c (t.val + 1) (wgv (pt h t) (tab0 m) (tab1 m) (iblk h c 1 t) s0) (wlv (pt h t) (tab0 m) (tab1 m) (iblk h c 2 t) s1) := by
  intro t' ht' hl'
  have : t' = t := Fin.ext (by omega)
  subst this
  exact step_w h c t' hI hl'

/-- and what it writes is its block. -/
theorem step_out (c : Dev nD) (t : Fin (cfgA h).N) {s0 s1 : Vec F S2048x1024 .bf16} (hI : Inv h c t.val s0 s1) :
    outv (pt h t) (tab1 m) (iblk h c 0 t) (wgv (pt h t) (tab0 m) (tab1 m) (iblk h c 1 t) s0) (iblk h c 3 t)
      (wlv (pt h t) (tab0 m) (tab1 m) (iblk h c 2 t) s1) (iblk h c 4 t) = outT h c t := by
  unfold outv outT
  by_cases hl : live h t
  · obtain ⟨e1, e2⟩ := step_w h c t hI hl
    rw [if_pos ((cond2_iff h (pt h t)).mpr hl), if_pos hl, e1, e2]
  · rw [if_neg (fun e => hl ((cond2_iff h (pt h t)).mp e)), if_neg hl]

/-- The loop invariant on core `c` before point `k`. -/
def PhiM (c : Dev nD) (k : ℕ) : sProp 𝕄 :=
  iprop((∃ s0, ∃ s1, ⌜Inv h c k s0 s1⌝ ∗ owns (c : Thread nD τ) (Memref.whole cc0_scratch0) fullShare s0 ∗ owns (c : Thread nD τ) (Memref.whole cc0_scratch1) fullShare s1)
    ∗ (∃ r, prngReg c r)
    ∗ owns (c : Thread nD τ) (Memref.whole main_arg0) fullShare.right (tab0 m) ∗ owns (c : Thread nD τ) (Memref.whole main_arg1) fullShare.right (tab1 m))

/-- The proof data: the arrays as the region finds them, each input's buffer at its block after the body, the output's at
    `outT`. -/
def dats (p : Fin 1) (c : Dev nD) : Dat τ (Elt F) Unit ℕ (UR sig nD τ) ℕ (Pipeline.pin (pcfgs (F := F)) (adm m h) p) c where
  A w := V m c (Pipeline.arrRef spec0 w)
  after w t := match w with
    | ⟨0, _⟩ => iblk h c 0 t
    | ⟨1, _⟩ => iblk h c 1 t
    | ⟨2, _⟩ => iblk h c 2 t
    | ⟨3, _⟩ => iblk h c 3 t
    | ⟨4, _⟩ => iblk h c 4 t
    | ⟨5, _⟩ => outT h c t
    | ⟨_ + 6, hw⟩ => absurd hw (Nat.not_lt.2 (Nat.le_add_left _ _))
  Φ k := PhiM h c k.val
  q w := Pipeline.shareOf spec0 w
  owed _ := 0

theorem Phi_eq (c : Dev nD) (k : Fin ((cfgA h).N + 1)) : (dats h 0 c).Φ k = PhiM h c k.val := by dsimp only [dats]
theorem Phi_castSucc (c : Dev nD) (t : Fin (cfgA h).N) : (dats h 0 c).Φ t.castSucc = PhiM h c t.val := by
  rw [Phi_eq]; exact congrArg (PhiM h c) (Fin.val_castSucc t)
theorem Phi_succ (c : Dev nD) (t : Fin (cfgA h).N) : (dats h 0 c).Φ t.succ = PhiM h c (t.val + 1) := by
  rw [Phi_eq]; exact congrArg (PhiM h c) (Fin.val_succ t)
theorem owes_succ (c : Dev nD) (t : Fin (cfgA h).N) : (dats h 0 c).owesAt () t.succ = (dats h 0 c).owesAt () t.castSucc := by
  unfold Dat.owesAt Dat.bound; dsimp only [dats]
theorem A_eq (c : Dev nD) (w : Fin (cfgA h).W) : (dats h 0 c).A w = V m c (Pipeline.arrRef spec0 w) := by dsimp only [dats]
theorem after_0 (c : Dev nD) (t : Fin (cfgA h).N) : (dats h 0 c).after 0 t = iblk h c 0 t := rfl
theorem after_1 (c : Dev nD) (t : Fin (cfgA h).N) : (dats h 0 c).after 1 t = iblk h c 1 t := rfl
theorem after_2 (c : Dev nD) (t : Fin (cfgA h).N) : (dats h 0 c).after 2 t = iblk h c 2 t := rfl
theorem after_3 (c : Dev nD) (t : Fin (cfgA h).N) : (dats h 0 c).after 3 t = iblk h c 3 t := rfl
theorem after_4 (c : Dev nD) (t : Fin (cfgA h).N) : (dats h 0 c).after 4 t = iblk h c 4 t := rfl
theorem after_5 (c : Dev nD) (t : Fin (cfgA h).N) : (dats h 0 c).after 5 t = outT h c t := rfl

/-- Each input's staging buffer holds its block at every point, fetched there or not. -/
theorem before_of (c : Dev nD) (w : Fin (cfgA h).W) (hw : ((cfgA h).win w).isOut = false) (hlive : ∀ i, (cfgA h).idle w i = false)
    (hclip : ∀ t t' : Fin (cfgA h).N, ((cfgA h).win w).index t = ((cfgA h).win w).index t' →
      ((cfgA h).win w).clip ((cfgA h).grid.coords t) = ((cfgA h).win w).clip ((cfgA h).grid.coords t'))
    (hafter : ∀ t, ((cfgA h).win w).cut ((cfgA h).grid.coords t) ((dats h 0 c).after w t) = iblk h c w t) (t : Fin (cfgA h).N) (d) :
    (dats h 0 c).before w t d = (dats h 0 c).fetched w t d :=
  (dats h 0 c).before_in_eq_fetched w hw hlive hclip (fun t => by rw [hafter]; unfold Dat.blockOf iblk; rw [A_eq]; try rfl) t d

theorem before_0 (c : Dev nD) (t : Fin (cfgA h).N) (d) : (dats h 0 c).before 0 t d = iblk h c 0 t :=
  (before_of h c 0 rfl (fun _ => rfl) (fun _ _ _ => rfl) (fun t => by rw [after_0]; try rfl) t d).trans (by unfold Dat.fetched Dat.blockOf iblk; rw [A_eq]; try rfl)
theorem before_1 (c : Dev nD) (t : Fin (cfgA h).N) (d) : (dats h 0 c).before 1 t d = iblk h c 1 t :=
  (before_of h c 1 rfl (fun _ => rfl) (fun _ _ _ => rfl) (fun t => by rw [after_1]; try rfl) t d).trans (by unfold Dat.fetched Dat.blockOf iblk; rw [A_eq]; try rfl)
theorem before_2 (c : Dev nD) (t : Fin (cfgA h).N) (d) : (dats h 0 c).before 2 t d = iblk h c 2 t :=
  (before_of h c 2 rfl (fun _ => rfl) (fun _ _ _ => rfl) (fun t => by rw [after_2]; try rfl) t d).trans (by unfold Dat.fetched Dat.blockOf iblk; rw [A_eq]; try rfl)
theorem before_3 (c : Dev nD) (t : Fin (cfgA h).N) (d) : (dats h 0 c).before 3 t d = iblk h c 3 t :=
  (before_of h c 3 rfl (fun _ => rfl) (fun _ _ _ => rfl) (fun t => by rw [after_3]; try rfl) t d).trans (by unfold Dat.fetched Dat.blockOf iblk; rw [A_eq]; try rfl)
theorem before_4 (c : Dev nD) (t : Fin (cfgA h).N) (d) : (dats h 0 c).before 4 t d = iblk h c 4 t :=
  (before_of h c 4 rfl (fun _ => rfl) (fun _ _ _ => rfl) (fun t => by rw [after_4]; try rfl) t d).trans (by unfold Dat.fetched Dat.blockOf iblk; rw [A_eq]; try rfl)

end Cert.UpIdeal.Moe
end
-- ==== Proof.UpFrame.lean ====
module
public import proofs.«01_k».proof.Proof.UpData

@[expose] public section

set_option maxRecDepth 16384

/-! # The launch

    The body's obligation at every point, and the run of the whole program: every array at what the proof data computes, the
    arguments as they came. -/

noncomputable section

namespace Cert.UpIdeal.Moe

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {m : (ℓ : Loc nD τ sig) → Buf (Elt F) ℓ} (h : Good (pf0 m))

/-- The body at point `t`, on its current staging buffers. -/
def bodyAt (t : Fin (cfgA h).N) := cc0__moe_up_kernel (F := F) (grid0.coords t) (Memref.whole main_arg0) (Memref.isWhole_whole _) (Memref.whole main_arg1) (Memref.isWhole_whole _)
  (spec0_0.stage ((cfgA h).slots t 0)) (hstage0_0 (((cfgA h).slots t 0).cast nbuf0_0)) (spec0_1.stage ((cfgA h).slots t 1)) (hstage0_1 (((cfgA h).slots t 1).cast nbuf0_1))
  (spec0_2.stage ((cfgA h).slots t 2)) (hstage0_2 (((cfgA h).slots t 2).cast nbuf0_2)) (spec0_3.stage ((cfgA h).slots t 3)) (hstage0_3 (((cfgA h).slots t 3).cast nbuf0_3))
  (spec0_4.stage ((cfgA h).slots t 4)) (hstage0_4 (((cfgA h).slots t 4).cast nbuf0_4)) (spec0_5.stage ((cfgA h).slots t 5)) (hstage0_5 (((cfgA h).slots t 5).cast nbuf0_5))
  (Memref.whole cc0_scratch0) (Memref.isWhole_whole _) (Memref.whole cc0_scratch1) (Memref.isWhole_whole _)

theorem defs₀_row (t : Fin (cfgA h).N) :
    defs₀ (F := F) .tc (cfgA h).body ((cfgA h).bodyArgs t ((cfgA h).slots t)) = bodyAt h t := by
  unfold defs₀ bodyAt; rw [Defs.onTc_tc]

/-- What the body takes at point `t`, -/
def bodyPre (c : Dev nD) (t : Fin (cfgA h).N) : sProp 𝕄 :=
  iprop((dats h 0 c).Φ t.castSucc ∗ (dats h 0 c).owesAt () t.castSucc
    ∗ (∃ d, owns (c : Thread nD τ) (spec0_0.stage ((cfgA h).slots t 0)) fullShare ((dats h 0 c).before 0 t d))
    ∗ (∃ d, owns (c : Thread nD τ) (spec0_1.stage ((cfgA h).slots t 1)) fullShare ((dats h 0 c).before 1 t d))
    ∗ (∃ d, owns (c : Thread nD τ) (spec0_2.stage ((cfgA h).slots t 2)) fullShare ((dats h 0 c).before 2 t d))
    ∗ (∃ d, owns (c : Thread nD τ) (spec0_3.stage ((cfgA h).slots t 3)) fullShare ((dats h 0 c).before 3 t d))
    ∗ (∃ d, owns (c : Thread nD τ) (spec0_4.stage ((cfgA h).slots t 4)) fullShare ((dats h 0 c).before 4 t d))
    ∗ (∃ d, owns (c : Thread nD τ) (spec0_5.stage ((cfgA h).slots t 5)) fullShare ((dats h 0 c).before 5 t d)))

/-- and what it returns. -/
def bodyPost (c : Dev nD) (t : Fin (cfgA h).N) : sProp 𝕄 :=
  iprop((dats h 0 c).Φ t.succ ∗ (dats h 0 c).owesAt () t.succ
    ∗ owns (c : Thread nD τ) (spec0_0.stage ((cfgA h).slots t 0)) fullShare ((dats h 0 c).after 0 t)
    ∗ owns (c : Thread nD τ) (spec0_1.stage ((cfgA h).slots t 1)) fullShare ((dats h 0 c).after 1 t)
    ∗ owns (c : Thread nD τ) (spec0_2.stage ((cfgA h).slots t 2)) fullShare ((dats h 0 c).after 2 t)
    ∗ owns (c : Thread nD τ) (spec0_3.stage ((cfgA h).slots t 3)) fullShare ((dats h 0 c).after 3 t)
    ∗ owns (c : Thread nD τ) (spec0_4.stage ((cfgA h).slots t 4)) fullShare ((dats h 0 c).after 4 t)
    ∗ owns (c : Thread nD τ) (spec0_5.stage ((cfgA h).slots t 5)) fullShare ((dats h 0 c).after 5 t))

set_option maxHeartbeats 800000 in
/-- The body at any point keeps the invariant and leaves its block. -/
theorem sound_body (c : Dev nD) (t : Fin (cfgA h).N) :
    bodyPre h c t ⊢ wp frame (wpE (defs₀ (F := F)) Variants.none c none) Set.univ (bodyAt h t) (fun _ => bodyPost h c t) := by
  unfold bodyPre bodyPost bodyAt
  simp only [before_0, before_1, before_2, before_3, before_4]
  rw [Phi_castSucc, Phi_succ, owes_succ,
    after_0, after_1, after_2, after_3, after_4, after_5]
  unfold PhiM
  iintro ⟨⟨⟨%s0, %s1, %hI, HS0, HS1⟩, Hg, G0, G1⟩, Ho, ⟨%d0, H0⟩, ⟨%d1, H1⟩, ⟨%d2, H2⟩, ⟨%d3, H3⟩, ⟨%d4, H4⟩, ⟨%d5, H5⟩⟩
  iapply (run_body c (grid0.coords t) _ _ _ _ _ _ _ _ _ _ _ _ _ _ _ _ _ _ _ _ fullShare.right (tab0 m) (tab1 m) (iblk h c 0 t) (iblk h c 1 t) (iblk h c 2 t) (iblk h c 3 t) (iblk h c 4 t) s0 s1 Set.univ _)
  isplitl [G0]; · iexact G0
  isplitl [G1]; · iexact G1
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  rw [step_out h c t hI]
  iintro ⟨G0, G1, H0, H1, H2, H3, H4, H5, HS0, HS1⟩
  isplitl [HS0 HS1 Hg G0 G1]
  · isplitl [HS0 HS1]
    · iexists _; iexists _
      isplitr
      · ipureintro; exact step_inv h c t hI
      isplitl [HS0]
      · iexact HS0
      iexact HS1
    isplitl [Hg]; · iexact Hg
    isplitl [G0]; · iexact G0
    iexact G1
  isplitl [Ho]; · iexact Ho
  isplitl [H0]; · iexact H0
  isplitl [H1]; · iexact H1
  isplitl [H2]; · iexact H2
  isplitl [H3]; · iexact H3
  isplitl [H4]; · iexact H4
  iexact H5

/-- Some branch stores the output at every point. -/
theorem idle_5 (t : Fin (cfgA h).N) : (cfgA h).idle 5 ((cfgA h).grid.coords t) = false := by
  show (!(k0_cond2 (grid0.coords t) (Pipeline.Prefetch.Contents.atD (pf0 m) 1 ![0]) == 1#1) && !(k0_cond3 (grid0.coords t) (Pipeline.Prefetch.Contents.atD (pf0 m) 1 ![0]) == 1#1)) = false
  generalize Pipeline.Prefetch.Contents.atD (pf0 m) 1 ![0] = v
  by_cases hc : k0_cond2 (grid0.coords t) v = 1#1
  · simp [hc]
  · have := (cond3_iff (grid0.coords t) v).mpr hc
    simp [this]

theorem body_obligation (c : Dev nD) : BodyObligation (dats (F := F) h 0 c) (defs₀ (F := F)) Variants.none () Set.univ := fun t => by
  rw [bigSep_W0, bigSep_W0, defs₀_row]
  refine triple_restated (sound_body h c t) rfl .rfl fun _ => ?_
  rw [idle_5]
  exact .rfl

/-- The two tables held, one by one. -/
theorem tables_eq (c : Dev nD) (v : pre0.Contents (Elt F)) : (Pipeline.ΦT pre0 v c : sProp 𝕄) =
    iprop((((c : Thread nD τ).loc main_arg0) ↦{fullShare.right} v 0) ∗ (((c : Thread nD τ).loc main_arg1) ↦{fullShare.right} v 1)) := by
  unfold Pipeline.ΦT Pipeline.prefHeld
  rw [show (Finset.univ : Finset (Fin 2)) = insert 0 {1} from by decide, bigSep_insert (by decide), bigSep_singleton]
  rfl

/-- A table owned through its whole memref is its buffer. -/
theorem owns_tab0 (c : Dev nD) (q : PosShare TreeShare) (f : Vec F S164 .i32) :
    (owns (c : Thread nD τ) (Memref.whole main_arg0) q f : sProp 𝕄) = (((c : Thread nD τ).loc main_arg0) ↦{q} f) := owns_whole _ _ _ _
theorem owns_tab1 (c : Dev nD) (q : PosShare TreeShare) (f : Vec F S1 .i32) :
    (owns (c : Thread nD τ) (Memref.whole main_arg1) q f : sProp 𝕄) = (((c : Thread nD τ).loc main_arg1) ↦{q} f) := owns_whole _ _ _ _

/-- The scratch buffers, the generator register and the tables are the invariant before the first point, which asks nothing of
    the scratches. -/
theorem phi_in (c : Dev nD) : iprop(Pipeline.ΦA spec0 c ∗ Pipeline.ΦT pre0 (pf0 m) c) ⊢ (PhiM h c 0 : sProp 𝕄) := by
  rw [tables_eq]
  unfold Pipeline.ΦA PhiM
  rw [owns_tab0 c fullShare.right (tab0 m), owns_tab1 c fullShare.right (tab1 m)]
  rw [scopedRest0_eq]
  simp only [owns_whole]
  iintro ⟨⟨⟨⟨%f0, H0⟩, %f1, H1⟩, Hg⟩, T0, T1⟩
  isplitl [H0 H1]
  · iexists f0; iexists f1
    isplitr
    · ipureintro; intro t ht; omega
    isplitl [H0]
    · iexact H0
    iexact H1
  isplitl [Hg]; · iexact Hg
  isplitl [T0]; · iexact T0
  iexact T1

/-- and after the last point they are given back. -/
theorem phi_out (c : Dev nD) (k : ℕ) : (PhiM h c k : sProp 𝕄) ⊢ Pipeline.ΦA spec0 c := by
  unfold Pipeline.ΦA PhiM
  rw [scopedRest0_eq]
  simp only [owns_whole]
  iintro ⟨⟨%s0, %s1, -, H0, H1⟩, Hg, -, -⟩
  isplitl [H0 H1]
  · isplitl [H0]
    · iexists s0; iexact H0
    iexists s1; iexact H1
  iexact Hg

variable (m) (ρ : Dev nD → PrngReg)

/-- @main runs its host stretch, then the region. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

theorem hpf (c : Dev nD) (k : Fin 2) : V m c (pre0.ref k) = pf0 m k := by
  obtain rfl : c = 0 := Subsingleton.elim _ _
  fin_cases k
  · exact V_eq m main_arg0 (by decide) (by decide) 0
  · exact V_eq m main_arg1 (by decide) (by decide) 0

set_option backward.isDefEq.respectTransparency.types false in
/-- The run: every array at what the proof data computes, every semaphore at zero. -/
theorem run_main : θ_run defs (onTc (τ := τ) (main (F := F))) ⟨m, fun _ => 0, ρ⟩
    (fun r => Pipeline.FramePost (Pipeline.pin (pcfgs (F := F)) (adm m h)) (dats h) 0 (V m) r ∧ r.2.sem = fun _ => 0) :=
  Pipeline.θ_run_frameP_track_shared (Q' := _) (pcfgs (F := F)) (adm m h) (dats h) (0 : Fin 1) launch₀0 defs₀ Variants.none m ρ main
    (hbody := fun c => (body_obligation h c).loose) (hq := fun _ _ _ => rfl)
    (howed := fun _ _ => rfl) (V := V m) (hmain := hmain m Variants.none) (hA := A_eq h) (hpf := hpf m)
    (hin := fun c => phi_in h c) (hout := fun c => phi_out h c _)

/-- What is read off a final state: the result array, the arguments unchanged, no counter left. -/
theorem run_value : θ_run defs (onTc (τ := τ) (main (F := F))) ⟨m, fun _ => 0, ρ⟩ (fun r =>
    (∀ c : Dev nD, r.2.mem ((c.tc : Thread nD τ).loc main_v2) = (dats h 0 c).arrAt 5 (cfgA h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ hr => ⟨fun c =>
    ⟨(hr.1 c).1 5,
     ((hr.1 c).2 main_arg0 (Pipeline.mem_restRefs_of (win := spec0) main_arg0 (by decide) (by decide))).trans (V_eq m main_arg0 (by decide) (by decide) c),
     ((hr.1 c).2 main_arg1 (Pipeline.mem_restRefs_of (win := spec0) main_arg1 (by decide) (by decide))).trans (V_eq m main_arg1 (by decide) (by decide) c),
     ((hr.1 c).1 0).trans (((dats h 0 c).arrAt_in 0 rfl _).trans ((A_eq h c 0).trans (V_eq m main_arg2 (by decide) (by decide) c))),
     ((hr.1 c).1 1).trans (((dats h 0 c).arrAt_in 1 rfl _).trans ((A_eq h c 1).trans (V_eq m main_arg3 (by decide) (by decide) c))),
     ((hr.1 c).2 main_arg4 (Pipeline.mem_restRefs_of (win := spec0) main_arg4 (by decide) (by decide))).trans (V_eq m main_arg4 (by decide) (by decide) c)⟩, hr.2⟩)
    (run_main m h ρ)

end Cert.UpIdeal.Moe
end
-- ==== Proof.UpSpec.lean ====
module
public import Idealize.ShloMosaic.PureOps.Ideal
public import Idealize.ShloMosaic.Lib.Pointwise
public import proofs.«01_k».proof.Proof.Words

@[expose] public section

/-! # The expert layer's first product, as mathematics

    Rows come sorted by expert in tiles of 256; tile `T` belongs to expert `ex T`, and the first `n` tiles are live. A live row is
    multiplied with its expert's two weight halves, the biases are added, and the clipped gate meets the clipped linear half. -/

noncomputable section

namespace Cert.Moe

open Idealize.ShloMosaic

/-- The gated unit: `min g 7 · σ(1.702 · min g 7) · (clip l + 1)`. -/
def glu (g l : EReal) : EReal :=
  min g (Ideal.ofBits FTy.f32 1088421888#32) *
    Ideal.div 1 (1 + Ideal.exp (0 - Ideal.ofBits FTy.f32 1071242019#32 * min g (Ideal.ofBits FTy.f32 1088421888#32))) *
    (min (Ideal.ofBits FTy.f32 1088421888#32) (max (Ideal.ofBits FTy.f32 3235905536#32) l) + 1)

/-- The expert of a tile, read off the table. -/
def ex (T : (⟨1, ![164]⟩ : Shape).Idx → BitVec 32) (i : Fin 164) : Fin 32 := ⟨(T (ix1 i)).toNat % 32, Nat.mod_lt _ (by decide)⟩

/-- The tile of a row. -/
def tileOf (r : Fin 41984) : Fin 164 := ⟨r.val / 256, by omega⟩
/-- A column's gate half and linear half. -/
def gcol (q : Fin 2048) : Fin 4096 := ⟨q.val, by omega⟩
def lcol (q : Fin 2048) : Fin 4096 := ⟨2048 + q.val, by omega⟩

/-- One expert's product at a row and a column. -/
def prod1 (x : (⟨2, ![41984, 2048]⟩ : Shape).Idx → EReal) (w : (⟨3, ![32, 2048, 4096]⟩ : Shape).Idx → EReal)
    (b : (⟨2, ![32, 4096]⟩ : Shape).Idx → EReal) (e : Fin 32) (r : Fin 41984) (q : Fin 4096) : EReal :=
  (∑ k : Fin 2048, x (ix2 r k) * w (ix3 e k q)) + b (ix2 e q)

/-- The result at a row and a column, when `n` tiles are live. -/
def upAt (T : (⟨1, ![164]⟩ : Shape).Idx → BitVec 32) (n : ℕ) (x : (⟨2, ![41984, 2048]⟩ : Shape).Idx → EReal)
    (w : (⟨3, ![32, 2048, 4096]⟩ : Shape).Idx → EReal) (b : (⟨2, ![32, 4096]⟩ : Shape).Idx → EReal) (r : Fin 41984) (q : Fin 2048) : EReal :=
  if (tileOf r).val < n then glu (prod1 x w b (ex T (tileOf r)) r (gcol q)) (prod1 x w b (ex T (tileOf r)) r (lcol q)) else 0

end Cert.Moe
end
-- ==== Proof.UpBlock.lean ====
module
public import proofs.«01_k».proof.Proof.Gen.UpIdeal.Skeleton
public import Idealize.ShloMosaic.Lib.Pointwise
public import proofs.«01_k».proof.Proof.UpSpec

@[expose] public section

set_option maxRecDepth 16384

/-! # One block of the expert layer's first product, at an index -/

noncomputable section

namespace Cert.UpIdeal.Moe

open Cert.UpIdeal Cert.UpIdeal.Gen
open Idealize.ShloMosaic Idealize.ShloMosaic.TcCoe

theorem pay1_apply (w : Vec Ideal S1x2048x1024 .f32) (k : Fin 2048) (q : Fin 1024) :
    k0_pay1 (F := Ideal) w (ix2 k q) = w (ix3 (0 : Fin 1) k q) := by
  pointwise [k0_pay1]
theorem pay2_apply (w : Vec Ideal S1x2048x1024 .f32) (k : Fin 2048) (q : Fin 1024) :
    k0_pay2 (F := Ideal) w (ix2 k q) = w (ix3 (0 : Fin 1) k q) := by
  pointwise [k0_pay2]
theorem pay3_apply (x : Vec Ideal S256x2048 .bf16) (wg wl : Vec Ideal S2048x1024 .bf16) (bg bl : Vec Ideal S1x1x1024 .f32)
    (r : Fin 256) (q : Fin 1024) :
    k0_pay3 (F := Ideal) x wg bg wl bl (ix2 r q)
      = Cert.Moe.glu ((∑ k : Fin 2048, x (ix2 r k) * wg (ix2 k q)) + bg (ix3 (0 : Fin 1) (0 : Fin 1) q))
          ((∑ k : Fin 2048, x (ix2 r k) * wl (ix2 k q)) + bl (ix3 (0 : Fin 1) (0 : Fin 1) q)) := by
  unfold Cert.Moe.glu
  pointwise [k0_pay3]
theorem pay4_apply (j : S256x1024.Idx) : k0_pay4 (F := Ideal) j = (0 : EReal) := by
  pointwise [k0_pay4]

end Cert.UpIdeal.Moe
end
-- ==== Proof.UpValue.lean ====
module
public import proofs.«01_k».proof.Proof.UpFrame
public import proofs.«01_k».proof.Proof.UpBlock
public import Idealize.ShloMosaic.Lib.Pipeline.ValueKit

@[expose] public section

set_option maxRecDepth 16384

/-! # What the result array holds

    Every point writes one block; the blocks cover the array; each is the block of one array, the expert layer's first
    product. -/

noncomputable section

namespace Cert.UpIdeal.Moe

open Cert.UpIdeal Cert.UpIdeal.Gen Cert.Moe
open Idealize.ShloMosaic Idealize.ShloMosaic.TcCoe
open Idealize.ShloMosaic.Pipeline (Dat Cfg Window)

variable {m : (ℓ : Loc nD τ sig) → Buf (Elt Ideal) ℓ} (h : Good (pf0 m))

/-- The five arguments as arrays. -/
abbrev aX (m : (ℓ : Loc nD τ sig) → Buf (Elt Ideal) ℓ) (c : Dev nD) : Vec Ideal S41984x2048 .bf16 := m ((c : Thread nD τ).loc main_arg2)
abbrev aW (m : (ℓ : Loc nD τ sig) → Buf (Elt Ideal) ℓ) (c : Dev nD) : Vec Ideal S32x2048x4096 .f32 := m ((c : Thread nD τ).loc main_arg3)
abbrev aB (m : (ℓ : Loc nD τ sig) → Buf (Elt Ideal) ℓ) (c : Dev nD) : Vec Ideal S32x4096 .f32 := m ((c : Thread nD τ).loc main_arg4)

/-- The point's row tile and column chunk. -/
theorem pt1_lt (t : Fin (cfgA h).N) : (pt h t 1).val < 164 := (pt h t 1).isLt
theorem pt0_lt (t : Fin (cfgA h).N) : (pt h t 0).val < 2 := (pt h t 0).isLt

/-- The array's row and column of a block's row and column. -/
def row (t : Fin (cfgA h).N) (r : Fin 256) : Fin 41984 := ⟨(pt h t 1).val * 256 + r.val, by have := pt1_lt h t; omega⟩
def col (t : Fin (cfgA h).N) (q : Fin 1024) : Fin 2048 := ⟨(pt h t 0).val * 1024 + q.val, by have := pt0_lt h t; omega⟩
/-- The point's tile. -/
def til (t : Fin (cfgA h).N) : Fin 164 := ⟨(pt h t 1).val, pt1_lt h t⟩

theorem te_ex (t : Fin (cfgA h).N) : te (pf0 m) (pt h t) = (ex (tab0 m) (til h t)).val := by
  unfold te ex
  have e : (ValueIdx.ix1 ⟨(pt h t 1).val, i1_lt (pt h t)⟩ : S164.Idx) = ix1 (til h t) := by
    funext a; fin_cases a; rfl
  have hl := h.1 (ix1 (til h t))
  show (tew (F := Ideal) (pt h t) (tab0 m)).toNat = _
  rw [tew_eq, e]
  exact (Nat.mod_eq_of_lt hl).symm

theorem tileOf_row (t : Fin (cfgA h).N) (r : Fin 256) : tileOf (row h t r) = til h t := by
  apply Fin.ext
  show ((pt h t 1).val * 256 + r.val) / 256 = (pt h t 1).val
  omega

/-- The point's five input blocks. -/
def b0 (c : Dev nD) (t : Fin (cfgA h).N) : Vec Ideal S256x2048 .bf16 := iblk h c 0 t
def b1 (c : Dev nD) (t : Fin (cfgA h).N) : Vec Ideal S1x2048x1024 .f32 := iblk h c 1 t
def b2 (c : Dev nD) (t : Fin (cfgA h).N) : Vec Ideal S1x2048x1024 .f32 := iblk h c 2 t
def b3 (c : Dev nD) (t : Fin (cfgA h).N) : Vec Ideal S1x1x1024 .f32 := iblk h c 3 t
def b4 (c : Dev nD) (t : Fin (cfgA h).N) : Vec Ideal S1x1x1024 .f32 := iblk h c 4 t

/-- The row block of a live point. -/
theorem iblk0_apply (c : Dev nD) (t : Fin (cfgA h).N) (hl : live h t) (r : Fin 256) (k : Fin 2048) :
    b0 h c t (ix2 r k) = aX m c (ix2 (row h t r) k) := by
  have e : cc0_transform_0 inb_S1_S1_0 numel1_S1 (pf0 m) (pt h t) = ![(pt h t 1).val, 0] := by
    rw [ix_0 h]
    have hl' : (pt h t 1).val < nv (pf0 m) := hl
    rw [Nat.min_eq_left (by omega)]
  unfold b0 iblk aX
  rw [← V_eq m main_arg2 (by decide) (by decide) c]
  refine congrArg (V m c main_arg2) (funext fun a => Fin.ext ?_)
  show cc0_transform_0 inb_S1_S1_0 numel1_S1 (pf0 m) (pt h t) a * S256x2048.size a + 1 * (ix2 r k a).val = _
  rw [e]
  fin_cases a
  · show (pt h t 1).val * 256 + 1 * r.val = (pt h t 1).val * 256 + r.val
    omega
  · show 0 * 2048 + 1 * k.val = k.val
    omega

theorem iblk1_apply (c : Dev nD) (t : Fin (cfgA h).N) (k : Fin 2048) (q : Fin 1024) :
    b1 h c t (ix3 (0 : Fin 1) k q) = aW m c (ix3 (ex (tab0 m) (til h t)) k (gcol (col h t q))) := by
  have e := ix_1 (pf0 m) (pt h t)
  rw [te_ex h] at e
  unfold b1 iblk aW
  rw [← V_eq m main_arg3 (by decide) (by decide) c]
  refine congrArg (V m c main_arg3) (funext fun a => Fin.ext ?_)
  show cc0_transform_1 k0_off1_inb numel1_S1 (pf0 m) (pt h t) a * S1x2048x1024.size a + 1 * (ix3 (0 : Fin 1) k q a).val = _
  rw [e]
  fin_cases a
  · show (ex (tab0 m) (til h t)).val * 1 + 1 * 0 = (ex (tab0 m) (til h t)).val
    omega
  · show 0 * 2048 + 1 * k.val = k.val
    omega
  · show (pt h t 0).val * 1024 + 1 * q.val = (pt h t 0).val * 1024 + q.val
    omega

theorem iblk2_apply (c : Dev nD) (t : Fin (cfgA h).N) (k : Fin 2048) (q : Fin 1024) :
    b2 h c t (ix3 (0 : Fin 1) k q) = aW m c (ix3 (ex (tab0 m) (til h t)) k (lcol (col h t q))) := by
  have e := ix_2 (pf0 m) (pt h t)
  rw [te_ex h] at e
  unfold b2 iblk aW
  rw [← V_eq m main_arg3 (by decide) (by decide) c]
  refine congrArg (V m c main_arg3) (funext fun a => Fin.ext ?_)
  show cc0_transform_2 k0_off1_inb numel1_S1 (pf0 m) (pt h t) a * S1x2048x1024.size a + 1 * (ix3 (0 : Fin 1) k q a).val = _
  rw [e]
  fin_cases a
  · show (ex (tab0 m) (til h t)).val * 1 + 1 * 0 = (ex (tab0 m) (til h t)).val
    omega
  · show 0 * 2048 + 1 * k.val = k.val
    omega
  · show (2 + (pt h t 0).val) * 1024 + 1 * q.val = 2048 + ((pt h t 0).val * 1024 + q.val)
    omega

/-- The host's reshape puts a unit axis into the bias array. -/
theorem V_v0 (c : Dev nD) : V m c main_v0 = shapeCast S32x1x4096 (aB m c) shapeCasts_S32x4096_S32x1x4096 := by
  unfold V hostOps0 aB; after_results_simp; rfl
theorem V_v1 (c : Dev nD) : V m c main_v1 = shapeCast S32x1x4096 (aB m c) shapeCasts_S32x4096_S32x1x4096 := by
  unfold V hostOps0 aB; after_results_simp; rfl

theorem bias_cast (x : Vec Ideal S32x4096 .f32) (e : Fin 32) (q : Fin 4096) :
    shapeCast S32x1x4096 x shapeCasts_S32x4096_S32x1x4096 (ix3 e (0 : Fin 1) q) = x (ix2 e q) := by
  refine shapeCast_apply x _ _ _ ?_
  rewrite [Shape.rowMajor_val_two, Shape.rowMajor_val_three]
  show e.val * 4096 + q.val = (e.val * 1 + 0) * 4096 + q.val
  omega

theorem iblk3_apply (c : Dev nD) (t : Fin (cfgA h).N) (q : Fin 1024) :
    b3 h c t (ix3 (0 : Fin 1) (0 : Fin 1) q) = aB m c (ix2 (ex (tab0 m) (til h t)) (gcol (col h t q))) := by
  have e := ix_3 (pf0 m) (pt h t)
  rw [te_ex h] at e
  rw [← bias_cast (aB m c), ← V_v0]
  unfold b3 iblk
  refine congrArg (V m c main_v0) (funext fun a => Fin.ext ?_)
  show cc0_transform_3 k0_off1_inb numel1_S1 (pf0 m) (pt h t) a * S1x1x1024.size a + 1 * (ix3 (0 : Fin 1) (0 : Fin 1) q a).val = _
  rw [e]
  fin_cases a
  · show (ex (tab0 m) (til h t)).val * 1 + 1 * 0 = (ex (tab0 m) (til h t)).val
    omega
  · rfl
  · show (pt h t 0).val * 1024 + 1 * q.val = (pt h t 0).val * 1024 + q.val
    omega

theorem iblk4_apply (c : Dev nD) (t : Fin (cfgA h).N) (q : Fin 1024) :
    b4 h c t (ix3 (0 : Fin 1) (0 : Fin 1) q) = aB m c (ix2 (ex (tab0 m) (til h t)) (lcol (col h t q))) := by
  have e := ix_4 (pf0 m) (pt h t)
  rw [te_ex h] at e
  rw [← bias_cast (aB m c), ← V_v1]
  unfold b4 iblk
  refine congrArg (V m c main_v1) (funext fun a => Fin.ext ?_)
  show cc0_transform_4 k0_off1_inb numel1_S1 (pf0 m) (pt h t) a * S1x1x1024.size a + 1 * (ix3 (0 : Fin 1) (0 : Fin 1) q a).val = _
  rw [e]
  fin_cases a
  · show (ex (tab0 m) (til h t)).val * 1 + 1 * 0 = (ex (tab0 m) (til h t)).val
    omega
  · rfl
  · show (2 + (pt h t 0).val) * 1024 + 1 * q.val = 2048 + ((pt h t 0).val * 1024 + q.val)
    omega

/-- The array the run leaves. -/
def resA (m : (ℓ : Loc nD τ sig) → Buf (Elt Ideal) ℓ) (c : Dev nD) : Vec Ideal S41984x2048 .bf16 :=
  fun i => upAt (tab0 m) (nv (pf0 m)) (aX m c) (aW m c) (aB m c) (i 0) (i 1)

theorem out_live (c : Dev nD) (t : Fin (cfgA h).N) (hl : live h t) :
    outT h c t = k0_pay3 (b0 h c t) (k0_pay1 (b1 h c t)) (b3 h c t) (k0_pay2 (b2 h c t)) (b4 h c t) := by
  unfold outT; exact if_pos hl
theorem out_dead (c : Dev nD) (t : Fin (cfgA h).N) (hl : ¬ live h t) : outT h c t = k0_pay4 (F := Ideal) := by
  unfold outT; exact if_neg hl

/-- A point's block is the array's. -/
theorem outT_apply (c : Dev nD) (t : Fin (cfgA h).N) (r : Fin 256) (q : Fin 1024) :
    outT h c t (ix2 r q) = upAt (tab0 m) (nv (pf0 m)) (aX m c) (aW m c) (aB m c) (row h t r) (col h t q) := by
  unfold upAt
  rw [tileOf_row h t r]
  by_cases hl : live h t
  · have hl' : (til h t).val < nv (pf0 m) := hl
    rw [out_live h c t hl, if_pos hl', pay3_apply, iblk3_apply, iblk4_apply]
    unfold prod1
    simp only [pay1_apply, pay2_apply, iblk1_apply, iblk2_apply, iblk0_apply h c t hl]
  · have hl' : ¬ (til h t).val < nv (pf0 m) := hl
    rw [out_dead h c t hl, if_neg hl', pay4_apply]

theorem emb_5 (t : Fin (cfgA h).N) (y : S256x1024.Idx) :
    (((cfgA h).win 5).blk t).view.emb y = (ix2 (row h t (y 0)) (col h t (y 1)) : S41984x2048.Idx) := by
  refine funext fun a => Fin.ext ?_
  show cc0_transform_5 (pt h t) a * S256x1024.size a + 1 * (y a).val = _
  rw [ix_5]
  fin_cases a
  · show (pt h t 1).val * 256 + 1 * (y 0).val = (pt h t 1).val * 256 + (y 0).val
    omega
  · show (pt h t 0).val * 1024 + 1 * (y 1).val = (pt h t 0).val * 1024 + (y 1).val
    omega

/-- Every point writes its block back: the next point's is another. -/
theorem flush_5 (t : Fin (cfgA h).N) : ((cfgA h).win 5).flush t = true := by
  unfold Window.flush
  rw [Bool.and_eq_true]
  refine ⟨rfl, ?_⟩
  rw [Bool.or_eq_true]
  by_cases e : t.val + 1 = (cfgA h).N
  · exact .inl (by simpa using e)
  · refine .inr (decide_eq_true ⟨Nat.lt_of_le_of_ne t.isLt e, ?_⟩)
    intro heq
    have hN : (cfgA h).N = 328 := rfl
    have e1 := congrFun heq (0 : Fin 2)
    have a : cc0_transform_5 (pt h ⟨t.val + 1, Nat.lt_of_le_of_ne t.isLt e⟩) (0 : Fin 2) = cc0_transform_5 (pt h t) (0 : Fin 2) := e1
    rw [ix_5, ix_5] at a
    have b : (grid0.coords ⟨t.val + 1, Nat.lt_of_le_of_ne t.isLt e⟩ 1).val = (grid0.coords t 1).val := a
    rw [(coords_val _).2, (coords_val _).2] at b
    have := t.isLt
    simp only at b
    omega

theorem cover_5 (i : S41984x2048.Idx) : ∃ t : Fin (cfgA h).N, ((cfgA h).win 5).flush t = true ∧ i ∈ (((cfgA h).win 5).blk t).view.set := by
  have h0 : (i 0).val < 41984 := (i 0).isLt
  have h1 : (i 1).val < 2048 := (i 1).isLt
  let t : Fin (cfgA h).N := ⟨(i 1).val / 1024 * 164 + (i 0).val / 256, by show _ < 328; omega⟩
  have hv : t.val = (i 1).val / 1024 * 164 + (i 0).val / 256 := rfl
  refine ⟨t, flush_5 h t, ?_⟩
  let y : S256x1024.Idx := ix2 ⟨(i 0).val % 256, Nat.mod_lt _ (by decide)⟩ ⟨(i 1).val % 1024, Nat.mod_lt _ (by decide)⟩
  have e : (((cfgA h).win 5).blk t).view.emb y = i := by
    rw [emb_5]
    have c0 : (pt h t 0).val = t.val / 164 := (coords_val t).1
    have c1 : (pt h t 1).val = t.val % 164 := (coords_val t).2
    refine funext fun a => Fin.ext ?_
    fin_cases a
    · show (pt h t 1).val * 256 + (i 0).val % 256 = (i 0).val
      rw [c1, hv]; omega
    · show (pt h t 0).val * 1024 + (i 1).val % 1024 = (i 1).val
      rw [c0, hv]; omega
  rw [← e]
  exact (((cfgA h).win 5).blk t).view.emb_mem_set y

theorem outT_emb (c : Dev nD) (t : Fin (cfgA h).N) (y : S256x1024.Idx) :
    outT h c t y = resA m c ((((cfgA h).win 5).blk t).view.emb y) := by
  obtain ⟨a, b, rfl⟩ : ∃ (a : Fin 256) (b : Fin 1024), y = ix2 a b := ⟨y 0, y 1, by funext a; fin_cases a <;> rfl⟩
  refine (outT_apply h c t a b).trans ?_
  rw [emb_5]
  rfl

theorem arr_5 (c : Dev nD) : (dats h 0 c).arrAt 5 (cfgA h).N = resA m c :=
  Dat.arrAt_eq_of_emb (dats h 0 c) 5 (resA m c) (fun t _ y => outT_emb h c t y) (cover_5 h)

end Cert.UpIdeal.Moe
end
-- ==== Proof.UpRef.lean ====
module
public import proofs.«01_k».proof.Proof.Gen.UpReferenceIdeal.Read
public import Idealize.ShloMosaic.Lib.IdealHost
public import Idealize.ShloMosaic.Lib.Routing.Ops
public import Idealize.ShloMosaic.Lib.StableHlo.Predicate
public import proofs.«01_k».proof.Proof.UpSpec

@[expose] public section

set_option maxRecDepth 16384

/-! # The reference, at an index -/

noncomputable section

namespace Cert.UpReferenceIdeal.Moe

open Cert.UpReferenceIdeal Cert.UpReferenceIdeal.Gen Cert.UpReferenceIdeal.Read Cert.Moe
open Idealize.ShloMosaic Idealize.ShloMosaic.TcCoe

/-- One expert's weight matrix, taken by the table. -/
theorem gatherW {α : Type} (x : S32x2048x4096.Idx → α) (idx : IVec S164x1 32) (T : Fin 164) (k : Fin 2048) (q : Fin 4096) (e : Fin 32)
    (he : (idx (ix2 T (0 : Fin 1))).toInt.toNat = e.val) :
    Host.gather gather_S32x2048x4096_S164x1_S164x2048x4096_12_0_n_n_0_1_120484096 x idx (ix3 T k q) = x (ix3 e k q) := by
  unfold Host.gather
  refine congrArg x (funext fun a => Fin.ext ?_)
  show GatherDims.start _ (ix3 T k q) idx a + GatherDims.batchCoord _ (ix3 T k q) a + GatherDims.offCoord _ (ix3 T k q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ gather_S32x2048x4096_S164x1_S164x2048x4096_12_0_n_n_0_1_120484096.startIndexMap from List.mem_singleton.mpr rfl)]
    have hsi : gather_S32x2048x4096_S164x1_S164x2048x4096_12_0_n_n_0_1_120484096.siIdx (ix3 T k q) ⟨List.idxOf (⟨0, by decide⟩ : Fin 3) gather_S32x2048x4096_S164x1_S164x2048x4096_12_0_n_n_0_1_120484096.startIndexMap,
        List.idxOf_lt_length_iff.2 (List.mem_singleton.mpr rfl)⟩ = ix2 T (0 : Fin 1) := by
      funext b; refine Fin.ext ?_
      match b with
      | ⟨0, _⟩ => rfl
      | ⟨1, _⟩ => rfl
    rw [hsi, he]
    show min e.val (32 - 1) + 0 + 0 = e.val
    omega
  | ⟨1, _⟩ =>
    unfold GatherDims.start GatherDims.offCoord
    rw [dif_neg (show (⟨1, by decide⟩ : Fin 3) ∉ gather_S32x2048x4096_S164x1_S164x2048x4096_12_0_n_n_0_1_120484096.startIndexMap from by decide),
      dif_pos (show (⟨1, by decide⟩ : Fin 3) ∈ gather_S32x2048x4096_S164x1_S164x2048x4096_12_0_n_n_0_1_120484096.sKept from by decide)]
    show 0 + 0 + k.val = k.val
    omega
  | ⟨2, _⟩ =>
    unfold GatherDims.start GatherDims.offCoord
    rw [dif_neg (show (⟨2, by decide⟩ : Fin 3) ∉ gather_S32x2048x4096_S164x1_S164x2048x4096_12_0_n_n_0_1_120484096.startIndexMap from by decide),
      dif_pos (show (⟨2, by decide⟩ : Fin 3) ∈ gather_S32x2048x4096_S164x1_S164x2048x4096_12_0_n_n_0_1_120484096.sKept from by decide)]
    show 0 + 0 + q.val = q.val
    omega

/-- Its bias row. -/
theorem gatherB {α : Type} (x : S32x4096.Idx → α) (idx : IVec S164x1 32) (T : Fin 164) (q : Fin 4096) (e : Fin 32)
    (he : (idx (ix2 T (0 : Fin 1))).toInt.toNat = e.val) :
    Host.gather gather_S32x4096_S164x1_S164x4096_1_0_n_n_0_1_14096 x idx (ix2 T q) = x (ix2 e q) := by
  unfold Host.gather
  refine congrArg x (funext fun a => Fin.ext ?_)
  show GatherDims.start _ (ix2 T q) idx a + GatherDims.batchCoord _ (ix2 T q) a + GatherDims.offCoord _ (ix2 T q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gather_S32x4096_S164x1_S164x4096_1_0_n_n_0_1_14096.startIndexMap from List.mem_singleton.mpr rfl)]
    have hsi : gather_S32x4096_S164x1_S164x4096_1_0_n_n_0_1_14096.siIdx (ix2 T q) ⟨List.idxOf (⟨0, by decide⟩ : Fin 2) gather_S32x4096_S164x1_S164x4096_1_0_n_n_0_1_14096.startIndexMap,
        List.idxOf_lt_length_iff.2 (List.mem_singleton.mpr rfl)⟩ = ix2 T (0 : Fin 1) := by
      funext b; refine Fin.ext ?_
      match b with
      | ⟨0, _⟩ => rfl
      | ⟨1, _⟩ => rfl
    rw [hsi, he]
    show min e.val (32 - 1) + 0 + 0 = e.val
    omega
  | ⟨1, _⟩ =>
    unfold GatherDims.start GatherDims.offCoord
    rw [dif_neg (show (⟨1, by decide⟩ : Fin 2) ∉ gather_S32x4096_S164x1_S164x4096_1_0_n_n_0_1_14096.startIndexMap from by decide),
      dif_pos (show (⟨1, by decide⟩ : Fin 2) ∈ gather_S32x4096_S164x1_S164x4096_1_0_n_n_0_1_14096.sKept from by decide)]
    show 0 + 0 + q.val = q.val
    omega

variable (x0 : Vec Ideal S164 .i32) (x1 : Vec Ideal S1 .i32) (x2 : Vec Ideal S41984x2048 .bf16) (x3 : Vec Ideal S32x2048x4096 .f32) (x4 : Vec Ideal S32x4096 .f32)

/-- A word in range is not wrapped. -/
theorem wrap_word (v : BitVec 32) (h : v.toNat < 32) :
    (Scalar.select (IntOp.cmpi .slt v 0#32) (IntOp.addi v 32#32) v).toInt.toNat = v.toNat % 32 := by
  have e : ∀ u : Fin 32, (Scalar.select (IntOp.cmpi .slt (BitVec.ofNat 32 u.val) 0#32) (IntOp.addi (BitVec.ofNat 32 u.val) 32#32) (BitVec.ofNat 32 u.val)).toInt.toNat = u.val % 32 := by
    decide +kernel
  have hv : v = BitVec.ofNat 32 v.toNat := by simp
  have := e ⟨v.toNat, h⟩
  rw [hv]
  simpa using this

theorem idx7 (h : ∀ i, (x0 i).toNat < 32) (T : Fin 164) : (val_main_v7 (F := Ideal) x0 (ix2 T (0 : Fin 1))).toInt.toNat = (ex x0 T).val := by
  rw [val_main_v7_apply, val_main_v6_apply, val_main_v3_apply, val_main_v5_apply, val_main_v2_apply, val_main_v4_apply]
  have e : idx_main_v7 (ix2 T (0 : Fin 1)) = ix1 T := by funext a; fin_cases a; rfl
  rw [e]
  exact wrap_word _ (h _)
theorem idx15 (h : ∀ i, (x0 i).toNat < 32) (T : Fin 164) : (val_main_v15 (F := Ideal) x0 (ix2 T (0 : Fin 1))).toInt.toNat = (ex x0 T).val := by
  rw [val_main_v15_apply, val_main_v14_apply, val_main_v11_apply, val_main_v13_apply, val_main_v10_apply, val_main_v12_apply]
  have e : idx_main_v15 (ix2 T (0 : Fin 1)) = ix1 T := by funext a; fin_cases a; rfl
  rw [e]
  exact wrap_word _ (h _)

theorem row_lt (T : Fin 164) (r : Fin 256) : T.val * 256 + r.val < 41984 := by omega

/-- The product and bias at a tile's row. -/
theorem v19_apply (h : ∀ i, (x0 i).toNat < 32) (T : Fin 164) (r : Fin 256) (q : Fin 4096) :
    val_main_v19 (F := Ideal) x0 x2 x3 x4 (ix3 T r q) = prod1 x2 x3 x4 (ex x0 T) ⟨T.val * 256 + r.val, row_lt T r⟩ q := by
  rw [val_main_v19_apply, val_main_v9_apply, val_main_v18_apply, val_main_v17_apply]
  unfold prod1
  refine congrArg₂ (fun a b : EReal => a + b) (Finset.sum_congr rfl fun k _ => congrArg₂ (fun a b : EReal => a * b) ?_ ?_) ?_
  · rw [val_main_v1_apply, val_main_v0_apply]
    refine congrArg x2 (funext fun a => Fin.ext ?_)
    fin_cases a
    · show ((T.val * 256 + r.val) * 2048 + k.val) / 2048 = T.val * 256 + r.val
      omega
    · show ((T.val * 256 + r.val) * 2048 + k.val) % 2048 = k.val
      omega
  · unfold val_main_v8
    have e : ridx_main_v9 (ix3 T r q) k = ix3 T k q := by funext a; fin_cases a <;> rfl
    rw [e]
    exact gatherW x3 _ T k q _ (idx7 x0 h T)
  · unfold val_main_v16
    have e : idx_main_v17 (idx_main_v18 (ix3 T r q)) = ix2 T q := by funext a; fin_cases a <;> rfl
    rw [e]
    exact gatherB x4 _ T q _ (idx15 x0 h T)

/-- The gated unit at a tile's row. -/
theorem v39_apply (h : ∀ i, (x0 i).toNat < 32) (T : Fin 164) (r : Fin 256) (q : Fin 2048) :
    val_main_v39 (F := Ideal) x0 x2 x3 x4 (ix3 T r q)
      = glu (prod1 x2 x3 x4 (ex x0 T) ⟨T.val * 256 + r.val, row_lt T r⟩ (gcol q)) (prod1 x2 x3 x4 (ex x0 T) ⟨T.val * 256 + r.val, row_lt T r⟩ (lcol q)) := by
  rw [val_main_v39_apply, val_main_v36_apply, val_main_v38_apply, val_main_v35_apply, val_main_v33_apply, val_main_v31_apply, val_main_v30_apply,
    val_main_v29_apply, val_main_v27_apply, val_main_v25_apply, val_main_v22_apply, val_main_v20_apply, val_main_v23_apply]
  have e20 : idx_main_v20 (ix3 T r q) = ix3 T r (gcol q) := by funext a; fin_cases a <;> rfl
  have e23 : idx_main_v23 (ix3 T r q) = ix3 T r (lcol q) := by funext a; fin_cases a <;> rfl
  rw [e20, e23, v19_apply x0 x2 x3 x4 h, v19_apply x0 x2 x3 x4 h]
  generalize prod1 x2 x3 x4 (ex x0 T) ⟨T.val * 256 + r.val, row_lt T r⟩ (gcol q) = g
  generalize prod1 x2 x3 x4 (ex x0 T) ⟨T.val * 256 + r.val, row_lt T r⟩ (lcol q) = l
  rw [val_main_v21_apply, val_main_v24_apply, val_main_v26_apply, val_main_v28_apply, val_main_v32_apply, val_main_v34_apply, val_main_v37_apply,
    val_main_cst_apply, val_main_cst_3_apply, val_main_cst_4_apply, val_main_cst_5_apply, val_main_cst_6_apply, val_main_cst_7_apply, val_main_cst_8_apply]
  show min g (Ideal.ofBits .f32 0x40E00000#32) * Ideal.div (Ideal.ofBits .f32 0x3F800000#32) (Ideal.ofBits .f32 0x3F800000#32
      + Ideal.exp (-(Ideal.ofBits .f32 0x3FD9DB23#32 * min g (Ideal.ofBits .f32 0x40E00000#32))))
      * (min (max l (Ideal.ofBits .f32 0xC0E00000#32)) (Ideal.ofBits .f32 0x40E00000#32) + Ideal.ofBits .f32 0x3F800000#32) = _
  rw [Ideal.ofBits_one_f32]
  unfold glu
  rw [zero_sub, min_comm (max l _), max_comm l]

/-- The mask: the tile is live. -/
theorem v43_iff (hn : 0 < (x1 (ix1 (0 : Fin 1))).toInt) (T : Fin 164) :
    val_main_v43 (F := Ideal) x1 (ix1 T) = 1#1 ↔ T.val < (x1 (ix1 (0 : Fin 1))).toNat := by
  rw [val_main_v43_apply, val_main_v40_apply, val_main_v42_apply]
  have e : val_main_v41 (F := Ideal) x1 (idx_main_v42 (ix1 T)) = x1 (ix1 (0 : Fin 1)) := by
    unfold val_main_v41
    refine (shapeCast_apply x1 _ _ (ix1 (0 : Fin 1)) ?_)
    have a := (S1.rowMajor (ix1 (0 : Fin 1))).isLt
    have b := (S_.rowMajor (idx_main_v42 (ix1 T))).isLt
    have ha : S1.numel = 1 := by decide
    have hb : S_.numel = 1 := by decide
    show (S1.rowMajor (ix1 (0 : Fin 1))).val = (S_.rowMajor (idx_main_v42 (ix1 T))).val
    omega
  rw [e]
  show BitVec.ofBool (decide ((BitVec.ofNat 32 T.val).toInt < (x1 (ix1 (0 : Fin 1))).toInt)) = 1#1 ↔ _
  obtain ⟨h1, h2, h3⟩ := Words.nat_of_pos hn
  rw [StableHlo.Predicate.ofBool_eq_one_iff, decide_eq_true_iff, Words.toInt_small T.isLt, h1]
  omega

/-- The reference's result at an index. -/
theorem res_apply (h : ∀ i, (x0 i).toNat < 32) (hn : 0 < (x1 (ix1 (0 : Fin 1))).toInt) (r : Fin 41984) (q : Fin 2048) :
    val_main_v47 (F := Ideal) x0 x1 x2 x3 x4 (ix2 r q) = upAt x0 (x1 (ix1 (0 : Fin 1))).toNat x2 x3 x4 r q := by
  rw [val_main_v47_apply, val_main_v46_apply]
  have e : idx_main_v46 (ix2 r q) = ix3 (tileOf r) ⟨r.val % 256, Nat.mod_lt _ (by decide)⟩ q := by
    refine funext fun a => Fin.ext ?_
    fin_cases a
    · show (r.val * 2048 + q.val) / 524288 = r.val / 256
      omega
    · show (r.val * 2048 + q.val) / 2048 % 256 = r.val % 256
      omega
    · show (r.val * 2048 + q.val) % 2048 = q.val
      omega
  rw [e]
  show val_main_v45 (F := Ideal) x0 x1 x2 x3 x4 _ = _
  rw [val_main_v45_apply, val_main_call0_v1_apply, val_main_v44_apply, val_main_call0_v2_apply, val_main_call0_v0_apply, val_main_cst_9_apply]
  have e2 : idx_main_v44 (idx_main_call0_v1 (ix3 (tileOf r) ⟨r.val % 256, Nat.mod_lt _ (by decide)⟩ q)) = ix1 (tileOf r) := by
    funext a; fin_cases a; rfl
  have er : (⟨(tileOf r).val * 256 + (⟨r.val % 256, Nat.mod_lt _ (by decide)⟩ : Fin 256).val, row_lt _ _⟩ : Fin 41984) = r := by
    refine Fin.ext ?_
    show r.val / 256 * 256 + r.val % 256 = r.val
    omega
  rw [e2, v39_apply x0 x2 x3 x4 h, er]
  unfold upAt Scalar.select
  by_cases hl : (tileOf r).val < (x1 (ix1 (0 : Fin 1))).toNat
  · rw [if_pos hl]; exact if_pos ((v43_iff x1 hn _).mpr hl)
  · rw [if_neg hl]
    exact (if_neg (fun c => hl ((v43_iff x1 hn _).mp c))).trans Ideal.ofBits_zero_f32

end Cert.UpReferenceIdeal.Moe
end
-- ==== Proof.UpClaims.lean ====
module
public import proofs.«01_k».proof.Defs
public import proofs.«01_k».proof.Proof.UpPre
public import proofs.«01_k».proof.Proof.UpValue
public import proofs.«01_k».proof.Proof.UpRef
public import proofs.«01_k».proof.Proof.UpFrameB
public import Idealize.ShloMosaic.Lib.Quiescent

@[expose] public section

/-! # The claims about the expert layer's first product -/

noncomputable section

namespace Cert.Moe

open Idealize.ShloMosaic Idealize.SL.Sem Idealize.ShloMosaic.TcCoe

theorem good_up (m : (ℓ : Loc Cert.Up.nD Cert.Up.τ Cert.Up.sig) → Buf (Elt Bits) ℓ) (h : Cert.Pre_Up m) : Cert.Up.Moe.Good (Cert.Up.Moe.pf0 m) :=
  ⟨(Cert.Pre_up_tables.read (h 0)).1, (Cert.Pre_up_tables.read (h 0)).2 _⟩
theorem good_upIdeal (m : (ℓ : Loc Cert.UpIdeal.nD Cert.UpIdeal.τ Cert.UpIdeal.sig) → Buf (Elt Ideal) ℓ) (h : Cert.Pre_UpIdeal m) :
    Cert.UpIdeal.Moe.Good (Cert.UpIdeal.Moe.pf0 m) :=
  ⟨(Cert.Pre_up_tables.read (h 0)).1, (Cert.Pre_up_tables.read (h 0)).2 _⟩

theorem frame_Up : Cert.quiescent_Up := by
  intro m g h
  exact (θ_run Cert.Up.defs _ _).mono (fun _ hr => ⟨fun c => (hr.1 c).2, hr.2⟩) (Cert.Up.Moe.run_value m (good_up m h) g)

theorem frame_UpIdeal : Cert.quiescent_UpIdeal := by
  intro m g h
  exact (θ_run Cert.UpIdeal.defs _ _).mono (fun _ hr => ⟨fun c => (hr.1 c).2, hr.2⟩) (Cert.UpIdeal.Moe.run_value m (good_upIdeal m h) g)

theorem frame_UpReferenceIdeal : Cert.quiescent_UpReferenceIdeal := by
  intro m g _
  exact (θ_run Cert.UpReferenceIdeal.defs _ _).mono (fun r h => ⟨fun c => (h c).2, sem_eq_zero_of_no_sems (by decide) r.2⟩)
    (Cert.UpReferenceIdeal.Value.run m g)

theorem frame_UpReferenceIdeal_pre : Cert.quiescent_UpReferenceIdeal_pre_up_tables := fun m g _ => frame_UpReferenceIdeal m g trivial

/-- The number of live tiles, as the specification reads it. -/
theorem nv_eq (m : (ℓ : Loc Cert.UpIdeal.nD Cert.UpIdeal.τ Cert.UpIdeal.sig) → Buf (Elt Ideal) ℓ) :
    Cert.UpIdeal.Moe.nv (Cert.UpIdeal.Moe.pf0 m) = (Cert.UpIdeal.Moe.tab1 m (ix1 (0 : Fin 1))).toNat := by
  unfold Cert.UpIdeal.Moe.nv Cert.UpIdeal.Moe.nvw
  refine congrArg BitVec.toNat (congrArg (Cert.UpIdeal.Moe.tab1 m) (funext fun a => Fin.ext ?_))
  fin_cases a
  rfl

theorem alg_up : Cert.algebraic_UpIdeal_UpReferenceIdeal := by
  intro m g m' g' h hargs
  have hg := good_upIdeal m h
  refine ⟨fun c => Cert.UpIdeal.Moe.resA m c, ?_, ?_⟩
  · refine (θ_run Cert.UpIdeal.defs _ _).mono (fun _ hr c => ?_) (Cert.UpIdeal.Moe.run_value m hg g)
    exact ⟨(hr.1 c).1.trans (Cert.UpIdeal.Moe.arr_5 hg c), (hr.1 c).2⟩
  · refine (θ_run Cert.UpReferenceIdeal.defs _ _).mono (fun _ hr c => ?_) (Cert.UpReferenceIdeal.Value.run m' g')
    refine ⟨(hr c).1.trans ?_, (hr c).2⟩
    obtain ⟨e0, e1, e2, e3, e4⟩ := hargs c
    rw [Cert.UpReferenceIdeal.Read.val_main_v47_eq, e0, e1, e2, e3, e4]
    obtain rfl : c = 0 := Subsingleton.elim _ _
    have hp := Cert.Pre_up_tables.read (h 0)
    funext i
    obtain ⟨r, q, rfl⟩ : ∃ (r : Fin 41984) (q : Fin 2048), i = ix2 r q := ⟨i 0, i 1, by funext a; fin_cases a <;> rfl⟩
    refine (Cert.UpReferenceIdeal.Moe.res_apply _ _ _ _ _ hp.1 (hp.2 _) r q).trans ?_
    unfold Cert.UpIdeal.Moe.resA
    rw [nv_eq]
    rfl

end Cert.Moe
end
-- ==== Proof.DownPre.lean ====
module
public import proofs.«01_k».proof.Proof.Gen.Pre_down_tables
public import Idealize.ShloMosaic.Lib.ReduceAll
public import Idealize.ShloMosaic.Lib.Pointwise
public import Idealize.ShloMosaic.Lib.Pipeline.Value

@[expose] public section

set_option maxRecDepth 16384

/-! # The precondition, read

    Every tile's expert is one of the 32, and at least one tile is live. -/

noncomputable section

namespace Cert.Pre_down_tables

open Idealize.ShloMosaic Cert.Pre_down_tables.Gen

variable {F : FTy → Type} [FloatOps F]

theorem word_of_bits (v : BitVec 32) (h : IntOp.andi (IntOp.cmpi .sge v 0#32) (IntOp.cmpi .slt v 32#32) = 1#1) : v.toNat < 32 := by
  obtain ⟨h1, h2⟩ := IntOp.andi_eq_one.1 h
  have a : (0#32 : BitVec 32).sle v = true := by
    have : BitVec.ofBool ((0#32 : BitVec 32).sle v) = 1#1 := h1
    revert this; cases (0#32 : BitVec 32).sle v <;> decide
  have b : v.slt 32#32 = true := by
    have : BitVec.ofBool (v.slt 32#32) = 1#1 := h2
    revert this; cases v.slt 32#32 <;> decide
  have a' : (0 : Int) ≤ v.toInt := by simpa [BitVec.sle] using a
  have b' : v.toInt < 32 := by simpa [BitVec.slt] using b
  have := v.isLt
  rw [BitVec.toInt_eq_toNat_cond] at a' b'
  split at a' <;> omega

theorem pos_of_bit (v : BitVec 32) (h : IntOp.cmpi .sge v 1#32 = 1#1) : 0 < v.toInt := by
  have a : (1#32 : BitVec 32).sle v = true := by
    have : BitVec.ofBool ((1#32 : BitVec 32).sle v) = 1#1 := h
    revert this; cases (1#32 : BitVec 32).sle v <;> decide
  have a' : (1 : Int) ≤ v.toInt := by simpa [BitVec.sle] using a
  omega

theorem read {T0 : IVec S164 32} {T1 : IVec S1 32} {x : FVec F S41984x2048 .bf16} {w : FVec F S32x2048x2048 .f32} {b : FVec F S32x2048 .f32}
    (h : fn (F := F) T0 T1 x w b = fun _ => 1#1) : (∀ i, (T0 i).toNat < 32) ∧ ∀ j, 0 < (T1 j).toInt := by
  have h0 := congrFun h (fun a => a.elim0)
  obtain ⟨ha, hb⟩ := IntOp.andi_eq_one.1 h0
  haveI : Subsingleton S_.Idx := ⟨fun i j => funext fun a => a.elim0⟩
  constructor
  · intro i
    exact word_of_bits _ (Host.reduce_andi_all _ _ _ _ _ ha i)
  · intro j
    refine pos_of_bit _ ?_
    have e : shapeCast S_ T1 Facts.shapeCasts_S1_S_ (fun a => a.elim0) = T1 j := by
      refine (shapeCast_apply T1 _ _ j ?_)
      have a := (S1.rowMajor j).isLt
      have b := (S_.rowMajor (fun a => a.elim0)).isLt
      have ha : S1.numel = 1 := by decide
      have hb : S_.numel = 1 := by decide
      show (S1.rowMajor j).val = (S_.rowMajor _).val
      omega
    rw [← e]
    exact hb

end Cert.Pre_down_tables
end
-- ==== Proof.DownBody.lean ====
module
public import proofs.«01_k».proof.Proof.Gen.DownIdeal.Launch
public import proofs.«01_k».proof.Proof.Gen.DownIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import Idealize.ShloMosaic.Lib.Pipeline.Value

@[expose] public section

set_option maxRecDepth 16384

noncomputable section

namespace Cert.DownIdeal.Moe

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Whether the body rounds a new expert's weights into its scratch, from the words it read: the tile is live, and it is
    the first or its expert is not the one before. -/
def refresh (i : grid0.Coords) (v0 v5 v8 : BitVec 32) : BitVec 1 :=
  Scalar.cmpi .ne (Scalar.extui (Scalar.andi (Scalar.cmpi .slt (BitVec.ofNat 32 (i 1).val) v0)
    (Scalar.ori (Scalar.cmpi .eq (BitVec.ofNat 32 (i 1).val) 0#32) (Scalar.cmpi .ne v8 v5)))) 0#32

/-- The number of live tiles, as the body reads it. -/
def nvw (T1 : Vec F S1 .i32) : BitVec 32 := T1 ((Rect.unit (s := S1) ![0] S1.size inb_S1_S1_0).emb (Shape.Idx.first (show 0 < S1.numel by decide)))

/-- The tile's expert, as the body reads it. -/
def tew (i : grid0.Coords) (T0 : Vec F S164 .i32) : BitVec 32 := T0 ((Rect.unit (s := S164) (k0_off1 i) S1.size (k0_off1_inb i)).emb (Shape.Idx.first (show 0 < S1.numel by decide)))

/-- The expert of the tile before, as the body reads it. -/
def tpw (i : grid0.Coords) (T0 : Vec F S164 .i32) : BitVec 32 := T0 ((Rect.unit (s := S164) (k0_off2 i) S1.size (k0_off2_inb i)).emb (Shape.Idx.first (show 0 < S1.numel by decide)))

/-- What the scratch holds after the body. -/
def wv (i : grid0.Coords) (T0 : Vec F S164 .i32) (T1 : Vec F S1 .i32) (x1 : Vec F S1x2048x2048 .f32) (s0 : Vec F S2048x2048 .bf16) : Vec F S2048x2048 .bf16 :=
  if refresh i (nvw T1) (tpw i T0) (tew i T0) = 1#1 then k0_pay1 x1 else s0

/-- A tile's rows cut into pieces of 128: piece `p` is row `p / 16`'s piece `p % 16`. -/
def cut (y : FVec F S256x2048 .f32) : FVec F S1x4096x128 .f32 := fun z =>
  y (ix2 ⟨(z 1).val / 16, by have : (z 1).val < 4096 := (z 1).isLt; omega⟩ ⟨(z 1).val % 16 * 128 + (z 2).val, by have : (z 2).val < 128 := (z 2).isLt; omega⟩)

/-- What the body leaves in the output block: the expert's product in a live tile, cut into pieces, zeros behind the live ones. -/
def outv (i : grid0.Coords) (T1 : Vec F S1 .i32) (x0 : Vec F S256x2048 .bf16) (w : Vec F S2048x2048 .bf16) (x2 : Vec F S1x1x2048 .f32) : FVec F S1x4096x128 .f32 :=
  if k0_cond2 i (nvw T1) = 1#1 then cut (k0_pay6 x0 w x2) else k0_pay5

/-- The second guard is the first one's negation. -/
theorem cond3_iff (i : grid0.Coords) (v : BitVec 32) : k0_cond3 i v = 1#1 ↔ ¬ k0_cond2 i v = 1#1 := by
  simp only [k0_cond3, k0_cond2]
  generalize Scalar.cmpi .slt (BitVec.ofNat 32 (i 1).val) v = b
  revert b
  decide

/-- A store of the whole block, read back. -/
theorem read_put {κ : Kind} {sp : Space} {s : Shape} {e : EltTy} (v : View sig κ sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := by
  funext y
  exact View.read_writes_cons_unit_of_mem v _ inb w [] y y rfl (fun a => by have := inb a; omega)

/-- Piece `s` of every row, as one store writes it. -/
def part (y : FVec F S256x2048 .f32) (s : Fin 16) : FVec F S1x256x128 .f32 := fun x =>
  y (ix2 (x 1) ⟨s.val * 128 + (x 2).val, by have : (x 2).val < 128 := (x 2).isLt; have := s.isLt; omega⟩)

theorem piece_inb (s : Fin 16) : ∀ a : Fin 3, S1x256x128.size a = 0 ∨ (![0, s.val, 0] : Fin 3 → ℕ) a + (![1, 16, 1] : Fin 3 → ℕ) a * (S1x256x128.size a - 1) < S1x4096x128.size a := by
  revert s; decide

/-- Where the store of piece `s` writes. -/
def piece (y : FVec F S256x2048 .f32) (s : Fin 16) : View.Piece (Elt F) S1x4096x128 .f32 :=
  ⟨⟨⟨![0, s.val, 0], S1x256x128.size, ![1, 16, 1], piece_inb s⟩, spos_1_16_1⟩, part y s⟩

/-- The sixteen stores of a tile's product, in any order, leave it cut. -/
theorem read_cut {κ : Kind} {sp : Space} (v : View sig κ sp S1x4096x128 .f32) (f : v.ty.Contents (Elt F)) (y : FVec F S256x2048 .f32)
    (L : List (View.Piece (Elt F) S1x4096x128 .f32)) (hL : L = (List.finRange 16).reverse.map (piece y)) :
    v.read (Elt F) (v.writes (Elt F) f L) = cut y := by
  subst hL
  have hcov : ∀ z : S1x4096x128.Idx, ∃ p ∈ (List.finRange 16).reverse.map (piece y), z ∈ p.1.set := fun z => by
    have h0 : (z 0).val < 1 := (z 0).isLt
    have h1 : (z 1).val < 4096 := (z 1).isLt
    have h2 : (z 2).val < 128 := (z 2).isLt
    refine ⟨piece y ⟨(z 1).val % 16, by omega⟩, List.mem_map.mpr ⟨_, by simp, rfl⟩, ?_⟩
    rw [LoadRect.mem_set]
    intro a
    match a with
    | ⟨0, _⟩ => exact ⟨0, Nat.one_pos, show (z 0).val = 0 + 1 * 0 by omega⟩
    | ⟨1, _⟩ => exact ⟨(z 1).val / 16, show (z 1).val / 16 < 256 by omega, show (z 1).val = (z 1).val % 16 + 16 * ((z 1).val / 16) by omega⟩
    | ⟨2, _⟩ => exact ⟨(z 2).val, h2, show (z 2).val = 0 + 1 * (z 2).val by omega⟩
  funext z
  rw [View.read_writes_apply_eq_canon v f z _ (hcov z)]
  refine View.canon_apply_of_pieces (cut y) _ (fun p hp x => ?_) z (hcov z)
  obtain ⟨s, -, rfl⟩ := List.mem_map.mp hp
  have hs := s.isLt
  have x1 : (x 1).val < 256 := (x 1).isLt
  have x2 : (x 2).val < 128 := (x 2).isLt
  show y _ = y _
  refine congrArg y (funext fun a => Fin.ext ?_)
  match a with
  | ⟨0, _⟩ => show (x 1).val = (s.val + 16 * (x 1).val) / 16; omega
  | ⟨1, _⟩ => show s.val * 128 + (x 2).val = (s.val + 16 * (x 1).val) % 16 * 128 + (0 + 1 * (x 2).val); omega

section
variable (y : FVec F S256x2048 .f32)
variable (x0 : Vec F S256x2048 .bf16) (w : Vec F S2048x2048 .bf16) (x2 : Vec F S1x1x2048 .f32)

theorem part_0 : k0_pay7 x0 w x2 = part (k0_pay6 x0 w x2) 0 := by
  funext x; unfold k0_pay7 part; pointwise
theorem part_1 : k0_pay8 x0 w x2 = part (k0_pay6 x0 w x2) 1 := by
  funext x; unfold k0_pay8 part; pointwise
theorem part_2 : k0_pay9 x0 w x2 = part (k0_pay6 x0 w x2) 2 := by
  funext x; unfold k0_pay9 part; pointwise
theorem part_3 : k0_pay10 x0 w x2 = part (k0_pay6 x0 w x2) 3 := by
  funext x; unfold k0_pay10 part; pointwise
theorem part_4 : k0_pay11 x0 w x2 = part (k0_pay6 x0 w x2) 4 := by
  funext x; unfold k0_pay11 part; pointwise
theorem part_5 : k0_pay13 (k0_pay12 x0 w x2) = part (k0_pay6 x0 w x2) 5 := by
  funext x; unfold k0_pay13 k0_pay12 part; pointwise
theorem part_6 : k0_pay14 y = part y 6 := by
  funext x; unfold k0_pay14 part; pointwise
theorem part_7 : k0_pay15 y = part y 7 := by
  funext x; unfold k0_pay15 part; pointwise
theorem part_8 : k0_pay16 y = part y 8 := by
  funext x; unfold k0_pay16 part; pointwise
theorem part_9 : k0_pay17 y = part y 9 := by
  funext x; unfold k0_pay17 part; pointwise
theorem part_10 : k0_pay18 y = part y 10 := by
  funext x; unfold k0_pay18 part; pointwise
theorem part_11 : k0_pay19 y = part y 11 := by
  funext x; unfold k0_pay19 part; pointwise
theorem part_12 : k0_pay20 y = part y 12 := by
  funext x; unfold k0_pay20 part; pointwise
theorem part_13 : k0_pay2 (k0_pay21 y) = part y 13 := by
  funext x; unfold k0_pay2 k0_pay21 part; pointwise
theorem part_14 : k0_pay3 y = part y 14 := by
  funext x; unfold k0_pay3 part; pointwise
theorem part_15 : k0_pay4 y = part y 15 := by
  funext x; unfold k0_pay4 part; pointwise
end

set_option maxHeartbeats 4000000 in
/-- One run of the body, at whatever the tables, blocks and scratch hold. -/
theorem run_body (c : Dev nD) (i : grid0.Coords) (arg2 : Memref sig .tc .smem S164 .i32) (harg2 : arg2.IsWhole) (arg3 : Memref sig .tc .smem S1 .i32) (harg3 : arg3.IsWhole) (arg4 : Memref sig .tc .vmem S256x2048 .bf16) (harg4 : arg4.IsWhole) (arg5 : Memref sig .tc .vmem S1x2048x2048 .f32) (harg5 : arg5.IsWhole) (arg6 : Memref sig .tc .vmem S1x1x2048 .f32) (harg6 : arg6.IsWhole)
    (arg7 : Memref sig .tc .vmem S1x4096x128 .f32) (harg7 : arg7.IsWhole) (arg8 : Memref sig .tc .vmem S2048x2048 .bf16) (harg8 : arg8.IsWhole)
    (q : PosShare TreeShare) (T0 : Vec F S164 .i32) (T1 : Vec F S1 .i32)
    (x0 : Vec F S256x2048 .bf16) (x1 : Vec F S1x2048x2048 .f32) (x2 : Vec F S1x1x2048 .f32) (s0 : Vec F S2048x2048 .bf16)
    (E : Set ℕ) (K : PUnit → sProp 𝕄) :
    iprop(owns (c : Thread nD τ) arg2 q T0
        ∗ owns (c : Thread nD τ) arg3 q T1
        ∗ owns (c : Thread nD τ) arg4 fullShare x0
        ∗ owns (c : Thread nD τ) arg5 fullShare x1
        ∗ owns (c : Thread nD τ) arg6 fullShare x2
        ∗ (∃ d, owns (c : Thread nD τ) arg7 fullShare d)
        ∗ owns (c : Thread nD τ) arg8 fullShare s0
        ∗ (iprop(owns (c : Thread nD τ) arg2 q T0
        ∗ owns (c : Thread nD τ) arg3 q T1
        ∗ owns (c : Thread nD τ) arg4 fullShare x0
        ∗ owns (c : Thread nD τ) arg5 fullShare x1
        ∗ owns (c : Thread nD τ) arg6 fullShare x2
        ∗ owns (c : Thread nD τ) arg7 fullShare (outv i T1 x0 (wv i T0 T1 x1 s0) x2)
        ∗ owns (c : Thread nD τ) arg8 fullShare (wv i T0 T1 x1 s0)) -∗ K ⟨⟩))
      ⊢ wp frame (wpE (defs₀ (F := F)) Variants.none c none) E (cc0__moe_down_kernel i arg2 harg2 arg3 harg3 arg4 harg4 arg5 harg5 arg6 harg6 arg7 harg7 arg8 harg8) K := by
  simp only [cc0__moe_down_kernel_eq_skeleton]; unfold cc0__moe_down_kernel_skel
  simp only [k0_part1_eq_skeleton, k0_part2_eq_skeleton]; unfold k0_part1_skel k0_part2_skel
  unfold owns
  iintro ⟨⟨%g0, %hg0, G0⟩, ⟨%g1, %hg1, G1⟩, ⟨%f0, %hf0, H0⟩, ⟨%f1, %hf1, H1⟩, ⟨%f2, %hf2, H2⟩, ⟨%d5, %f5, -, H5⟩, ⟨%fs0, %hs0, HS0⟩, Hk⟩
  obtain rfl := harg2.eq_unread hg0; obtain rfl := harg3.eq_unread hg1
  obtain rfl := harg4.eq_unread hf0; obtain rfl := harg5.eq_unread hf1; obtain rfl := harg6.eq_unread hf2
  sl_exec
  sl_step
  have hr : run_body.sl.r c arg3 harg3 T1 = nvw T1 := by
    unfold run_body.sl.r nvw
    rw [View.readAt_apply, harg3.read_unread]; rfl
  have hr1 : run_body.sl.r_1 c i arg2 harg2 T0 = tpw i T0 := by
    unfold run_body.sl.r_1 tpw
    rw [View.readAt_apply, harg2.read_unread]; rfl
  have hr2 : run_body.sl.r_2 c i arg2 harg2 T0 = tew i T0 := by
    unfold run_body.sl.r_2 tew
    rw [View.readAt_apply, harg2.read_unread]; rfl
  have hv : ∀ a b d, Scalar.cmpi .ne (Scalar.extui (Scalar.andi (Scalar.cmpi .slt (BitVec.ofNat 32 (i 1).val) a)
    (Scalar.ori (Scalar.cmpi .eq (BitVec.ofNat 32 (i 1).val) 0#32) (Scalar.cmpi .ne d b)))) 0#32 = refresh i a b d := fun _ _ _ => rfl
  have h20 : run_body.sl.v20 c i arg2 harg2 arg3 harg3 arg5 harg5 arg8 T0 T1 x1 fs0 = wv i T0 T1 x1 s0 := by
    unfold run_body.sl.v20 wv
    rw [View.readAt_full]
    simp only [hr, hr1, hr2, hv]
    split
    · rw [read_put, View.readAt_full, harg5.read_unread]
    · exact hs0
  have e0 : View.readAt (Elt F) arg4.view (Rect.unit ![0, 0] S256x2048.size inb_S256x2048_S256x2048_0_0).toLoadRect (harg4.unread x0) = x0 :=
    (View.readAt_full _ _ _).trans (harg4.read_unread x0)
  have e2 : View.readAt (Elt F) arg6.view (Rect.unit ![0, 0, 0] S1x1x2048.size inb_S1x1x2048_S1x1x2048_0_0_0).toLoadRect (harg6.unread x2) = x2 :=
    (View.readAt_full _ _ _).trans (harg6.read_unread x2)
  iapply Hk
  isplitl [G0]
  · iexists _; isplitr; · ipureintro; exact harg2.read_unread _
    iexact G0
  isplitl [G1]
  · iexists _; isplitr; · ipureintro; exact harg3.read_unread _
    iexact G1
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H5]
  · iexists _; isplitr; swap; · iexact H5
    ipureintro
    unfold run_body.sl.H5_5
    simp only [hr, cond3_iff]
    unfold outv
    by_cases h2 : k0_cond2 i (nvw T1) = 1#1
    · rw [dif_neg (not_not.mpr h2), dif_pos h2, if_pos h2]
      refine read_cut _ _ _ _ ?_
      rw [h20, e0, e2]
      simp only [part_0, part_1, part_2, part_3, part_4, part_5, part_6, part_7, part_8, part_9, part_10, part_11, part_12, part_13, part_14, part_15]
      rfl
    · rw [dif_pos h2, if_neg h2, dif_neg h2, read_put]
  · iexists _; isplitr; swap; · iexact HS0
    ipureintro
    unfold wv
    simp only [hr, hr1, hr2, hv]
    split
    · rw [read_put, View.readAt_full, harg5.read_unread]
    · exact hs0

end Cert.DownIdeal.Moe
end
-- ==== Proof.DownTables.lean ====
module
public import proofs.«01_k».proof.Proof.DownBody
public import proofs.«01_k».proof.Proof.Words
public import Idealize.ShloMosaic.Lib.ValueIdx

@[expose] public section

set_option maxRecDepth 16384

/-! # The routing tables

    What the tables must hold for the blocks the index maps choose to lie inside their arrays, the index maps in closed
    form, and the guards of the body as statements about tile numbers. -/

noncomputable section

namespace Cert.DownIdeal.Moe

open Cert.DownIdeal Cert.DownIdeal.Gen
open Idealize.ShloMosaic Idealize.ShloMosaic.TcCoe
open Idealize.SL Idealize.SL.Sem

variable {F : FTy → Type} [FloatOps F]

/-- Every tile's expert is one of the thirty-two, and some tile is live. -/
def Good (pf : pre0.Contents (Elt F)) : Prop :=
  (∀ x : S164.Idx, ((pf 0 : Vec F S164 .i32) x).toNat < 32) ∧ 0 < (nvw (F := F) (pf 1)).toInt

/-- The number of live tiles. -/
def nv (pf : pre0.Contents (Elt F)) : ℕ := (nvw (F := F) (pf 1)).toNat

/-- The expert of the point's tile. -/
def te (pf : pre0.Contents (Elt F)) (i : grid0.Coords) : ℕ := (tew (F := F) i (pf 0)).toNat

theorem te_lt {pf : pre0.Contents (Elt F)} (h : Good pf) (i : grid0.Coords) : te pf i < 32 := h.1 _

theorem nv_pos {pf : pre0.Contents (Elt F)} (h : Good pf) : 0 < nv pf := (Words.nat_of_pos h.2).2.1

theorem i1_lt (i : grid0.Coords) : (i 1).val < 164 := (i 1).isLt
theorem i0_lt (i : grid0.Coords) : (i 0).val < 1 := (i 0).isLt

/-- The rows fetched: the point's own tile, or the last live one. -/
theorem ix_0 {pf : pre0.Contents (Elt F)} (h : Good pf) (i : grid0.Coords) :
    cc0_transform_0 inb_S1_S1_0 numel1_S1 pf i = ![min (i 1).val (nv pf - 1), 0] := by
  show ![(Scalar.minsi (BitVec.ofNat 32 (i 1).val) (Scalar.subi (nvw (F := F) (pf 1)) 1#32)).toNat, (0#32).toNat] = _
  rw [Words.minsi_nat (i1_lt i) h.2]; rfl

/-- The number of a column chunk, as a word. -/
theorem c_nat (i : grid0.Coords) : (BitVec.ofNat 32 (i 0).val).toNat = (i 0).val := by
  have := i0_lt i
  rw [BitVec.toNat_ofNat]; omega
theorem t_nat (i : grid0.Coords) : (BitVec.ofNat 32 (i 1).val).toNat = (i 1).val := by
  have := i1_lt i
  rw [BitVec.toNat_ofNat]; omega

theorem ix_1 (pf : pre0.Contents (Elt F)) (i : grid0.Coords) :
    cc0_transform_1 k0_off1_inb numel1_S1 pf i = ![te pf i, 0, (i 0).val] := by
  show ![te pf i, (0#32).toNat, (BitVec.ofNat 32 (i 0).val).toNat] = _
  rw [c_nat]; rfl
theorem ix_2 (pf : pre0.Contents (Elt F)) (i : grid0.Coords) :
    cc0_transform_2 k0_off1_inb numel1_S1 pf i = ![te pf i, 0, (i 0).val] := by
  show ![te pf i, (0#32).toNat, (BitVec.ofNat 32 (i 0).val).toNat] = _
  rw [c_nat]; rfl
theorem ix_3 (i : grid0.Coords) : cc0_transform_3 i = ![(i 0).val, (i 1).val, 0] := by
  show ![(BitVec.ofNat 32 (i 0).val).toNat, (BitVec.ofNat 32 (i 1).val).toNat, (0#32).toNat] = _
  rw [c_nat, t_nat]; rfl

/-- Tables that are good choose blocks inside the arrays. -/
theorem ok_of_good {pf : pre0.Contents (Elt F)} (h : Good pf) : ok0 pf := by
  have hn := nv_pos h
  refine ⟨fun i => ⟨?_, .inr (Affine.block_words_dvd (of_decide_eq_true rfl) (by decide))⟩, fun i => ⟨?_, .inl rfl⟩, fun i => ⟨?_, .inl rfl⟩⟩
  · rw [ix_0 h]
    have := i1_lt i
    intro a; fin_cases a <;> simp [S256x2048, S41984x2048] <;> omega
  all_goals first | rw [ix_1] | rw [ix_2]
  all_goals
    have h1 := te_lt h i
    have h2 := i0_lt i
    intro a; fin_cases a <;> simp [S1x2048x2048, S32x2048x2048, S1x1x2048, S32x1x2048] <;> omega

/-- The body's guards: a live tile, and a tile whose expert is new. -/
theorem cond2_iff {pf : pre0.Contents (Elt F)} (h : Good pf) (i : grid0.Coords) : k0_cond2 i (nvw (F := F) (pf 1)) = 1#1 ↔ (i 1).val < nv pf :=
  Words.live_iff (i1_lt i) h.2

theorem refresh_iff {pf : pre0.Contents (Elt F)} (h : Good pf) (i : grid0.Coords) :
    refresh i (nvw (F := F) (pf 1)) (tpw (F := F) i (pf 0)) (tew (F := F) i (pf 0)) = 1#1
      ↔ (i 1).val < nv pf ∧ ((i 1).val = 0 ∨ tew (F := F) i (pf 0) ≠ tpw (F := F) i (pf 0)) :=
  Words.refresh_iff (i1_lt i) h.2 _ _

/-- The word read of the tile before is the expert of the tile before. -/
theorem tpw_eq (T0 : Vec F S164 .i32) {i j : grid0.Coords} (h : (j 1).val + 1 = (i 1).val) : tpw i T0 = tew j T0 := by
  unfold tpw tew
  refine congrArg T0 (funext fun a => Fin.ext ?_)
  fin_cases a
  show k0_off2 i 0 + 1 * _ = k0_off1 j 0 + 1 * _
  have h1 : k0_off2 i 0 = (i 1).val - 1 := Words.prev_nat (i1_lt i)
  have h2 : k0_off1 j 0 = (j 1).val := t_nat j
  rw [h1, h2]
  omega

/-- The expert of a tile, by its number. -/
theorem tew_eq (T0 : Vec F S164 .i32) (i : grid0.Coords) : tew i T0 = T0 (ValueIdx.ix1 ⟨(i 1).val, i1_lt i⟩) := by
  unfold tew
  refine congrArg T0 (funext fun a => Fin.ext ?_)
  fin_cases a
  show k0_off1 i 0 + 1 * 0 = (i 1).val
  have h2 : k0_off1 i 0 = (i 1).val := t_nat i
  rw [h2]
  rfl

end Cert.DownIdeal.Moe
end
-- ==== Proof.DownData.lean ====
module
public import proofs.«01_k».proof.Proof.DownTables

@[expose] public section

set_option maxRecDepth 16384

/-! # The proof data of the pipeline

    The windows' blocks at the launched tables, the scratch contents a live point leaves behind, and the data the launch
    theorem takes. -/

noncomputable section

namespace Cert.DownIdeal.Moe

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The one core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem V_eq (b : Ref sig .tc) (h0 : b ≠ main_v0) (c : Dev nD) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h0))

/-- The tables as launched. -/
def pf0 : pre0.Contents (Elt F) := fun k => m ((0 : Dev nD).tc.loc (pre0.ref k))

/-- The tile-to-expert table, and the number of live tiles. -/
abbrev tab0 : Vec F S164 .i32 := pf0 m 0
abbrev tab1 : Vec F S1 .i32 := pf0 m 1

/-- The pipeline's one configuration is admitted. -/
def adm (h : Good (pf0 m)) (p : Fin 1) : (pcfgs (F := F) p).Adm := ⟨pf0 m, ok_of_good h⟩

variable {m} (h : Good (pf0 m))

/-- The configuration at the launched tables. -/
abbrev cfgA : Pipeline.Cfg sig Λ₀ := Pipeline.pin (pcfgs (F := F)) (adm m h) 0

/-- Window `w`'s block at point `t`, read off its array as the region finds it. -/
def iblk (c : Dev nD) (w : Fin (cfgA h).W) (t : Fin (cfgA h).N) : (((cfgA h).win w).xblock ((cfgA h).grid.coords t)).Idx → Elt F ((cfgA h).win w).elt :=
  (((cfgA h).win w).blk t).view.read (Elt F) (V m c (Pipeline.arrRef spec0 w))

/-- The point's coordinates: column chunk and tile. -/
abbrev pt (t : Fin (cfgA h).N) : grid0.Coords := grid0.coords t

theorem coords_val : ∀ t : Fin grid0.N, (grid0.coords t 0).val = t.val / 164 ∧ (grid0.coords t 1).val = t.val % 164 := by
  decide +kernel

/-- A live point. -/
def live (t : Fin (cfgA h).N) : Prop := (pt h t 1).val < nv (pf0 m)

instance (t : Fin (cfgA h).N) : Decidable (live h t) := Nat.decLt _ _

/-- The rounded weights of the point's expert. -/
def wd (c : Dev nD) (t : Fin (cfgA h).N) : Vec F S2048x2048 .bf16 := k0_pay1 (iblk h c 1 t)

/-- What the body leaves in the output's buffer. -/
def outT (c : Dev nD) (t : Fin (cfgA h).N) : Vec F S1x4096x128 .f32 :=
  if live h t then cut (k0_pay6 (iblk h c 0 t) (wd h c t) (iblk h c 2 t)) else k0_pay5

/-- What the scratch holds between points: behind a live point, that point's rounded weights. -/
def Inv (c : Dev nD) (k : ℕ) (s0 : Vec F S2048x2048 .bf16) : Prop :=
  ∀ t : Fin (cfgA h).N, t.val + 1 = k → live h t → s0 = wd h c t

/-- Two points whose tiles have one expert, in one column chunk, have the same weight blocks. -/
theorem iblk1_congr (c : Dev nD) {t t' : Fin (cfgA h).N} (he : te (pf0 m) (pt h t) = te (pf0 m) (pt h t')) (hc : (pt h t 0).val = (pt h t' 0).val) :
    iblk h c 1 t = iblk h c 1 t' := by
  have e : cc0_transform_1 k0_off1_inb numel1_S1 (pf0 m) (pt h t) = cc0_transform_1 k0_off1_inb numel1_S1 (pf0 m) (pt h t') := by
    rw [ix_1, ix_1, he, hc]
  funext x
  refine congrArg (V m c main_arg3) (funext fun a => Fin.ext ?_)
  show cc0_transform_1 k0_off1_inb numel1_S1 (pf0 m) (pt h t) a * S1x2048x2048.size a + 1 * _ = cc0_transform_1 k0_off1_inb numel1_S1 (pf0 m) (pt h t') a * S1x2048x2048.size a + 1 * _
  rw [e]
/-- The scratch after a live point hold its weights: rounded there, or kept from the point before. -/
theorem step_w (c : Dev nD) (t : Fin (cfgA h).N) {s0 : Vec F S2048x2048 .bf16} (hI : Inv h c t.val s0) (hl : live h t) :
    wv (pt h t) (tab0 m) (tab1 m) (iblk h c 1 t) s0 = wd h c t := by
  unfold wv
  by_cases hr : refresh (pt h t) (nvw (F := F) (tab1 m)) (tpw (F := F) (pt h t) (tab0 m)) (tew (F := F) (pt h t) (tab0 m)) = 1#1
  · rw [if_pos hr]; rfl
  · rw [if_neg hr]
    rw [refresh_iff h] at hr
    have hl' : (pt h t 1).val < nv (pf0 m) := hl
    have h0 : (pt h t 1).val ≠ 0 := fun e => hr ⟨hl', .inl e⟩
    have hte : tew (F := F) (pt h t) (tab0 m) = tpw (F := F) (pt h t) (tab0 m) := not_not.mp fun e => hr ⟨hl', .inr e⟩
    have hc := coords_val t
    have hc1 : (pt h t 1).val = t.val % 164 := hc.2
    have htpos : 0 < t.val := Nat.pos_of_ne_zero fun e => h0 (by rw [hc1, e])
    let t' : Fin (cfgA h).N := ⟨t.val - 1, lt_of_le_of_lt (Nat.sub_le _ _) t.isLt⟩
    have hc' := coords_val t'
    have hv : t'.val = t.val - 1 := rfl
    have e1 : (pt h t' 1).val + 1 = (pt h t 1).val := by
      have a := hc'.2; have b := hc.2
      show (grid0.coords t' 1).val + 1 = (grid0.coords t 1).val
      rw [a, b, hv]; rw [hc1] at h0; omega
    have e0 : (pt h t 0).val = (pt h t' 0).val := by
      have a := hc'.1; have b := hc.1
      show (grid0.coords t 0).val = (grid0.coords t' 0).val
      rw [a, b, hv]; rw [hc1] at h0; omega
    have he : te (pf0 m) (pt h t) = te (pf0 m) (pt h t') := by
      unfold te
      rw [hte, tpw_eq (F := F) (tab0 m) e1]
    have := hI t' (by rw [hv]; omega) (show (pt h t' 1).val < nv (pf0 m) by omega)
    rw [this]
    unfold wd
    rw [iblk1_congr h c he e0]

/-- The invariant is kept by a point, live or not. -/
theorem step_inv (c : Dev nD) (t : Fin (cfgA h).N) {s0 : Vec F S2048x2048 .bf16} (hI : Inv h c t.val s0) :
    Inv h c (t.val + 1) (wv (pt h t) (tab0 m) (tab1 m) (iblk h c 1 t) s0) := by
  intro t' ht' hl'
  have : t' = t := Fin.ext (by omega)
  subst this
  exact step_w h c t' hI hl'

/-- and what it writes is its block. -/
theorem step_out (c : Dev nD) (t : Fin (cfgA h).N) {s0 : Vec F S2048x2048 .bf16} (hI : Inv h c t.val s0) :
    outv (pt h t) (tab1 m) (iblk h c 0 t) (wv (pt h t) (tab0 m) (tab1 m) (iblk h c 1 t) s0) (iblk h c 2 t) = outT h c t := by
  unfold outv outT
  by_cases hl : live h t
  · rw [if_pos ((cond2_iff h (pt h t)).mpr hl), if_pos hl, step_w h c t hI hl]
  · rw [if_neg (fun e => hl ((cond2_iff h (pt h t)).mp e)), if_neg hl]

/-- The loop invariant on core `c` before point `k`. -/
def PhiM (c : Dev nD) (k : ℕ) : sProp 𝕄 :=
  iprop((∃ s0, ⌜Inv h c k s0⌝ ∗ owns (c : Thread nD τ) (Memref.whole cc0_scratch0) fullShare s0)
    ∗ (∃ r, prngReg c r)
    ∗ owns (c : Thread nD τ) (Memref.whole main_arg0) fullShare.right (tab0 m) ∗ owns (c : Thread nD τ) (Memref.whole main_arg1) fullShare.right (tab1 m))

/-- The proof data: the arrays as the region finds them, each input's buffer at its block after the body, the output's at
    `outT`. -/
def dats (p : Fin 1) (c : Dev nD) : Dat τ (Elt F) Unit ℕ (UR sig nD τ) ℕ (Pipeline.pin (pcfgs (F := F)) (adm m h) p) c where
  A w := V m c (Pipeline.arrRef spec0 w)
  after w t := match w with
    | ⟨0, _⟩ => iblk h c 0 t
    | ⟨1, _⟩ => iblk h c 1 t
    | ⟨2, _⟩ => iblk h c 2 t
    | ⟨3, _⟩ => outT h c t
    | ⟨_ + 4, hw⟩ => absurd hw (Nat.not_lt.2 (Nat.le_add_left _ _))
  Φ k := PhiM h c k.val
  q _ := fullShare
  owed _ := 0

theorem Phi_eq (c : Dev nD) (k : Fin ((cfgA h).N + 1)) : (dats h 0 c).Φ k = PhiM h c k.val := by dsimp only [dats]
theorem Phi_castSucc (c : Dev nD) (t : Fin (cfgA h).N) : (dats h 0 c).Φ t.castSucc = PhiM h c t.val := by
  rw [Phi_eq]; exact congrArg (PhiM h c) (Fin.val_castSucc t)
theorem Phi_succ (c : Dev nD) (t : Fin (cfgA h).N) : (dats h 0 c).Φ t.succ = PhiM h c (t.val + 1) := by
  rw [Phi_eq]; exact congrArg (PhiM h c) (Fin.val_succ t)
theorem owes_succ (c : Dev nD) (t : Fin (cfgA h).N) : (dats h 0 c).owesAt () t.succ = (dats h 0 c).owesAt () t.castSucc := by
  unfold Dat.owesAt Dat.bound; dsimp only [dats]
theorem A_eq (c : Dev nD) (w : Fin (cfgA h).W) : (dats h 0 c).A w = V m c (Pipeline.arrRef spec0 w) := by dsimp only [dats]
theorem after_0 (c : Dev nD) (t : Fin (cfgA h).N) : (dats h 0 c).after 0 t = iblk h c 0 t := rfl
theorem after_1 (c : Dev nD) (t : Fin (cfgA h).N) : (dats h 0 c).after 1 t = iblk h c 1 t := rfl
theorem after_2 (c : Dev nD) (t : Fin (cfgA h).N) : (dats h 0 c).after 2 t = iblk h c 2 t := rfl
theorem after_3 (c : Dev nD) (t : Fin (cfgA h).N) : (dats h 0 c).after 3 t = outT h c t := rfl

/-- Each input's staging buffer holds its block at every point, fetched there or not. -/
theorem before_of (c : Dev nD) (w : Fin (cfgA h).W) (hw : ((cfgA h).win w).isOut = false) (hlive : ∀ i, (cfgA h).idle w i = false)
    (hclip : ∀ t t' : Fin (cfgA h).N, ((cfgA h).win w).index t = ((cfgA h).win w).index t' →
      ((cfgA h).win w).clip ((cfgA h).grid.coords t) = ((cfgA h).win w).clip ((cfgA h).grid.coords t'))
    (hafter : ∀ t, ((cfgA h).win w).cut ((cfgA h).grid.coords t) ((dats h 0 c).after w t) = iblk h c w t) (t : Fin (cfgA h).N) (d) :
    (dats h 0 c).before w t d = (dats h 0 c).fetched w t d :=
  (dats h 0 c).before_in_eq_fetched w hw hlive hclip (fun t => by rw [hafter]; unfold Dat.blockOf iblk; rw [A_eq]; try rfl) t d

theorem before_0 (c : Dev nD) (t : Fin (cfgA h).N) (d) : (dats h 0 c).before 0 t d = iblk h c 0 t :=
  (before_of h c 0 rfl (fun _ => rfl) (fun _ _ _ => rfl) (fun t => by rw [after_0]; try rfl) t d).trans (by unfold Dat.fetched Dat.blockOf iblk; rw [A_eq]; try rfl)
theorem before_1 (c : Dev nD) (t : Fin (cfgA h).N) (d) : (dats h 0 c).before 1 t d = iblk h c 1 t :=
  (before_of h c 1 rfl (fun _ => rfl) (fun _ _ _ => rfl) (fun t => by rw [after_1]; try rfl) t d).trans (by unfold Dat.fetched Dat.blockOf iblk; rw [A_eq]; try rfl)
theorem before_2 (c : Dev nD) (t : Fin (cfgA h).N) (d) : (dats h 0 c).before 2 t d = iblk h c 2 t :=
  (before_of h c 2 rfl (fun _ => rfl) (fun _ _ _ => rfl) (fun t => by rw [after_2]; try rfl) t d).trans (by unfold Dat.fetched Dat.blockOf iblk; rw [A_eq]; try rfl)

end Cert.DownIdeal.Moe
end
-- ==== Proof.DownFrame.lean ====
module
public import proofs.«01_k».proof.Proof.DownData

@[expose] public section

set_option maxRecDepth 16384

/-! # The launch

    The body's obligation at every point, and the run of the whole program: every array at what the proof data computes, the
    arguments as they came. -/

noncomputable section

namespace Cert.DownIdeal.Moe

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {m : (ℓ : Loc nD τ sig) → Buf (Elt F) ℓ} (h : Good (pf0 m))

/-- The body at point `t`, on its current staging buffers. -/
def bodyAt (t : Fin (cfgA h).N) := cc0__moe_down_kernel (F := F) (grid0.coords t) (Memref.whole main_arg0) (Memref.isWhole_whole _) (Memref.whole main_arg1) (Memref.isWhole_whole _)
  (spec0_0.stage ((cfgA h).slots t 0)) (hstage0_0 (((cfgA h).slots t 0).cast nbuf0_0)) (spec0_1.stage ((cfgA h).slots t 1)) (hstage0_1 (((cfgA h).slots t 1).cast nbuf0_1))
  (spec0_2.stage ((cfgA h).slots t 2)) (hstage0_2 (((cfgA h).slots t 2).cast nbuf0_2)) (spec0_3.stage ((cfgA h).slots t 3)) (hstage0_3 (((cfgA h).slots t 3).cast nbuf0_3))
  (Memref.whole cc0_scratch0) (Memref.isWhole_whole _)

theorem defs₀_row (t : Fin (cfgA h).N) :
    defs₀ (F := F) .tc (cfgA h).body ((cfgA h).bodyArgs t ((cfgA h).slots t)) = bodyAt h t := by
  unfold defs₀ bodyAt; rw [Defs.onTc_tc]

/-- What the body takes at point `t`, -/
def bodyPre (c : Dev nD) (t : Fin (cfgA h).N) : sProp 𝕄 :=
  iprop((dats h 0 c).Φ t.castSucc ∗ (dats h 0 c).owesAt () t.castSucc
    ∗ (∃ d, owns (c : Thread nD τ) (spec0_0.stage ((cfgA h).slots t 0)) fullShare ((dats h 0 c).before 0 t d))
    ∗ (∃ d, owns (c : Thread nD τ) (spec0_1.stage ((cfgA h).slots t 1)) fullShare ((dats h 0 c).before 1 t d))
    ∗ (∃ d, owns (c : Thread nD τ) (spec0_2.stage ((cfgA h).slots t 2)) fullShare ((dats h 0 c).before 2 t d))
    ∗ (∃ d, owns (c : Thread nD τ) (spec0_3.stage ((cfgA h).slots t 3)) fullShare ((dats h 0 c).before 3 t d)))

/-- and what it returns. -/
def bodyPost (c : Dev nD) (t : Fin (cfgA h).N) : sProp 𝕄 :=
  iprop((dats h 0 c).Φ t.succ ∗ (dats h 0 c).owesAt () t.succ
    ∗ owns (c : Thread nD τ) (spec0_0.stage ((cfgA h).slots t 0)) fullShare ((dats h 0 c).after 0 t)
    ∗ owns (c : Thread nD τ) (spec0_1.stage ((cfgA h).slots t 1)) fullShare ((dats h 0 c).after 1 t)
    ∗ owns (c : Thread nD τ) (spec0_2.stage ((cfgA h).slots t 2)) fullShare ((dats h 0 c).after 2 t)
    ∗ owns (c : Thread nD τ) (spec0_3.stage ((cfgA h).slots t 3)) fullShare ((dats h 0 c).after 3 t))

set_option maxHeartbeats 800000 in
/-- The body at any point keeps the invariant and leaves its block. -/
theorem sound_body (c : Dev nD) (t : Fin (cfgA h).N) :
    bodyPre h c t ⊢ wp frame (wpE (defs₀ (F := F)) Variants.none c none) Set.univ (bodyAt h t) (fun _ => bodyPost h c t) := by
  unfold bodyPre bodyPost bodyAt
  simp only [before_0, before_1, before_2]
  rw [Phi_castSucc, Phi_succ, owes_succ,
    after_0, after_1, after_2, after_3]
  unfold PhiM
  iintro ⟨⟨⟨%s0, %hI, HS0⟩, Hg, G0, G1⟩, Ho, ⟨%d0, H0⟩, ⟨%d1, H1⟩, ⟨%d2, H2⟩, ⟨%d3, H3⟩⟩
  iapply (run_body c (grid0.coords t) _ _ _ _ _ _ _ _ _ _ _ _ _ _ fullShare.right (tab0 m) (tab1 m) (iblk h c 0 t) (iblk h c 1 t) (iblk h c 2 t) s0 Set.univ _)
  isplitl [G0]; · iexact G0
  isplitl [G1]; · iexact G1
  isplitl [H0]; · iexact H0
  isplitl [H1]; · iexact H1
  isplitl [H2]; · iexact H2
  isplitl [H3]; · iexists _; iexact H3
  isplitl [HS0]; · iexact HS0
  rw [step_out h c t hI]
  iintro ⟨G0, G1, H0, H1, H2, H3, HS0⟩
  isplitl [HS0 Hg G0 G1]
  · isplitl [HS0]
    · iexists _
      isplitr
      · ipureintro; exact step_inv h c t hI
      iexact HS0
    isplitl [Hg]; · iexact Hg
    isplitl [G0]; · iexact G0
    iexact G1
  isplitl [Ho]; · iexact Ho
  isplitl [H0]; · iexact H0
  isplitl [H1]; · iexact H1
  isplitl [H2]; · iexact H2
  iexact H3

/-- Some branch stores the output at every point. -/
theorem idle_3 (t : Fin (cfgA h).N) : (cfgA h).idle 3 ((cfgA h).grid.coords t) = false := by
  show (!(k0_cond2 (grid0.coords t) (Pipeline.Prefetch.Contents.atD (pf0 m) 1 ![0]) == 1#1) && !(k0_cond3 (grid0.coords t) (Pipeline.Prefetch.Contents.atD (pf0 m) 1 ![0]) == 1#1)) = false
  generalize Pipeline.Prefetch.Contents.atD (pf0 m) 1 ![0] = v
  by_cases hc : k0_cond2 (grid0.coords t) v = 1#1
  · simp [hc]
  · have := (cond3_iff (grid0.coords t) v).mpr hc
    simp [this]

theorem body_obligation (c : Dev nD) : BodyObligation (dats (F := F) h 0 c) (defs₀ (F := F)) Variants.none () Set.univ := fun t => by
  rw [bigSep_W0, bigSep_W0, defs₀_row]
  refine triple_restated (sound_body h c t) rfl .rfl fun _ => ?_
  rw [idle_3]
  exact .rfl

/-- The two tables held, one by one. -/
theorem tables_eq (c : Dev nD) (v : pre0.Contents (Elt F)) : (Pipeline.ΦT pre0 v c : sProp 𝕄) =
    iprop((((c : Thread nD τ).loc main_arg0) ↦{fullShare.right} v 0) ∗ (((c : Thread nD τ).loc main_arg1) ↦{fullShare.right} v 1)) := by
  unfold Pipeline.ΦT Pipeline.prefHeld
  rw [show (Finset.univ : Finset (Fin 2)) = insert 0 {1} from by decide, bigSep_insert (by decide), bigSep_singleton]
  rfl

/-- A table owned through its whole memref is its buffer. -/
theorem owns_tab0 (c : Dev nD) (q : PosShare TreeShare) (f : Vec F S164 .i32) :
    (owns (c : Thread nD τ) (Memref.whole main_arg0) q f : sProp 𝕄) = (((c : Thread nD τ).loc main_arg0) ↦{q} f) := owns_whole _ _ _ _
theorem owns_tab1 (c : Dev nD) (q : PosShare TreeShare) (f : Vec F S1 .i32) :
    (owns (c : Thread nD τ) (Memref.whole main_arg1) q f : sProp 𝕄) = (((c : Thread nD τ).loc main_arg1) ↦{q} f) := owns_whole _ _ _ _

/-- The scratch buffer, the generator register and the tables are the invariant before the first point, which asks nothing of
    the scratch. -/
theorem phi_in (c : Dev nD) : iprop(Pipeline.ΦA spec0 c ∗ Pipeline.ΦT pre0 (pf0 m) c) ⊢ (PhiM h c 0 : sProp 𝕄) := by
  rw [tables_eq]
  unfold Pipeline.ΦA PhiM
  rw [owns_tab0 c fullShare.right (tab0 m), owns_tab1 c fullShare.right (tab1 m)]
  rw [scopedRest0_eq]
  simp only [owns_whole]
  iintro ⟨⟨⟨%f0, H0⟩, Hg⟩, T0, T1⟩
  isplitl [H0]
  · iexists f0
    isplitr
    · ipureintro; intro t ht; omega
    iexact H0
  isplitl [Hg]; · iexact Hg
  isplitl [T0]; · iexact T0
  iexact T1

/-- and after the last point they are given back. -/
theorem phi_out (c : Dev nD) (k : ℕ) : (PhiM h c k : sProp 𝕄) ⊢ Pipeline.ΦA spec0 c := by
  unfold Pipeline.ΦA PhiM
  rw [scopedRest0_eq]
  simp only [owns_whole]
  iintro ⟨⟨%s0, -, H0⟩, Hg, -, -⟩
  isplitl [H0]
  · iexists s0; iexact H0
  iexact Hg

variable (m) (ρ : Dev nD → PrngReg)

/-- @main runs its host stretch, then the region. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

theorem hpf (c : Dev nD) (k : Fin 2) : V m c (pre0.ref k) = pf0 m k := by
  obtain rfl : c = 0 := Subsingleton.elim _ _
  fin_cases k
  · exact V_eq m main_arg0 (by decide) 0
  · exact V_eq m main_arg1 (by decide) 0

set_option backward.isDefEq.respectTransparency.types false in
/-- The run: every array at what the proof data computes, every semaphore at zero. -/
theorem run_main : θ_run defs (onTc (τ := τ) (main (F := F))) ⟨m, fun _ => 0, ρ⟩
    (fun r => Pipeline.FramePost (Pipeline.pin (pcfgs (F := F)) (adm m h)) (dats h) 0 (V m) r ∧ r.2.sem = fun _ => 0) :=
  Pipeline.θ_run_frameP_track (Q' := _) (pcfgs (F := F)) (adm m h) (dats h) (0 : Fin 1) launch0 defs₀ Variants.none m ρ main
    (hbody := fun c => (body_obligation h c).loose) (hshare := fun c w => by fin_cases w <;> rfl)
    (howed := fun _ _ => rfl) (V := V m) (hmain := hmain m Variants.none) (hA := A_eq h) (hpf := hpf m)
    (hin := fun c => phi_in h c) (hout := fun c => phi_out h c _)

/-- What is read off a final state: the result array, the arguments unchanged, no counter left. -/
theorem run_value : θ_run defs (onTc (τ := τ) (main (F := F))) ⟨m, fun _ => 0, ρ⟩ (fun r =>
    (∀ c : Dev nD, r.2.mem ((c.tc : Thread nD τ).loc main_v1) = (dats h 0 c).arrAt 3 (cfgA h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ hr => ⟨fun c =>
    ⟨(hr.1 c).1 3,
     ((hr.1 c).2 main_arg0 (Pipeline.mem_restRefs_of (win := spec0) main_arg0 (by decide) (by decide))).trans (V_eq m main_arg0 (by decide) c),
     ((hr.1 c).2 main_arg1 (Pipeline.mem_restRefs_of (win := spec0) main_arg1 (by decide) (by decide))).trans (V_eq m main_arg1 (by decide) c),
     ((hr.1 c).1 0).trans (((dats h 0 c).arrAt_in 0 rfl _).trans ((A_eq h c 0).trans (V_eq m main_arg2 (by decide) c))),
     ((hr.1 c).1 1).trans (((dats h 0 c).arrAt_in 1 rfl _).trans ((A_eq h c 1).trans (V_eq m main_arg3 (by decide) c))),
     ((hr.1 c).2 main_arg4 (Pipeline.mem_restRefs_of (win := spec0) main_arg4 (by decide) (by decide))).trans (V_eq m main_arg4 (by decide) c)⟩, hr.2⟩)
    (run_main m h ρ)

end Cert.DownIdeal.Moe
end
-- ==== Proof.DownSpec.lean ====
module
public import proofs.«01_k».proof.Proof.UpSpec

@[expose] public section

/-! # The expert layer's second product, as mathematics

    Rows come sorted by expert in tiles of 256, as for the first product. A live row is multiplied with its expert's matrix and
    the bias is added. The result is kept in pieces of 128: piece `p` is row `p / 16`'s piece `p % 16`. -/

noncomputable section

namespace Cert.Moe

open Idealize.ShloMosaic

/-- One expert's second product at a row and a column. -/
def prod2 (x : (⟨2, ![41984, 2048]⟩ : Shape).Idx → EReal) (w : (⟨3, ![32, 2048, 2048]⟩ : Shape).Idx → EReal)
    (b : (⟨2, ![32, 2048]⟩ : Shape).Idx → EReal) (e : Fin 32) (r : Fin 41984) (q : Fin 2048) : EReal :=
  (∑ k : Fin 2048, x (ix2 r k) * w (ix3 e k q)) + b (ix2 e q)

/-- The result at a row and a column, when `n` tiles are live. -/
def downAt (T : (⟨1, ![164]⟩ : Shape).Idx → BitVec 32) (n : ℕ) (x : (⟨2, ![41984, 2048]⟩ : Shape).Idx → EReal)
    (w : (⟨3, ![32, 2048, 2048]⟩ : Shape).Idx → EReal) (b : (⟨2, ![32, 2048]⟩ : Shape).Idx → EReal) (r : Fin 41984) (q : Fin 2048) : EReal :=
  if (tileOf r).val < n then prod2 x w b (ex T (tileOf r)) r q else 0

/-- A piece's row, and the column of its lane. -/
def rowP (p : Fin 671744) : Fin 41984 := ⟨p.val / 16, by omega⟩
def colP (p : Fin 671744) (l : Fin 128) : Fin 2048 := ⟨p.val % 16 * 128 + l.val, by omega⟩

end Cert.Moe
end
-- ==== Proof.DownBlock.lean ====
module
public import proofs.«01_k».proof.Proof.Gen.DownIdeal.Skeleton
public import Idealize.ShloMosaic.Lib.Pointwise
public import proofs.«01_k».proof.Proof.DownSpec

@[expose] public section

set_option maxRecDepth 16384

/-! # One block of the expert layer's second product, at an index -/

noncomputable section

namespace Cert.DownIdeal.Moe

open Cert.DownIdeal Cert.DownIdeal.Gen
open Idealize.ShloMosaic Idealize.ShloMosaic.TcCoe

theorem pay1_apply (w : Vec Ideal S1x2048x2048 .f32) (k q : Fin 2048) :
    k0_pay1 (F := Ideal) w (ix2 k q) = w (ix3 (0 : Fin 1) k q) := by
  pointwise [k0_pay1]
theorem pay6_apply (x : Vec Ideal S256x2048 .bf16) (w : Vec Ideal S2048x2048 .bf16) (b : Vec Ideal S1x1x2048 .f32)
    (r : Fin 256) (q : Fin 2048) :
    k0_pay6 (F := Ideal) x w b (ix2 r q) = (∑ k : Fin 2048, x (ix2 r k) * w (ix2 k q)) + b (ix3 (0 : Fin 1) (0 : Fin 1) q) := by
  pointwise [k0_pay6]
theorem pay5_apply (j : S1x4096x128.Idx) : k0_pay5 (F := Ideal) j = (0 : EReal) := by
  pointwise [k0_pay5]

end Cert.DownIdeal.Moe
end
-- ==== Proof.DownValue.lean ====
module
public import proofs.«01_k».proof.Proof.DownFrame
public import proofs.«01_k».proof.Proof.DownBlock
public import Idealize.ShloMosaic.Lib.Pipeline.ValueKit

@[expose] public section

set_option maxRecDepth 16384

/-! # What the result array holds

    Every point writes one block; the blocks cover the array; each is the block of one array, the expert layer's second
    product. -/

noncomputable section

namespace Cert.DownIdeal.Moe

open Cert.DownIdeal Cert.DownIdeal.Gen Cert.Moe
open Idealize.ShloMosaic Idealize.ShloMosaic.TcCoe
open Idealize.ShloMosaic.Pipeline (Dat Cfg Window)

variable {m : (ℓ : Loc nD τ sig) → Buf (Elt Ideal) ℓ} (h : Good (pf0 m))

/-- The arguments as arrays. -/
abbrev aX (m : (ℓ : Loc nD τ sig) → Buf (Elt Ideal) ℓ) (c : Dev nD) : Vec Ideal S41984x2048 .bf16 := m ((c : Thread nD τ).loc main_arg2)
abbrev aW (m : (ℓ : Loc nD τ sig) → Buf (Elt Ideal) ℓ) (c : Dev nD) : Vec Ideal S32x2048x2048 .f32 := m ((c : Thread nD τ).loc main_arg3)
abbrev aB (m : (ℓ : Loc nD τ sig) → Buf (Elt Ideal) ℓ) (c : Dev nD) : Vec Ideal S32x2048 .f32 := m ((c : Thread nD τ).loc main_arg4)

/-- The point's row tile and column chunk. -/
theorem pt1_lt (t : Fin (cfgA h).N) : (pt h t 1).val < 164 := (pt h t 1).isLt
theorem pt0_lt (t : Fin (cfgA h).N) : (pt h t 0).val < 1 := (pt h t 0).isLt

/-- The array's row of a block's row. -/
def row (t : Fin (cfgA h).N) (r : Fin 256) : Fin 41984 := ⟨(pt h t 1).val * 256 + r.val, by have := pt1_lt h t; omega⟩
/-- The point's tile. -/
def til (t : Fin (cfgA h).N) : Fin 164 := ⟨(pt h t 1).val, pt1_lt h t⟩

theorem te_ex (t : Fin (cfgA h).N) : te (pf0 m) (pt h t) = (ex (tab0 m) (til h t)).val := by
  unfold te ex
  have e : (ValueIdx.ix1 ⟨(pt h t 1).val, i1_lt (pt h t)⟩ : S164.Idx) = ix1 (til h t) := by
    funext a; fin_cases a; rfl
  have hl := h.1 (ix1 (til h t))
  show (tew (F := Ideal) (pt h t) (tab0 m)).toNat = _
  rw [tew_eq, e]
  exact (Nat.mod_eq_of_lt hl).symm

theorem tileOf_row (t : Fin (cfgA h).N) (r : Fin 256) : tileOf (row h t r) = til h t := by
  apply Fin.ext
  show ((pt h t 1).val * 256 + r.val) / 256 = (pt h t 1).val
  omega

/-- The point's three input blocks. -/
def b0 (c : Dev nD) (t : Fin (cfgA h).N) : Vec Ideal S256x2048 .bf16 := iblk h c 0 t
def b1 (c : Dev nD) (t : Fin (cfgA h).N) : Vec Ideal S1x2048x2048 .f32 := iblk h c 1 t
def b2 (c : Dev nD) (t : Fin (cfgA h).N) : Vec Ideal S1x1x2048 .f32 := iblk h c 2 t

/-- The row block of a live point. -/
theorem iblk0_apply (c : Dev nD) (t : Fin (cfgA h).N) (hl : live h t) (r : Fin 256) (k : Fin 2048) :
    b0 h c t (ix2 r k) = aX m c (ix2 (row h t r) k) := by
  have e : cc0_transform_0 inb_S1_S1_0 numel1_S1 (pf0 m) (pt h t) = ![(pt h t 1).val, 0] := by
    rw [ix_0 h]
    have hl' : (pt h t 1).val < nv (pf0 m) := hl
    rw [Nat.min_eq_left (by omega)]
  unfold b0 iblk aX
  rw [← V_eq m main_arg2 (by decide) c]
  refine congrArg (V m c main_arg2) (funext fun a => Fin.ext ?_)
  show cc0_transform_0 inb_S1_S1_0 numel1_S1 (pf0 m) (pt h t) a * S256x2048.size a + 1 * (ix2 r k a).val = _
  rw [e]
  fin_cases a
  · show (pt h t 1).val * 256 + 1 * r.val = (pt h t 1).val * 256 + r.val
    omega
  · show 0 * 2048 + 1 * k.val = k.val
    omega

theorem iblk1_apply (c : Dev nD) (t : Fin (cfgA h).N) (k q : Fin 2048) :
    b1 h c t (ix3 (0 : Fin 1) k q) = aW m c (ix3 (ex (tab0 m) (til h t)) k q) := by
  have e := ix_1 (pf0 m) (pt h t)
  rw [te_ex h] at e
  have := pt0_lt h t
  unfold b1 iblk aW
  rw [← V_eq m main_arg3 (by decide) c]
  refine congrArg (V m c main_arg3) (funext fun a => Fin.ext ?_)
  show cc0_transform_1 k0_off1_inb numel1_S1 (pf0 m) (pt h t) a * S1x2048x2048.size a + 1 * (ix3 (0 : Fin 1) k q a).val = _
  rw [e]
  fin_cases a
  · show (ex (tab0 m) (til h t)).val * 1 + 1 * 0 = (ex (tab0 m) (til h t)).val
    omega
  · show 0 * 2048 + 1 * k.val = k.val
    omega
  · show (pt h t 0).val * 2048 + 1 * q.val = q.val
    omega

/-- The host's reshape puts a unit axis into the bias array. -/
theorem V_v0 (c : Dev nD) : V m c main_v0 = shapeCast S32x1x2048 (aB m c) shapeCasts_S32x2048_S32x1x2048 := by
  unfold V hostOps0 aB; after_results_simp; rfl

theorem bias_cast (x : Vec Ideal S32x2048 .f32) (e : Fin 32) (q : Fin 2048) :
    shapeCast S32x1x2048 x shapeCasts_S32x2048_S32x1x2048 (ix3 e (0 : Fin 1) q) = x (ix2 e q) := by
  refine shapeCast_apply x _ _ _ ?_
  rewrite [Shape.rowMajor_val_two, Shape.rowMajor_val_three]
  show e.val * 2048 + q.val = (e.val * 1 + 0) * 2048 + q.val
  omega

theorem iblk2_apply (c : Dev nD) (t : Fin (cfgA h).N) (q : Fin 2048) :
    b2 h c t (ix3 (0 : Fin 1) (0 : Fin 1) q) = aB m c (ix2 (ex (tab0 m) (til h t)) q) := by
  have e := ix_2 (pf0 m) (pt h t)
  rw [te_ex h] at e
  have := pt0_lt h t
  rw [← bias_cast (aB m c), ← V_v0]
  unfold b2 iblk
  refine congrArg (V m c main_v0) (funext fun a => Fin.ext ?_)
  show cc0_transform_2 k0_off1_inb numel1_S1 (pf0 m) (pt h t) a * S1x1x2048.size a + 1 * (ix3 (0 : Fin 1) (0 : Fin 1) q a).val = _
  rw [e]
  fin_cases a
  · show (ex (tab0 m) (til h t)).val * 1 + 1 * 0 = (ex (tab0 m) (til h t)).val
    omega
  · rfl
  · show (pt h t 0).val * 2048 + 1 * q.val = q.val
    omega

/-- The array the run leaves. -/
def resA (m : (ℓ : Loc nD τ sig) → Buf (Elt Ideal) ℓ) (c : Dev nD) : Vec Ideal S1x671744x128 .f32 :=
  fun i => downAt (tab0 m) (nv (pf0 m)) (aX m c) (aW m c) (aB m c) (rowP (i 1)) (colP (i 1) (i 2))

theorem out_live (c : Dev nD) (t : Fin (cfgA h).N) (hl : live h t) :
    outT h c t = cut (k0_pay6 (b0 h c t) (k0_pay1 (b1 h c t)) (b2 h c t)) := by
  unfold outT; exact if_pos hl
theorem out_dead (c : Dev nD) (t : Fin (cfgA h).N) (hl : ¬ live h t) : outT h c t = k0_pay5 (F := Ideal) := by
  unfold outT; exact if_neg hl

/-- The array's piece of a block's piece. -/
def pce (t : Fin (cfgA h).N) (p : Fin 4096) : Fin 671744 := ⟨(pt h t 1).val * 4096 + p.val, by have := pt1_lt h t; omega⟩

/-- A block's piece: its row, and the column of its lane. -/
def rowB (p : Fin 4096) : Fin 256 := ⟨p.val / 16, by omega⟩
def colB (p : Fin 4096) (l : Fin 128) : Fin 2048 := ⟨p.val % 16 * 128 + l.val, by omega⟩

theorem rowP_pce (t : Fin (cfgA h).N) (p : Fin 4096) : rowP (pce h t p) = row h t (rowB p) := by
  apply Fin.ext
  show ((pt h t 1).val * 4096 + p.val) / 16 = (pt h t 1).val * 256 + p.val / 16
  omega
theorem colP_pce (t : Fin (cfgA h).N) (p : Fin 4096) (l : Fin 128) : colP (pce h t p) l = colB p l := by
  apply Fin.ext
  show ((pt h t 1).val * 4096 + p.val) % 16 * 128 + l.val = p.val % 16 * 128 + l.val
  omega

theorem cut_apply (y : FVec Ideal S256x2048 .f32) (p : Fin 4096) (l : Fin 128) : cut y (ix3 (0 : Fin 1) p l) = y (ix2 (rowB p) (colB p l)) := rfl

/-- A point's block is the array's. -/
theorem outT_apply (c : Dev nD) (t : Fin (cfgA h).N) (p : Fin 4096) (l : Fin 128) :
    outT h c t (ix3 (0 : Fin 1) p l) = downAt (tab0 m) (nv (pf0 m)) (aX m c) (aW m c) (aB m c) (row h t (rowB p)) (colB p l) := by
  unfold downAt
  rw [tileOf_row h t]
  by_cases hl : live h t
  · have hl' : (til h t).val < nv (pf0 m) := hl
    rw [out_live h c t hl, if_pos hl', cut_apply, pay6_apply, iblk2_apply]
    unfold prod2
    simp only [pay1_apply, iblk1_apply, iblk0_apply h c t hl]
  · have hl' : ¬ (til h t).val < nv (pf0 m) := hl
    rw [out_dead h c t hl, if_neg hl', pay5_apply]

theorem emb_3 (t : Fin (cfgA h).N) (y : S1x4096x128.Idx) :
    (((cfgA h).win 3).blk t).view.emb y = (ix3 (0 : Fin 1) (pce h t (y 1)) (y 2) : S1x671744x128.Idx) := by
  have h0 : (y 0).val < 1 := (y 0).isLt
  have := pt0_lt h t
  refine funext fun a => Fin.ext ?_
  show cc0_transform_3 (pt h t) a * S1x4096x128.size a + 1 * (y a).val = _
  rw [ix_3]
  fin_cases a
  · show (pt h t 0).val * 1 + 1 * (y 0).val = 0
    omega
  · show (pt h t 1).val * 4096 + 1 * (y 1).val = (pt h t 1).val * 4096 + (y 1).val
    omega
  · show 0 * 128 + 1 * (y 2).val = (y 2).val
    omega

/-- Every point writes its block back: the next point's is another. -/
theorem flush_3 (t : Fin (cfgA h).N) : ((cfgA h).win 3).flush t = true := by
  unfold Window.flush
  rw [Bool.and_eq_true]
  refine ⟨rfl, ?_⟩
  rw [Bool.or_eq_true]
  by_cases e : t.val + 1 = (cfgA h).N
  · exact .inl (by simpa using e)
  · refine .inr (decide_eq_true ⟨Nat.lt_of_le_of_ne t.isLt e, ?_⟩)
    intro heq
    have hN : (cfgA h).N = 164 := rfl
    have e1 := congrFun heq (1 : Fin 3)
    have a : cc0_transform_3 (pt h ⟨t.val + 1, Nat.lt_of_le_of_ne t.isLt e⟩) (1 : Fin 3) = cc0_transform_3 (pt h t) (1 : Fin 3) := e1
    rw [ix_3, ix_3] at a
    have b : (grid0.coords ⟨t.val + 1, Nat.lt_of_le_of_ne t.isLt e⟩ 1).val = (grid0.coords t 1).val := a
    rw [(coords_val _).2, (coords_val _).2] at b
    have := t.isLt
    simp only at b
    omega

theorem cover_3 (i : S1x671744x128.Idx) : ∃ t : Fin (cfgA h).N, ((cfgA h).win 3).flush t = true ∧ i ∈ (((cfgA h).win 3).blk t).view.set := by
  have h0 : (i 0).val < 1 := (i 0).isLt
  have h1 : (i 1).val < 671744 := (i 1).isLt
  let t : Fin (cfgA h).N := ⟨(i 1).val / 4096, by show _ < 164; omega⟩
  have hv : t.val = (i 1).val / 4096 := rfl
  refine ⟨t, flush_3 h t, ?_⟩
  let y : S1x4096x128.Idx := ix3 (0 : Fin 1) ⟨(i 1).val % 4096, Nat.mod_lt _ (by decide)⟩ (i 2)
  have e : (((cfgA h).win 3).blk t).view.emb y = i := by
    rw [emb_3]
    have c1 : (pt h t 1).val = t.val % 164 := (coords_val t).2
    refine funext fun a => Fin.ext ?_
    fin_cases a
    · show 0 = (i 0).val
      omega
    · show (pt h t 1).val * 4096 + (i 1).val % 4096 = (i 1).val
      rw [c1, hv]; omega
    · rfl
  rw [← e]
  exact (((cfgA h).win 3).blk t).view.emb_mem_set y

theorem outT_emb (c : Dev nD) (t : Fin (cfgA h).N) (y : S1x4096x128.Idx) :
    outT h c t y = resA m c ((((cfgA h).win 3).blk t).view.emb y) := by
  obtain ⟨p, l, rfl⟩ : ∃ (p : Fin 4096) (l : Fin 128), y = ix3 (0 : Fin 1) p l :=
    ⟨y 1, y 2, by have h0 : (y 0).val < 1 := (y 0).isLt; funext a; fin_cases a; exacts [Fin.ext (show (y 0).val = 0 by omega), rfl, rfl]⟩
  refine (outT_apply h c t p l).trans ?_
  rw [emb_3, ← rowP_pce, ← colP_pce h t]
  rfl

theorem arr_3 (c : Dev nD) : (dats h 0 c).arrAt 3 (cfgA h).N = resA m c :=
  Dat.arrAt_eq_of_emb (dats h 0 c) 3 (resA m c) (fun t _ y => outT_emb h c t y) (cover_3 h)

end Cert.DownIdeal.Moe
end
-- ==== Proof.DownRef.lean ====
module
public import proofs.«01_k».proof.Proof.Gen.DownReferenceIdeal.Read
public import Idealize.ShloMosaic.Lib.IdealHost
public import Idealize.ShloMosaic.Lib.Routing.Ops
public import Idealize.ShloMosaic.Lib.StableHlo.Predicate
public import proofs.«01_k».proof.Proof.DownSpec

@[expose] public section

set_option maxRecDepth 16384

/-! # The reference, at an index -/

noncomputable section

namespace Cert.DownReferenceIdeal.Moe

open Cert.DownReferenceIdeal Cert.DownReferenceIdeal.Gen Cert.DownReferenceIdeal.Read Cert.Moe
open Idealize.ShloMosaic Idealize.ShloMosaic.TcCoe

/-- One expert's weight matrix, taken by the table. -/
theorem gatherW {α : Type} (x : S32x2048x2048.Idx → α) (idx : IVec S164x1 32) (T : Fin 164) (k : Fin 2048) (q : Fin 2048) (e : Fin 32)
    (he : (idx (ix2 T (0 : Fin 1))).toInt.toNat = e.val) :
    Host.gather gather_S32x2048x2048_S164x1_S164x2048x2048_12_0_n_n_0_1_120482048 x idx (ix3 T k q) = x (ix3 e k q) := by
  unfold Host.gather
  refine congrArg x (funext fun a => Fin.ext ?_)
  show GatherDims.start _ (ix3 T k q) idx a + GatherDims.batchCoord _ (ix3 T k q) a + GatherDims.offCoord _ (ix3 T k q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ gather_S32x2048x2048_S164x1_S164x2048x2048_12_0_n_n_0_1_120482048.startIndexMap from List.mem_singleton.mpr rfl)]
    have hsi : gather_S32x2048x2048_S164x1_S164x2048x2048_12_0_n_n_0_1_120482048.siIdx (ix3 T k q) ⟨List.idxOf (⟨0, by decide⟩ : Fin 3) gather_S32x2048x2048_S164x1_S164x2048x2048_12_0_n_n_0_1_120482048.startIndexMap,
        List.idxOf_lt_length_iff.2 (List.mem_singleton.mpr rfl)⟩ = ix2 T (0 : Fin 1) := by
      funext b; refine Fin.ext ?_
      match b with
      | ⟨0, _⟩ => rfl
      | ⟨1, _⟩ => rfl
    rw [hsi, he]
    show min e.val (32 - 1) + 0 + 0 = e.val
    omega
  | ⟨1, _⟩ =>
    unfold GatherDims.start GatherDims.offCoord
    rw [dif_neg (show (⟨1, by decide⟩ : Fin 3) ∉ gather_S32x2048x2048_S164x1_S164x2048x2048_12_0_n_n_0_1_120482048.startIndexMap from by decide),
      dif_pos (show (⟨1, by decide⟩ : Fin 3) ∈ gather_S32x2048x2048_S164x1_S164x2048x2048_12_0_n_n_0_1_120482048.sKept from by decide)]
    show 0 + 0 + k.val = k.val
    omega
  | ⟨2, _⟩ =>
    unfold GatherDims.start GatherDims.offCoord
    rw [dif_neg (show (⟨2, by decide⟩ : Fin 3) ∉ gather_S32x2048x2048_S164x1_S164x2048x2048_12_0_n_n_0_1_120482048.startIndexMap from by decide),
      dif_pos (show (⟨2, by decide⟩ : Fin 3) ∈ gather_S32x2048x2048_S164x1_S164x2048x2048_12_0_n_n_0_1_120482048.sKept from by decide)]
    show 0 + 0 + q.val = q.val
    omega

/-- Its bias row. -/
theorem gatherB {α : Type} (x : S32x2048.Idx → α) (idx : IVec S164x1 32) (T : Fin 164) (q : Fin 2048) (e : Fin 32)
    (he : (idx (ix2 T (0 : Fin 1))).toInt.toNat = e.val) :
    Host.gather gather_S32x2048_S164x1_S164x2048_1_0_n_n_0_1_12048 x idx (ix2 T q) = x (ix2 e q) := by
  unfold Host.gather
  refine congrArg x (funext fun a => Fin.ext ?_)
  show GatherDims.start _ (ix2 T q) idx a + GatherDims.batchCoord _ (ix2 T q) a + GatherDims.offCoord _ (ix2 T q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gather_S32x2048_S164x1_S164x2048_1_0_n_n_0_1_12048.startIndexMap from List.mem_singleton.mpr rfl)]
    have hsi : gather_S32x2048_S164x1_S164x2048_1_0_n_n_0_1_12048.siIdx (ix2 T q) ⟨List.idxOf (⟨0, by decide⟩ : Fin 2) gather_S32x2048_S164x1_S164x2048_1_0_n_n_0_1_12048.startIndexMap,
        List.idxOf_lt_length_iff.2 (List.mem_singleton.mpr rfl)⟩ = ix2 T (0 : Fin 1) := by
      funext b; refine Fin.ext ?_
      match b with
      | ⟨0, _⟩ => rfl
      | ⟨1, _⟩ => rfl
    rw [hsi, he]
    show min e.val (32 - 1) + 0 + 0 = e.val
    omega
  | ⟨1, _⟩ =>
    unfold GatherDims.start GatherDims.offCoord
    rw [dif_neg (show (⟨1, by decide⟩ : Fin 2) ∉ gather_S32x2048_S164x1_S164x2048_1_0_n_n_0_1_12048.startIndexMap from by decide),
      dif_pos (show (⟨1, by decide⟩ : Fin 2) ∈ gather_S32x2048_S164x1_S164x2048_1_0_n_n_0_1_12048.sKept from by decide)]
    show 0 + 0 + q.val = q.val
    omega

variable (x0 : Vec Ideal S164 .i32) (x1 : Vec Ideal S1 .i32) (x2 : Vec Ideal S41984x2048 .bf16) (x3 : Vec Ideal S32x2048x2048 .f32) (x4 : Vec Ideal S32x2048 .f32)

/-- A word in range is not wrapped. -/
theorem wrap_word (v : BitVec 32) (h : v.toNat < 32) :
    (Scalar.select (IntOp.cmpi .slt v 0#32) (IntOp.addi v 32#32) v).toInt.toNat = v.toNat % 32 := by
  have e : ∀ u : Fin 32, (Scalar.select (IntOp.cmpi .slt (BitVec.ofNat 32 u.val) 0#32) (IntOp.addi (BitVec.ofNat 32 u.val) 32#32) (BitVec.ofNat 32 u.val)).toInt.toNat = u.val % 32 := by
    decide +kernel
  have hv : v = BitVec.ofNat 32 v.toNat := by simp
  have := e ⟨v.toNat, h⟩
  rw [hv]
  simpa using this

theorem idx7 (h : ∀ i, (x0 i).toNat < 32) (T : Fin 164) : (val_main_v7 (F := Ideal) x0 (ix2 T (0 : Fin 1))).toInt.toNat = (ex x0 T).val := by
  rw [val_main_v7_apply, val_main_v6_apply, val_main_v3_apply, val_main_v5_apply, val_main_v2_apply, val_main_v4_apply]
  have e : idx_main_v7 (ix2 T (0 : Fin 1)) = ix1 T := by funext a; fin_cases a; rfl
  rw [e]
  exact wrap_word _ (h _)
theorem idx15 (h : ∀ i, (x0 i).toNat < 32) (T : Fin 164) : (val_main_v15 (F := Ideal) x0 (ix2 T (0 : Fin 1))).toInt.toNat = (ex x0 T).val := by
  rw [val_main_v15_apply, val_main_v14_apply, val_main_v11_apply, val_main_v13_apply, val_main_v10_apply, val_main_v12_apply]
  have e : idx_main_v15 (ix2 T (0 : Fin 1)) = ix1 T := by funext a; fin_cases a; rfl
  rw [e]
  exact wrap_word _ (h _)

theorem row_lt (T : Fin 164) (r : Fin 256) : T.val * 256 + r.val < 41984 := by omega

/-- The product and bias at a tile's row. -/
theorem v19_apply (h : ∀ i, (x0 i).toNat < 32) (T : Fin 164) (r : Fin 256) (q : Fin 2048) :
    val_main_v19 (F := Ideal) x0 x2 x3 x4 (ix3 T r q) = prod2 x2 x3 x4 (ex x0 T) ⟨T.val * 256 + r.val, row_lt T r⟩ q := by
  rw [val_main_v19_apply, val_main_v9_apply, val_main_v18_apply, val_main_v17_apply]
  unfold prod2
  refine congrArg₂ (fun a b : EReal => a + b) (Finset.sum_congr rfl fun k _ => congrArg₂ (fun a b : EReal => a * b) ?_ ?_) ?_
  · rw [val_main_v1_apply, val_main_v0_apply]
    refine congrArg x2 (funext fun a => Fin.ext ?_)
    fin_cases a
    · show ((T.val * 256 + r.val) * 2048 + k.val) / 2048 = T.val * 256 + r.val
      omega
    · show ((T.val * 256 + r.val) * 2048 + k.val) % 2048 = k.val
      omega
  · unfold val_main_v8
    have e : ridx_main_v9 (ix3 T r q) k = ix3 T k q := by funext a; fin_cases a <;> rfl
    rw [e]
    exact gatherW x3 _ T k q _ (idx7 x0 h T)
  · unfold val_main_v16
    have e : idx_main_v17 (idx_main_v18 (ix3 T r q)) = ix2 T q := by funext a; fin_cases a <;> rfl
    rw [e]
    exact gatherB x4 _ T q _ (idx15 x0 h T)

/-- The mask: the tile is live. -/
theorem v23_iff (hn : 0 < (x1 (ix1 (0 : Fin 1))).toInt) (T : Fin 164) :
    val_main_v23 (F := Ideal) x1 (ix1 T) = 1#1 ↔ T.val < (x1 (ix1 (0 : Fin 1))).toNat := by
  rw [val_main_v23_apply, val_main_v20_apply, val_main_v22_apply]
  have e : val_main_v21 (F := Ideal) x1 (idx_main_v22 (ix1 T)) = x1 (ix1 (0 : Fin 1)) := by
    unfold val_main_v21
    refine (shapeCast_apply x1 _ _ (ix1 (0 : Fin 1)) ?_)
    have a := (S1.rowMajor (ix1 (0 : Fin 1))).isLt
    have b := (S_.rowMajor (idx_main_v22 (ix1 T))).isLt
    have ha : S1.numel = 1 := by decide
    have hb : S_.numel = 1 := by decide
    show (S1.rowMajor (ix1 (0 : Fin 1))).val = (S_.rowMajor (idx_main_v22 (ix1 T))).val
    omega
  rw [e]
  show BitVec.ofBool (decide ((BitVec.ofNat 32 T.val).toInt < (x1 (ix1 (0 : Fin 1))).toInt)) = 1#1 ↔ _
  obtain ⟨h1, h2, h3⟩ := Words.nat_of_pos hn
  rw [StableHlo.Predicate.ofBool_eq_one_iff, decide_eq_true_iff, Words.toInt_small T.isLt, h1]
  omega

/-- The reference's result at an index. -/
theorem res_apply (h : ∀ i, (x0 i).toNat < 32) (hn : 0 < (x1 (ix1 (0 : Fin 1))).toInt) (p : Fin 671744) (l : Fin 128) :
    val_main_v26 (F := Ideal) x0 x1 x2 x3 x4 (ix3 (0 : Fin 1) p l) = downAt x0 (x1 (ix1 (0 : Fin 1))).toNat x2 x3 x4 (rowP p) (colP p l) := by
  rw [val_main_v26_apply]
  have e : idx_main_v26 (ix3 (0 : Fin 1) p l) = ix3 (tileOf (rowP p)) ⟨(rowP p).val % 256, Nat.mod_lt _ (by decide)⟩ (colP p l) := by
    refine funext fun a => Fin.ext ?_
    fin_cases a
    · show ((0 * 671744 + p.val) * 128 + l.val) / 524288 = p.val / 16 / 256
      omega
    · show ((0 * 671744 + p.val) * 128 + l.val) / 2048 % 256 = p.val / 16 % 256
      omega
    · show ((0 * 671744 + p.val) * 128 + l.val) % 2048 = p.val % 16 * 128 + l.val
      omega
  rw [e]
  generalize rowP p = r
  generalize colP p l = q
  rw [val_main_v25_apply, val_main_call0_v1_apply, val_main_v24_apply, val_main_call0_v2_apply, val_main_call0_v0_apply, val_main_cst_apply]
  have e2 : idx_main_v24 (idx_main_call0_v1 (ix3 (tileOf r) ⟨r.val % 256, Nat.mod_lt _ (by decide)⟩ q)) = ix1 (tileOf r) := by
    funext a; fin_cases a; rfl
  have er : (⟨(tileOf r).val * 256 + (⟨r.val % 256, Nat.mod_lt _ (by decide)⟩ : Fin 256).val, row_lt _ _⟩ : Fin 41984) = r := by
    refine Fin.ext ?_
    show r.val / 256 * 256 + r.val % 256 = r.val
    omega
  rw [e2, v19_apply x0 x2 x3 x4 h, er]
  unfold downAt Scalar.select
  by_cases hl : (tileOf r).val < (x1 (ix1 (0 : Fin 1))).toNat
  · rw [if_pos hl]; exact if_pos ((v23_iff x1 hn _).mpr hl)
  · rw [if_neg hl]
    exact (if_neg (fun c => hl ((v23_iff x1 hn _).mp c))).trans Ideal.ofBits_zero_f32

end Cert.DownReferenceIdeal.Moe
end
-- ==== Proof.DownClaims.lean ====
module
public import proofs.«01_k».proof.Defs
public import proofs.«01_k».proof.Proof.DownPre
public import proofs.«01_k».proof.Proof.DownValue
public import proofs.«01_k».proof.Proof.DownRef
public import proofs.«01_k».proof.Proof.DownFrameB
public import Idealize.ShloMosaic.Lib.Quiescent

@[expose] public section

/-! # The claims about the expert layer's second product -/

noncomputable section

namespace Cert.Moe

open Idealize.ShloMosaic Idealize.SL.Sem Idealize.ShloMosaic.TcCoe

theorem good_down (m : (ℓ : Loc Cert.Down.nD Cert.Down.τ Cert.Down.sig) → Buf (Elt Bits) ℓ) (h : Cert.Pre_Down m) : Cert.Down.Moe.Good (Cert.Down.Moe.pf0 m) :=
  ⟨(Cert.Pre_down_tables.read (h 0)).1, (Cert.Pre_down_tables.read (h 0)).2 _⟩
theorem good_downIdeal (m : (ℓ : Loc Cert.DownIdeal.nD Cert.DownIdeal.τ Cert.DownIdeal.sig) → Buf (Elt Ideal) ℓ) (h : Cert.Pre_DownIdeal m) :
    Cert.DownIdeal.Moe.Good (Cert.DownIdeal.Moe.pf0 m) :=
  ⟨(Cert.Pre_down_tables.read (h 0)).1, (Cert.Pre_down_tables.read (h 0)).2 _⟩

theorem frame_Down : Cert.quiescent_Down := by
  intro m g h
  exact (θ_run Cert.Down.defs _ _).mono (fun _ hr => ⟨fun c => (hr.1 c).2, hr.2⟩) (Cert.Down.Moe.run_value m (good_down m h) g)

theorem frame_DownIdeal : Cert.quiescent_DownIdeal := by
  intro m g h
  exact (θ_run Cert.DownIdeal.defs _ _).mono (fun _ hr => ⟨fun c => (hr.1 c).2, hr.2⟩) (Cert.DownIdeal.Moe.run_value m (good_downIdeal m h) g)

theorem frame_DownReferenceIdeal : Cert.quiescent_DownReferenceIdeal := by
  intro m g _
  exact (θ_run Cert.DownReferenceIdeal.defs _ _).mono (fun r h => ⟨fun c => (h c).2, sem_eq_zero_of_no_sems (by decide) r.2⟩)
    (Cert.DownReferenceIdeal.Value.run m g)

theorem frame_DownReferenceIdeal_pre : Cert.quiescent_DownReferenceIdeal_pre_down_tables := fun m g _ => frame_DownReferenceIdeal m g trivial

/-- The number of live tiles, as the specification reads it. -/
theorem nv_eq_down (m : (ℓ : Loc Cert.DownIdeal.nD Cert.DownIdeal.τ Cert.DownIdeal.sig) → Buf (Elt Ideal) ℓ) :
    Cert.DownIdeal.Moe.nv (Cert.DownIdeal.Moe.pf0 m) = (Cert.DownIdeal.Moe.tab1 m (ix1 (0 : Fin 1))).toNat := by
  unfold Cert.DownIdeal.Moe.nv Cert.DownIdeal.Moe.nvw
  refine congrArg BitVec.toNat (congrArg (Cert.DownIdeal.Moe.tab1 m) (funext fun a => Fin.ext ?_))
  fin_cases a
  rfl

theorem alg_down : Cert.algebraic_DownIdeal_DownReferenceIdeal := by
  intro m g m' g' h hargs
  have hg := good_downIdeal m h
  refine ⟨fun c => Cert.DownIdeal.Moe.resA m c, ?_, ?_⟩
  · refine (θ_run Cert.DownIdeal.defs _ _).mono (fun _ hr c => ?_) (Cert.DownIdeal.Moe.run_value m hg g)
    exact ⟨(hr.1 c).1.trans (Cert.DownIdeal.Moe.arr_3 hg c), (hr.1 c).2⟩
  · refine (θ_run Cert.DownReferenceIdeal.defs _ _).mono (fun _ hr c => ?_) (Cert.DownReferenceIdeal.Value.run m' g')
    refine ⟨(hr c).1.trans ?_, (hr c).2⟩
    obtain ⟨e0, e1, e2, e3, e4⟩ := hargs c
    rw [Cert.DownReferenceIdeal.Read.val_main_v26_eq, e0, e1, e2, e3, e4]
    obtain rfl : c = 0 := Subsingleton.elim _ _
    have hp := Cert.Pre_down_tables.read (h 0)
    funext i
    obtain ⟨p, l, rfl⟩ : ∃ (p : Fin 671744) (l : Fin 128), i = ix3 (0 : Fin 1) p l :=
      ⟨i 1, i 2, by have h0 : (i 0).val < 1 := (i 0).isLt; funext a; fin_cases a; exacts [Fin.ext (show (i 0).val = 0 by omega), rfl, rfl]⟩
    refine (Cert.DownReferenceIdeal.Moe.res_apply _ _ _ _ _ hp.1 (hp.2 _) p l).trans ?_
    unfold Cert.DownIdeal.Moe.resA
    rw [nv_eq_down]
    rfl

end Cert.Moe
end
-- ==== Proof.LayerSpec.lean ====
module
public import Idealize.ShloMosaic.Lib.Pointwise

@[expose] public section

/-! # The layer's row operations, as mathematics

    Each takes one row of a matrix and gives one element of the row that follows from it. The numbers that are written out in
    binary are the program's own single-precision words. -/

noncomputable section

namespace Cert.Layer

open Idealize.ShloMosaic

/-- A word of single precision as a real number. -/
abbrev word (b : BitVec 32) : EReal := Ideal.ofBits .f32 b

/-- A row divided by the root of its mean square (over `n` columns, a millionth added), times a gain. -/
def rms {k : ℕ} (n : EReal) (x g : Fin k → EReal) (q : Fin k) : EReal :=
  x q * Ideal.rsqrt (Ideal.div (∑ j, x j * x j) n + word 0x358637BD#32) * g q

/-- The smooth step: half the element, times one plus the hyperbolic tangent of a cubic. -/
def gelu (a : EReal) : EReal :=
  a * (word 0x3F000000#32 * (1 + Ideal.tanh (word 0x3F4C422A#32 * (a + word 0x3D372713#32 * (a * a * a)))))

/-- A row's mean over its 1024 columns, and the mean square of what is left. -/
def mean (y : Fin 1024 → EReal) : EReal := Ideal.div (∑ j, y j) (word 0x44800000#32)
def var (y : Fin 1024 → EReal) : EReal := Ideal.div (∑ j, (y j - mean y) * (y j - mean y)) (word 0x44800000#32)

/-- A row less its mean, over its spread, times a gain and with a shift. -/
def lnorm (y g b : Fin 1024 → EReal) (q : Fin 1024) : EReal :=
  (y q - mean y) * Ideal.rsqrt (var y + word 0x358637BD#32) * g q + b q

/-- The logistic step. -/
def sigma (a : EReal) : EReal := Ideal.div 1 (1 + Ideal.exp (0 - a))

/-- A row times a matrix's column. -/
def prod {k n : ℕ} (x : Fin k → EReal) (w : (⟨2, ![k, n]⟩ : Shape).Idx → EReal) (q : Fin n) : EReal :=
  ∑ j, x j * w (ix2 j q)

/-- A row of the joint projection at one of its 9216 columns: the row is normed first. -/
def proj (x g : Fin 2048 → EReal) (w : (⟨3, ![1, 2048, 9216]⟩ : Shape).Idx → EReal) (q : Fin 9216) : EReal :=
  ∑ j, rms (word 0x45000000#32) x g j * w (ix3 (0 : Fin 1) j q)

/-- The projection's column that is column `q` of the slice starting at `o`. -/
def col {n : ℕ} (o : ℕ) (h : o + n ≤ 9216) (q : Fin n) : Fin 9216 := ⟨o + q.val, by omega⟩

/-- The stream's element plus the per-layer embedding's product, gated. -/
def embed (h a e : EReal) : EReal := h + sigma a * e

end Cert.Layer
end
-- ==== Proof.MixBlock.lean ====
module
public import proofs.«01_k».proof.Proof.Gen.MixIdeal.Skeleton
public import Idealize.ShloMosaic.Lib.Pointwise
public import proofs.«01_k».proof.Proof.LayerSpec

@[expose] public section

set_option maxRecDepth 16384

/-! # The blocks of the norm and of the projection's four calls, at an index -/

noncomputable section

namespace Cert.MixIdeal.Layer

open Cert.MixIdeal Cert.MixIdeal.Gen Cert.Layer
open Idealize.ShloMosaic Idealize.ShloMosaic.TcCoe

theorem pay0_apply (x : Vec Ideal S768x2048 .f32) (g : Vec Ideal S1x2048 .f32) (r : Fin 768) (q : Fin 2048) :
    k0_pay1 (F := Ideal) x g (ix2 r q)
      = rms (word 0x45000000#32) (fun j => x (ix2 r j)) (fun j => g (ix2 (0 : Fin 1) j)) q := by
  unfold rms
  pointwise [k0_pay1]

variable (x : Vec Ideal S768x2048 .bf16) (w : Vec Ideal S2048x1024 .bf16) (r : Fin 768) (q : Fin 1024)

theorem pay1_apply : k1_pay1 (F := Ideal) x w (ix2 r q) = prod (fun j => x (ix2 r j)) w q := by
  unfold prod
  pointwise [k1_pay1]
theorem pay1'_apply : k1_pay2 (F := Ideal) x w (ix2 r q) = prod (fun j => x (ix2 r j)) w q :=
  pay1_apply x w r q
theorem pay2_apply : k2_pay1 (F := Ideal) x w (ix2 r q) = gelu (prod (fun j => x (ix2 r j)) w q) := by
  unfold gelu prod
  pointwise [k2_pay1]
theorem pay3_apply (g b : Vec Ideal S1x1024 .f32) :
    k3_pay1 (F := Ideal) (k3_pay2 x w g) (k3_pay3 b) (ix2 r q)
      = lnorm (fun p => gelu (prod (fun j => x (ix2 r j)) w p)) (fun p => g (ix2 (0 : Fin 1) p)) (fun p => b (ix2 (0 : Fin 1) p)) q := by
  unfold lnorm var mean gelu prod
  pointwise [k3_pay1, k3_pay2, k3_pay3]
theorem pay4_apply : k4_pay1 (F := Ideal) x w (ix2 r q) = sigma (prod (fun j => x (ix2 r j)) w q) := by
  unfold sigma prod
  pointwise [k4_pay1]

end Cert.MixIdeal.Layer
end
-- ==== Proof.MixValue.lean ====
module
public import proofs.«01_k».proof.Proof.Gen.MixIdeal.Frame
public import proofs.«01_k».proof.Proof.MixBlock
public import Idealize.ShloMosaic.Lib.Pipeline.ValueKit

@[expose] public section

set_option maxRecDepth 16384

/-! # What each call's results hold

    A call is entered with the buffers holding `V`. Its points write blocks that cover each result; each block is the block of
    one array, the call's row operation on the rows `V` has. -/

noncomputable section

namespace Cert.MixIdeal.Layer

open Cert.MixIdeal Cert.MixIdeal.Gen Cert.Layer
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-- The buffers the calls read: the rows and the norm's gain, the normed rows, the weights, the layer norm's gain and shift. -/
abbrev bX : Vec Ideal S8448x2048 .f32 := V c main_v2
abbrev bG : Vec Ideal S1x2048 .f32 := V c main_v6
abbrev bN : Vec Ideal S8448x2048 .bf16 := V c main_v7
abbrev bW : Vec Ideal S2048x9216 .bf16 := V c main_v4
abbrev bA : Vec Ideal S1x1024 .f32 := V c main_v11
abbrev bB : Vec Ideal S1x1024 .f32 := V c main_v13

/-- The row of the whole at a row of tile `t`. -/
def row (t : ℕ) (h : t < 11) (r : Fin 768) : Fin 8448 := ⟨t * 768 + r.val, by omega⟩

/-- A normed row times the weights' column `o + q`. -/
def pcol {n : ℕ} (o : ℕ) (h : o + n ≤ 9216) (r : Fin 8448) (q : Fin n) : EReal := prod (fun j => bN V c (ix2 r j)) (bW V c) (col o h q)

/-! ## The norm -/

theorem ix0 : ∀ t : Fin grid0.N, win0_0.index t = ![t.val, 0] ∧ win0_1.index t = ![0, 0] ∧ win0_2.index t = ![t.val, 0] := by
  decide +kernel

def x0 (t : Fin cfg0.N) : Vec Ideal S768x2048 .f32 := iblk0 V c 0 t
def g0 (t : Fin cfg0.N) : Vec Ideal S1x2048 .f32 := iblk0 V c 1 t

theorem x0_apply (t : Fin cfg0.N) (r : Fin 768) (k : Fin 2048) : x0 V c t (ix2 r k) = bX V c (ix2 (row t.val t.isLt r) k) := by
  have e := (ix0 t).1
  unfold x0
  blk_ext [iblk0, e, row]
theorem g0_apply (t : Fin cfg0.N) (k : Fin 2048) : g0 V c t (ix2 (0 : Fin 1) k) = bG V c (ix2 (0 : Fin 1) k) := by
  have e := (ix0 t).2.1
  unfold g0
  blk_ext [iblk0, e]

def res0 : Vec Ideal S8448x2048 .bf16 := fun i =>
  rms (word 0x45000000#32) (fun j => bX V c (ix2 (i 0) j)) (fun j => bG V c (ix2 (0 : Fin 1) j)) (i 1)

theorem arr0 : (dat0 V c).arrAt 2 cfg0.N = res0 V c := by
  refine (dat0 V c).arrAt_eq_of_covers 2 _ (by decide +kernel) fun t hf y => ?_
  have e := (ix0 t).2.2
  obtain ⟨r, q, rfl⟩ : ∃ (r : Fin 768) (q : Fin 2048), y = ix2 r q := ⟨y 0, y 1, by funext a; fin_cases a <;> rfl⟩
  blk_simp
  rw [after0_2]
  frame_out
  refine (pay0_apply (x0 V c t) (g0 V c t) r q).trans ?_
  have eb : (((cfg0.win 2).blk t).view.emb (ix2 r q)) = (ix2 (row t.val t.isLt r) q : S8448x2048.Idx) := by
    blk_ext [e, row]
  rw [eb]
  simp only [x0_apply, g0_apply]
  rfl

/-! ## The values' columns, copied twice -/

theorem ix1' : ∀ t : Fin grid1.N, win1_0.index t = ![t.val, 0] ∧ win1_1.index t = ![0, 2] ∧ win1_2.index t = ![t.val, 0]
    ∧ win1_3.index t = ![t.val, 0] := by decide +kernel

def x1 (t : Fin cfg1.N) : Vec Ideal S768x2048 .bf16 := iblk1 V c 0 t
def w1 (t : Fin cfg1.N) : Vec Ideal S2048x1024 .bf16 := iblk1 V c 1 t

theorem prod1 (t : Fin cfg1.N) (r : Fin 768) (q : Fin 1024) :
    prod (fun j => x1 V c t (ix2 r j)) (w1 V c t) q = pcol V c 2048 (by omega) (row t.val t.isLt r) q := by
  have e := (ix1' t).1
  have e' := (ix1' t).2.1
  unfold pcol prod x1 w1
  refine Finset.sum_congr rfl fun k _ => ?_
  congr 1 <;> blk_ext [iblk1, e, e', row, col]

def res1 : Vec Ideal S8448x1024 .f32 := fun i => pcol V c (n := 1024) 2048 (by omega) (i 0) (i 1)

theorem arr1 : (dat1 V c).arrAt 2 cfg1.N = res1 V c := by
  refine (dat1 V c).arrAt_eq_of_covers 2 _ (by decide +kernel) fun t hf y => ?_
  have e := (ix1' t).2.2.1
  obtain ⟨r, q, rfl⟩ : ∃ (r : Fin 768) (q : Fin 1024), y = ix2 r q := ⟨y 0, y 1, by funext a; fin_cases a <;> rfl⟩
  blk_simp
  rw [after1_2]
  frame_out
  refine (pay1_apply (x1 V c t) (w1 V c t) r q).trans ((prod1 V c t r q).trans ?_)
  have eb : (((cfg1.win 2).blk t).view.emb (ix2 r q)) = (ix2 (row t.val t.isLt r) q : S8448x1024.Idx) := by
    blk_ext [e, row]
  rw [eb]
  rfl

theorem arr1' : (dat1 V c).arrAt 3 cfg1.N = res1 V c := by
  refine (dat1 V c).arrAt_eq_of_covers 3 _ (by decide +kernel) fun t hf y => ?_
  have e := (ix1' t).2.2.2
  obtain ⟨r, q, rfl⟩ : ∃ (r : Fin 768) (q : Fin 1024), y = ix2 r q := ⟨y 0, y 1, by funext a; fin_cases a <;> rfl⟩
  blk_simp
  rw [after1_3]
  frame_out
  refine (pay1'_apply (x1 V c t) (w1 V c t) r q).trans ((prod1 V c t r q).trans ?_)
  have eb : (((cfg1.win 3).blk t).view.emb (ix2 r q)) = (ix2 (row t.val t.isLt r) q : S8448x1024.Idx) := by
    blk_ext [e, row]
  rw [eb]
  rfl

/-! ## The gate's columns -/

theorem ix2' : ∀ t : Fin grid2.N, win2_0.index t = ![t.val, 0] ∧ win2_1.index t = ![0, 3] ∧ win2_2.index t = ![t.val, 0] := by
  decide +kernel

def x2 (t : Fin cfg2.N) : Vec Ideal S768x2048 .bf16 := iblk2 V c 0 t
def w2 (t : Fin cfg2.N) : Vec Ideal S2048x1024 .bf16 := iblk2 V c 1 t

theorem prod2 (t : Fin cfg2.N) (r : Fin 768) (q : Fin 1024) :
    prod (fun j => x2 V c t (ix2 r j)) (w2 V c t) q = pcol V c 3072 (by omega) (row t.val t.isLt r) q := by
  have e := (ix2' t).1
  have e' := (ix2' t).2.1
  unfold pcol prod x2 w2
  refine Finset.sum_congr rfl fun k _ => ?_
  congr 1 <;> blk_ext [iblk2, e, e', row, col]

def res2 : Vec Ideal S8448x1024 .bf16 := fun i => gelu (pcol V c (n := 1024) 3072 (by omega) (i 0) (i 1))

theorem arr2 : (dat2 V c).arrAt 2 cfg2.N = res2 V c := by
  refine (dat2 V c).arrAt_eq_of_covers 2 _ (by decide +kernel) fun t hf y => ?_
  have e := (ix2' t).2.2
  obtain ⟨r, q, rfl⟩ : ∃ (r : Fin 768) (q : Fin 1024), y = ix2 r q := ⟨y 0, y 1, by funext a; fin_cases a <;> rfl⟩
  blk_simp
  rw [after2_2]
  frame_out
  refine (pay2_apply (x2 V c t) (w2 V c t) r q).trans ?_
  rw [prod2 V c t r q]
  have eb : (((cfg2.win 2).blk t).view.emb (ix2 r q)) = (ix2 (row t.val t.isLt r) q : S8448x1024.Idx) := by
    blk_ext [e, row]
  rw [eb]
  rfl

/-! ## The gated values' columns -/

theorem ix3' : ∀ t : Fin grid3.N, win3_0.index t = ![t.val, 0] ∧ win3_1.index t = ![0, 4] ∧ win3_2.index t = ![0, 0]
    ∧ win3_3.index t = ![0, 0] ∧ win3_4.index t = ![t.val, 0] := by decide +kernel

def x3 (t : Fin cfg3.N) : Vec Ideal S768x2048 .bf16 := iblk3 V c 0 t
def w3 (t : Fin cfg3.N) : Vec Ideal S2048x1024 .bf16 := iblk3 V c 1 t
def a3 (t : Fin cfg3.N) : Vec Ideal S1x1024 .f32 := iblk3 V c 2 t
def b3 (t : Fin cfg3.N) : Vec Ideal S1x1024 .f32 := iblk3 V c 3 t

theorem prod3 (t : Fin cfg3.N) (r : Fin 768) (q : Fin 1024) :
    prod (fun j => x3 V c t (ix2 r j)) (w3 V c t) q = pcol V c 4096 (by omega) (row t.val t.isLt r) q := by
  have e := (ix3' t).1
  have e' := (ix3' t).2.1
  unfold pcol prod x3 w3
  refine Finset.sum_congr rfl fun k _ => ?_
  congr 1 <;> blk_ext [iblk3, e, e', row, col]
theorem a3_apply (t : Fin cfg3.N) (q : Fin 1024) : a3 V c t (ix2 (0 : Fin 1) q) = bA V c (ix2 (0 : Fin 1) q) := by
  have e := (ix3' t).2.2.1
  unfold a3
  blk_ext [iblk3, e]
theorem b3_apply (t : Fin cfg3.N) (q : Fin 1024) : b3 V c t (ix2 (0 : Fin 1) q) = bB V c (ix2 (0 : Fin 1) q) := by
  have e := (ix3' t).2.2.2.1
  unfold b3
  blk_ext [iblk3, e]

def res3 : Vec Ideal S8448x1024 .f32 := fun i =>
  lnorm (fun p => gelu (pcol V c 4096 (by omega) (i 0) p)) (fun p => bA V c (ix2 (0 : Fin 1) p)) (fun p => bB V c (ix2 (0 : Fin 1) p)) (i 1)

theorem arr3 : (dat3 V c).arrAt 4 cfg3.N = res3 V c := by
  refine (dat3 V c).arrAt_eq_of_covers 4 _ (by decide +kernel) fun t hf y => ?_
  have e := (ix3' t).2.2.2.2
  obtain ⟨r, q, rfl⟩ : ∃ (r : Fin 768) (q : Fin 1024), y = ix2 r q := ⟨y 0, y 1, by funext a; fin_cases a <;> rfl⟩
  blk_simp
  rw [after3_4]
  frame_out
  refine (pay3_apply (x3 V c t) (w3 V c t) r q (a3 V c t) (b3 V c t)).trans ?_
  have eb : (((cfg3.win 4).blk t).view.emb (ix2 r q)) = (ix2 (row t.val t.isLt r) q : S8448x1024.Idx) := by
    blk_ext [e, row]
  rw [eb]
  simp only [prod3, a3_apply, b3_apply]
  rfl

/-! ## The gates' columns, four blocks of them -/

theorem ix4' : ∀ t : Fin grid4.N, win4_0.index t = ![t.val % 11, 0] ∧ win4_1.index t = ![0, 5 + t.val / 11]
    ∧ win4_2.index t = ![t.val % 11, t.val / 11] := by decide +kernel

def x4 (t : Fin cfg4.N) : Vec Ideal S768x2048 .bf16 := iblk4 V c 0 t
def w4 (t : Fin cfg4.N) : Vec Ideal S2048x1024 .bf16 := iblk4 V c 1 t

/-- The column of the whole at a column of block `t`. -/
def col4 (t : Fin cfg4.N) (q : Fin 1024) : Fin 4096 := ⟨t.val / 11 * 1024 + q.val, by have h : t.val < 44 := t.isLt; omega⟩

theorem prod4 (t : Fin cfg4.N) (r : Fin 768) (q : Fin 1024) :
    prod (fun j => x4 V c t (ix2 r j)) (w4 V c t) q
      = pcol V c 5120 (by omega) (row (t.val % 11) (Nat.mod_lt _ (by omega)) r) (col4 t q) := by
  have e := (ix4' t).1
  have e' := (ix4' t).2.1
  unfold pcol prod x4 w4
  refine Finset.sum_congr rfl fun k _ => ?_
  congr 1 <;> blk_ext [iblk4, e, e', row, col, col4]

def res4 : Vec Ideal S8448x4096 .bf16 := fun i => sigma (pcol V c (n := 4096) 5120 (by omega) (i 0) (i 1))

theorem arr4 : (dat4 V c).arrAt 2 cfg4.N = res4 V c := by
  refine (dat4 V c).arrAt_eq_of_covers 2 _ (by decide +kernel) fun t hf y => ?_
  have e := (ix4' t).2.2
  obtain ⟨r, q, rfl⟩ : ∃ (r : Fin 768) (q : Fin 1024), y = ix2 r q := ⟨y 0, y 1, by funext a; fin_cases a <;> rfl⟩
  blk_simp
  rw [after4_2]
  frame_out
  refine (pay4_apply (x4 V c t) (w4 V c t) r q).trans ?_
  rw [prod4 V c t r q]
  have eb : (((cfg4.win 2).blk t).view.emb (ix2 r q))
      = (ix2 (row (t.val % 11) (Nat.mod_lt _ (by omega)) r) (col4 t q) : S8448x4096.Idx) := by
    blk_ext [e, row, col4]
  rw [eb]
  rfl

end Cert.MixIdeal.Layer
end
-- ==== Proof.MixRun.lean ====
module
public import proofs.«01_k».proof.Proof.MixValue

@[expose] public section

set_option maxRecDepth 16384

/-! # The whole run: every buffer ends at the last boundary's contents -/

noncomputable section

namespace Cert.MixIdeal.Layer

open Cert.MixIdeal Cert.MixIdeal.Gen Cert.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The calls one after the other, with what the last of them leaves. -/
theorem run_all : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = V7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c b hb => h c _ (mem_uc b hb))

/-! ## The buffers the calls read, from the arguments -/

variable (c : Dev nD)

abbrev aP : Vec Ideal S2x4096x2048 .f32 := m ((c : Thread nD τ).loc main_arg0)
abbrev aS : Vec Ideal S32x8x2048 .f32 := m ((c : Thread nD τ).loc main_arg1)
abbrev aG : Vec Ideal S1x2048 .f32 := m ((c : Thread nD τ).loc main_arg2)
abbrev aW : Vec Ideal S1x2048x9216 .f32 := m ((c : Thread nD τ).loc main_arg3)
abbrev aA : Vec Ideal S1x1024 .f32 := m ((c : Thread nD τ).loc main_arg4)
abbrev aB : Vec Ideal S1x1024 .f32 := m ((c : Thread nD τ).loc main_arg5)

/-- The rows of both groups, one under the other. -/
def rows : Vec Ideal S8448x2048 .f32 :=
  concatenate S8448x2048 0 [⟨S8192x2048, shapeCast S8192x2048 (aP m c) shapeCasts_S2x4096x2048_S8192x2048⟩,
    ⟨S256x2048, shapeCast S256x2048 (aS m c) shapeCasts_S32x8x2048_S256x2048⟩] concatenates_S8192x2048_S256x2048_S8448x2048_d0

theorem V1_X : V1 m ρ c main_v2 = rows m c := by
  show StableHlo.after hostOps0 (W0 m ρ c) _ = _
  unfold hostOps0; after_results_simp; rfl
theorem V1_G : V1 m ρ c main_v6 = shapeCast S1x2048 (shapeCast S2048 (aG m c) shapeCasts_S1x2048_S2048) shapeCasts_S2048_S1x2048 := by
  show StableHlo.after hostOps0 (W0 m ρ c) _ = _
  unfold hostOps0; after_results_simp; rfl
theorem V1_W : V1 m ρ c main_v4
    = (truncf .bf16 (shapeCast S2048x9216 (aW m c) shapeCasts_S1x2048x9216_S2048x9216 : FVec Ideal S2048x9216 .f32) bitsLt_bf16_f32 : FVec Ideal S2048x9216 .bf16) := by
  show StableHlo.after hostOps0 (W0 m ρ c) _ = _
  unfold hostOps0; after_results_simp; rfl
theorem V5_A : V5 m ρ c main_v11 = shapeCast S1x1024 (shapeCast S1024 (aA m c) shapeCasts_S1x1024_S1024) shapeCasts_S1024_S1x1024 := by
  have e := W4_args m ρ c main_arg4 (by decide)
  show StableHlo.after hostOps3 (W4 m ρ c) _ = _
  unfold hostOps3; after_results_simp
  rw [e]; rfl
theorem V5_B : V5 m ρ c main_v13 = shapeCast S1x1024 (shapeCast S1024 (aB m c) shapeCasts_S1x1024_S1024) shapeCasts_S1024_S1x1024 := by
  have e := W4_args m ρ c main_arg5 (by decide)
  show StableHlo.after hostOps3 (W4 m ρ c) _ = _
  unfold hostOps3; after_results_simp
  rw [e]; rfl

/-- The normed rows and the weights stay as they are through the calls. -/
theorem keep2 : V2 m ρ c main_v4 = V1 m ρ c main_v4 := W2_of m ρ c main_v4 (by decide)
theorem keep3 (b : Ref sig .tc) (h : b = main_v7 ∨ b = main_v4) : V3 m ρ c b = V2 m ρ c b := by
  rcases h with rfl | rfl <;> exact W3_of m ρ c _ (by decide)
theorem keep4 (b : Ref sig .tc) (h : b = main_v7 ∨ b = main_v4) : V4 m ρ c b = V3 m ρ c b := by
  rcases h with rfl | rfl <;> exact W4_of m ρ c _ (by decide)
theorem keep5 (b : Ref sig .tc) (h : b = main_v7 ∨ b = main_v4) : V5 m ρ c b = V4 m ρ c b := by
  rcases h with rfl | rfl <;> exact W5_of m ρ c _ (by decide)
theorem keep6 (b : Ref sig .tc) (h : b = main_v7 ∨ b = main_v4) : V6 m ρ c b = V5 m ρ c b := by
  rcases h with rfl | rfl <;> exact W6_of m ρ c _ (by decide)

/-- An element of the normed rows, and one of the weights. -/
theorem N_apply (r : Fin 8448) (k : Fin 2048) :
    bN (V2 m ρ) c (ix2 r k) = rms (word 0x45000000#32) (fun j => rows m c (ix2 r j)) (fun j => aG m c (ix2 (0 : Fin 1) j)) k := by
  have e : V2 m ρ c main_v7 = res0 (V1 m ρ) c := (W2_arr m ρ c 2).trans (arr0 (V1 m ρ) c)
  unfold bN
  rw [e]
  unfold res0 bX bG
  rw [V1_X, V1_G]
  have g : (fun j : Fin 2048 => shapeCast S1x2048 (shapeCast S2048 (aG m c) shapeCasts_S1x2048_S2048) shapeCasts_S2048_S1x2048 (ix2 (0 : Fin 1) j))
      = fun j => aG m c (ix2 (0 : Fin 1) j) := by
    funext j
    pointwise
  rw [g]
  rfl
theorem W_apply (k : Fin 2048) (q : Fin 9216) : bW (V2 m ρ) c (ix2 k q) = aW m c (ix3 (0 : Fin 1) k q) := by
  unfold bW
  rw [keep2, V1_W]
  pointwise

/-- A column of the projection, at any of the calls. -/
abbrev at' {n : ℕ} (o : ℕ) (h : o + n ≤ 9216) (r : Fin 8448) (q : Fin n) : EReal :=
  proj (fun j => rows m c (ix2 r j)) (fun j => aG m c (ix2 (0 : Fin 1) j)) (aW m c) (col o h q)

theorem pcol2 {n : ℕ} (o : ℕ) (h : o + n ≤ 9216) (r : Fin 8448) (q : Fin n) : pcol (V2 m ρ) c o h r q = at' m c o h r q := by
  unfold pcol prod at' proj
  exact Finset.sum_congr rfl fun k _ => congrArg₂ (· * ·) (N_apply m ρ c r k) (W_apply m ρ c k _)
theorem pcol3 {n : ℕ} (o : ℕ) (h : o + n ≤ 9216) (r : Fin 8448) (q : Fin n) : pcol (V3 m ρ) c o h r q = at' m c o h r q := by
  rw [← pcol2 m ρ]
  unfold pcol bN bW
  rw [keep3 m ρ c _ (.inl rfl), keep3 m ρ c _ (.inr rfl)]
theorem pcol5 {n : ℕ} (o : ℕ) (h : o + n ≤ 9216) (r : Fin 8448) (q : Fin n) : pcol (V5 m ρ) c o h r q = at' m c o h r q := by
  rw [← pcol3 m ρ]
  unfold pcol bN bW
  rw [keep5 m ρ c _ (.inl rfl), keep4 m ρ c _ (.inl rfl), keep5 m ρ c _ (.inr rfl), keep4 m ρ c _ (.inr rfl)]
theorem pcol6 {n : ℕ} (o : ℕ) (h : o + n ≤ 9216) (r : Fin 8448) (q : Fin n) : pcol (V6 m ρ) c o h r q = at' m c o h r q := by
  rw [← pcol5 m ρ]
  unfold pcol bN bW
  rw [keep6 m ρ c _ (.inl rfl), keep6 m ρ c _ (.inr rfl)]

/-! ## The results at the end -/

theorem end_v : V7 m ρ c main_v8_0 = res1 (V2 m ρ) c :=
  (W7_of m ρ c main_v8_0 (by decide)).trans ((W6_of m ρ c main_v8_0 (by decide)).trans ((W5_of m ρ c main_v8_0 (by decide)).trans
    ((W4_of m ρ c main_v8_0 (by decide)).trans ((W3_arr m ρ c 2).trans (arr1 (V2 m ρ) c)))))
theorem end_v' : V7 m ρ c main_v8_1 = res1 (V2 m ρ) c :=
  (W7_of m ρ c main_v8_1 (by decide)).trans ((W6_of m ρ c main_v8_1 (by decide)).trans ((W5_of m ρ c main_v8_1 (by decide)).trans
    ((W4_of m ρ c main_v8_1 (by decide)).trans ((W3_arr m ρ c 3).trans (arr1' (V2 m ρ) c)))))
theorem end_u : V7 m ρ c main_v9 = res2 (V3 m ρ) c :=
  (W7_of m ρ c main_v9 (by decide)).trans ((W6_of m ρ c main_v9 (by decide)).trans ((W5_of m ρ c main_v9 (by decide)).trans
    ((W4_arr m ρ c 2).trans (arr2 (V3 m ρ) c))))
theorem end_gv : V7 m ρ c main_v14 = res3 (V5 m ρ) c :=
  (W7_of m ρ c main_v14 (by decide)).trans ((W6_arr m ρ c 4).trans (arr3 (V5 m ρ) c))
theorem end_gates : V7 m ρ c main_v15 = res4 (V6 m ρ) c := (W7_arr m ρ c 2).trans (arr4 (V6 m ρ) c)

theorem end_v_apply (r : Fin 8448) (q : Fin 1024) :
    (V7 m ρ c main_v8_0 : Vec Ideal S8448x1024 .f32) (ix2 r q) = at' m c 2048 (by omega) r q := by
  rw [end_v]
  exact pcol2 m ρ c _ _ r q
theorem end_v'_apply (r : Fin 8448) (q : Fin 1024) :
    (V7 m ρ c main_v8_1 : Vec Ideal S8448x1024 .bf16) (ix2 r q) = at' m c 2048 (by omega) r q := by
  rw [end_v']
  exact pcol2 m ρ c _ _ r q
theorem end_u_apply (r : Fin 8448) (q : Fin 1024) :
    (V7 m ρ c main_v9 : Vec Ideal S8448x1024 .bf16) (ix2 r q) = gelu (at' m c 3072 (by omega) r q) := by
  rw [end_u, ← pcol3 m ρ]
  rfl
theorem end_gv_apply (r : Fin 8448) (q : Fin 1024) :
    (V7 m ρ c main_v14 : Vec Ideal S8448x1024 .f32) (ix2 r q)
      = lnorm (fun p => gelu (at' m c 4096 (by omega) r p)) (fun p => aA m c (ix2 (0 : Fin 1) p)) (fun p => aB m c (ix2 (0 : Fin 1) p)) q := by
  rw [end_gv]
  simp only [← pcol5 m ρ]
  unfold res3 bA bB
  rw [V5_A, V5_B]
  have g : ∀ x : Vec Ideal S1x1024 .f32, (fun j : Fin 1024 => shapeCast S1x1024 (shapeCast S1024 x shapeCasts_S1x1024_S1024) shapeCasts_S1024_S1x1024 (ix2 (0 : Fin 1) j))
      = fun j => x (ix2 (0 : Fin 1) j) := by
    intro x; funext j
    pointwise
  rw [g, g]
  rfl
theorem end_gates_apply (r : Fin 8448) (q : Fin 4096) :
    (V7 m ρ c main_v15 : Vec Ideal S8448x4096 .bf16) (ix2 r q) = sigma (at' m c 5120 (by omega) r q) := by
  rw [end_gates, ← pcol6 m ρ]
  rfl

end Cert.MixIdeal.Layer
end
-- ==== Proof.MixRef.lean ====
module
public import proofs.«01_k».proof.Proof.Gen.MixReferenceIdeal.Read
public import Idealize.ShloMosaic.Lib.Pointwise
public import proofs.«01_k».proof.Proof.LayerSpec

@[expose] public section

set_option maxRecDepth 16384

/-! # The plain program of the projection's four results, at an index -/

noncomputable section

namespace Cert.MixReferenceIdeal.Layer

open Cert.MixReferenceIdeal Cert.MixReferenceIdeal.Gen Cert.MixReferenceIdeal.Read Cert.Layer
open Idealize.ShloMosaic Idealize.ShloMosaic.TcCoe

variable (x0 : Vec Ideal S2x4096x2048 .f32) (x1 : Vec Ideal S32x8x2048 .f32) (x2 : Vec Ideal S1x2048 .f32)
  (x3 : Vec Ideal S1x2048x9216 .f32) (x4 x5 : Vec Ideal S1x1024 .f32)

/-- The rows of both groups, one under the other. -/
abbrev rows : Vec Ideal S8448x2048 .f32 := val_main_v2 (F := Ideal) x0 x1

theorem normed_apply (r : Fin 8448) (q : Fin 2048) :
    val_main_v16 (F := Ideal) x0 x1 x2 (ix2 r q)
      = rms (word 0x45000000#32) (fun j => rows x0 x1 (ix2 r j)) (fun j => x2 (ix2 (0 : Fin 1) j)) q := by
  unfold rms rows
  pointwise [val_main_v16, val_main_v15, val_main_v14, val_main_v13, val_main_v12, val_main_v11, val_main_v10, val_main_v9, val_main_cst_1, val_main_v8,
    val_main_v7, val_main_cst_0, val_main_v6, val_main_v5, val_main_cst, val_main_v4, val_main_v3]

theorem proj_apply (r : Fin 8448) (q : Fin 9216) :
    val_main_v18 (F := Ideal) x0 x1 x2 x3 (ix2 r q)
      = proj (fun j => rows x0 x1 (ix2 r j)) (fun j => x2 (ix2 (0 : Fin 1) j)) x3 q := by
  unfold proj
  simp only [← normed_apply]
  pointwise [val_main_v18, val_main_v17]

/-- The projection's column that a slice starting at `o` has at `q`. -/
abbrev at' {n : ℕ} (o : ℕ) (h : o + n ≤ 9216) (r : Fin 8448) (q : Fin n) : EReal :=
  proj (fun j => rows x0 x1 (ix2 r j)) (fun j => x2 (ix2 (0 : Fin 1) j)) x3 (col o h q)

theorem v_apply (r : Fin 8448) (q : Fin 1024) : val_main_v19 (F := Ideal) x0 x1 x2 x3 (ix2 r q) = at' x0 x1 x2 x3 2048 (by omega) r q := by
  rw [val_main_v19_apply]
  refine (congrArg _ ?_).trans (proj_apply x0 x1 x2 x3 r _)
  funext a; fin_cases a <;> rfl
theorem u_apply (r : Fin 8448) (q : Fin 1024) : val_main_v20 (F := Ideal) x0 x1 x2 x3 (ix2 r q) = at' x0 x1 x2 x3 3072 (by omega) r q := by
  rw [val_main_v20_apply]
  refine (congrArg _ ?_).trans (proj_apply x0 x1 x2 x3 r _)
  funext a; fin_cases a <;> rfl
theorem gv_apply (r : Fin 8448) (q : Fin 1024) : val_main_v21 (F := Ideal) x0 x1 x2 x3 (ix2 r q) = at' x0 x1 x2 x3 4096 (by omega) r q := by
  rw [val_main_v21_apply]
  refine (congrArg _ ?_).trans (proj_apply x0 x1 x2 x3 r _)
  funext a; fin_cases a <;> rfl
theorem gates_apply (r : Fin 8448) (q : Fin 4096) : val_main_v22 (F := Ideal) x0 x1 x2 x3 (ix2 r q) = at' x0 x1 x2 x3 5120 (by omega) r q := by
  rw [val_main_v22_apply]
  refine (congrArg _ ?_).trans (proj_apply x0 x1 x2 x3 r _)
  funext a; fin_cases a <;> rfl

theorem ref_u (r : Fin 8448) (q : Fin 1024) :
    val_main_v80 (F := Ideal) x0 x1 x2 x3 (ix2 r q) = gelu (at' x0 x1 x2 x3 3072 (by omega) r q) := by
  rw [← u_apply]
  unfold gelu
  pointwise [val_main_v35, val_main_v34, val_main_v33, val_main_v32, val_main_v31, val_main_v30, val_main_v29, val_main_v28, val_main_v27, val_main_v26, val_main_v25, val_main_v24, val_main_v23, val_main_v80, val_main_cst_2, val_main_cst_3, val_main_cst_4, val_main_cst_5]

theorem ref_y (r : Fin 8448) (q : Fin 1024) :
    val_main_v48 (F := Ideal) x0 x1 x2 x3 (ix2 r q) = gelu (at' x0 x1 x2 x3 4096 (by omega) r q) := by
  rw [← gv_apply]
  unfold gelu
  pointwise [val_main_v48, val_main_v47, val_main_v46, val_main_v45, val_main_v44, val_main_v43, val_main_v42, val_main_v41, val_main_v40, val_main_v39, val_main_v38, val_main_v37, val_main_v36, val_main_cst_6, val_main_cst_7, val_main_cst_8, val_main_cst_9]

theorem ref_gv (r : Fin 8448) (q : Fin 1024) :
    val_main_v72 (F := Ideal) x0 x1 x2 x3 x4 x5 (ix2 r q)
      = lnorm (fun p => gelu (at' x0 x1 x2 x3 4096 (by omega) r p)) (fun p => x4 (ix2 (0 : Fin 1) p)) (fun p => x5 (ix2 (0 : Fin 1) p)) q := by
  simp only [← ref_y]
  unfold lnorm var mean
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_cst_10, val_main_cst_11, val_main_cst_12, val_main_cst_13, val_main_cst_14]

theorem ref_gates (r : Fin 8448) (q : Fin 4096) :
    val_main_v81 (F := Ideal) x0 x1 x2 x3 (ix2 r q) = sigma (at' x0 x1 x2 x3 5120 (by omega) r q) := by
  rw [← gates_apply]
  unfold sigma
  pointwise [val_main_v78, val_main_v77, val_main_v76, val_main_v75, val_main_v74, val_main_v73, val_main_v81, val_main_cst_15, val_main_cst_16]
  rw [zero_sub]

theorem ref_v (r : Fin 8448) (q : Fin 1024) :
    val_main_v79 (F := Ideal) x0 x1 x2 x3 (ix2 r q) = at' x0 x1 x2 x3 2048 (by omega) r q := v_apply x0 x1 x2 x3 r q

end Cert.MixReferenceIdeal.Layer
end
-- ==== Proof.MixClaims.lean ====
module
public import proofs.«01_k».proof.Defs
public import proofs.«01_k».proof.Proof.Gen.Mix.Frame
public import proofs.«01_k».proof.Proof.MixRun
public import proofs.«01_k».proof.Proof.MixRef
public import Idealize.ShloMosaic.Lib.Quiescent

@[expose] public section

set_option maxRecDepth 16384

/-! # The claims about the norm and the projection's values, gate, gated values and gates -/

noncomputable section

namespace Cert.Layer

open Idealize.ShloMosaic Idealize.SL.Sem Idealize.ShloMosaic.TcCoe

theorem frame_Mix : Cert.quiescent_Mix := fun m g _ => Cert.Mix.Gen.frame m g
theorem frame_MixIdeal : Cert.quiescent_MixIdeal := fun m g _ => Cert.MixIdeal.Gen.frame m g
theorem frame_MixReferenceIdeal : Cert.quiescent_MixReferenceIdeal := fun m g _ =>
  (θ_run Cert.MixReferenceIdeal.defs _ _).mono (fun r h => ⟨fun c => (h c).2.2.2.2.2, sem_eq_zero_of_no_sems (by decide) r.2⟩)
    (Cert.MixReferenceIdeal.Value.run m g)

/-- An index of a matrix is its row and its column. -/
theorem idx2 {a b : ℕ} (i : (⟨2, ![a, b]⟩ : Shape).Idx) : ∃ (r : Fin a) (q : Fin b), i = ix2 r q :=
  ⟨i 0, i 1, by funext x; fin_cases x <;> rfl⟩

section
open Cert.MixIdeal

theorem alg_mix : Cert.algebraic_MixIdeal_MixReferenceIdeal := by
  intro m g m' g' h hargs
  refine ⟨fun c => Cert.MixIdeal.Gen.V7 m g c main_v8_0, fun c => Cert.MixIdeal.Gen.V7 m g c main_v8_1,
    fun c => Cert.MixIdeal.Gen.V7 m g c main_v9, fun c => Cert.MixIdeal.Gen.V7 m g c main_v14,
    fun c => Cert.MixIdeal.Gen.V7 m g c main_v15, ?_, ?_⟩
  · refine (θ_run Cert.MixIdeal.defs _ _).mono (fun _ hr c => ?_) (Cert.MixIdeal.Layer.run_all m g)
    exact ⟨hr c _ (by decide), hr c _ (by decide), hr c _ (by decide), hr c _ (by decide), hr c _ (by decide),
      (hr c _ (by decide)).trans (Cert.MixIdeal.Gen.W7_main_arg0 m g c), (hr c _ (by decide)).trans (Cert.MixIdeal.Gen.W7_main_arg1 m g c),
      (hr c _ (by decide)).trans (Cert.MixIdeal.Gen.W7_main_arg2 m g c), (hr c _ (by decide)).trans (Cert.MixIdeal.Gen.W7_main_arg3 m g c),
      (hr c _ (by decide)).trans (Cert.MixIdeal.Gen.W7_main_arg4 m g c), (hr c _ (by decide)).trans (Cert.MixIdeal.Gen.W7_main_arg5 m g c)⟩
  · refine (θ_run Cert.MixReferenceIdeal.defs _ _).mono (fun _ hr c => ?_) (Cert.MixReferenceIdeal.Value.run m' g')
    obtain ⟨e0, e1, e2, e3, e4, e5⟩ := hargs c
    refine ⟨(hr c).1.trans ?_, (hr c).2.1.trans ?_, (hr c).2.2.1.trans ?_, (hr c).2.2.2.1.trans ?_, (hr c).2.2.2.2.1.trans ?_, (hr c).2.2.2.2.2⟩
    · rw [Cert.MixReferenceIdeal.Read.val_main_v19_eq, e0, e1, e2, e3]
      funext i
      obtain ⟨r, q, rfl⟩ := idx2 i
      exact (Cert.MixReferenceIdeal.Layer.v_apply _ _ _ _ r q).trans (Cert.MixIdeal.Layer.end_v_apply m g c r q).symm
    · rw [Cert.MixReferenceIdeal.Read.val_main_v79_eq, e0, e1, e2, e3]
      funext i
      obtain ⟨r, q, rfl⟩ := idx2 i
      exact (Cert.MixReferenceIdeal.Layer.ref_v _ _ _ _ r q).trans (Cert.MixIdeal.Layer.end_v'_apply m g c r q).symm
    · rw [Cert.MixReferenceIdeal.Read.val_main_v80_eq, e0, e1, e2, e3]
      funext i
      obtain ⟨r, q, rfl⟩ := idx2 i
      exact (Cert.MixReferenceIdeal.Layer.ref_u _ _ _ _ r q).trans (Cert.MixIdeal.Layer.end_u_apply m g c r q).symm
    · rw [Cert.MixReferenceIdeal.Read.val_main_v72_eq, e0, e1, e2, e3, e4, e5]
      funext i
      obtain ⟨r, q, rfl⟩ := idx2 i
      exact (Cert.MixReferenceIdeal.Layer.ref_gv _ _ _ _ _ _ r q).trans (Cert.MixIdeal.Layer.end_gv_apply m g c r q).symm
    · rw [Cert.MixReferenceIdeal.Read.val_main_v81_eq, e0, e1, e2, e3]
      funext i
      obtain ⟨r, q, rfl⟩ := idx2 i
      exact (Cert.MixReferenceIdeal.Layer.ref_gates _ _ _ _ r q).trans (Cert.MixIdeal.Layer.end_gates_apply m g c r q).symm
end

end Cert.Layer
end
-- ==== Proof.QkSpec.lean ====
module
public import Idealize.ShloMosaic.Lib.Pointwise
public import proofs.«01_k».proof.Proof.LayerSpec

@[expose] public section

/-! # A head's norm and its turn by the position, as mathematics -/

noncomputable section

namespace Cert.Layer

open Idealize.ShloMosaic

/-- A head of 64 columns whose halves are the two coordinates of 32 points, each point turned by its angle. -/
def turn (y : Fin 64 → EReal) (a : Fin 32 → EReal) (d : Fin 64) : EReal :=
  if h : d.val < 32 then y d * Ideal.cos (a ⟨d.val, h⟩) - y ⟨d.val + 32, by omega⟩ * Ideal.sin (a ⟨d.val, h⟩)
  else y d * Ideal.cos (a ⟨d.val - 32, by omega⟩) + y ⟨d.val - 32, by omega⟩ * Ideal.sin (a ⟨d.val - 32, by omega⟩)

/-- A head normed and then turned. -/
def head (z g : Fin 64 → EReal) (a : Fin 32 → EReal) (d : Fin 64) : EReal := turn (rms (word 0x42800000#32) z g) a d

/-- The position of a row: its place in its sequence, or, for the second group's rows, its place in the step after 16384. -/
def pos (r : ℕ) : ℕ := if r < 4096 then r else if r < 8192 then r - 4096 else 16384 + (r - 8192) % 8

/-- A word read as a whole number. -/
abbrev whole (b : BitVec 32) : EReal := FloatOps.sitofp (F := Ideal) .f32 b

/-- The angle of a row's point `i`: the position times the frequency 10000 to the `-2 i / 64`. -/
def angle (r : ℕ) (i : Fin 32) : EReal :=
  whole (BitVec.ofNat 32 (pos r))
    * Ideal.pow (word 0x461C4000#32) (Ideal.div (-(whole (BitVec.ofNat 32 i.val)) * word 0x40000000#32) (word 0x42800000#32))

theorem heads128 : 64 ∣ 128 := ⟨2, rfl⟩
theorem heads2048 : 64 ∣ 2048 := ⟨32, rfl⟩

/-- Column `d` of the head that column `q` lies in. -/
def tile {n : ℕ} (h : 64 ∣ n) (q : Fin n) (d : Fin 64) : Fin n := ⟨q.val / 64 * 64 + d.val, by omega⟩
/-- Column `q`'s place in its head. -/
def lane {n : ℕ} (q : Fin n) : Fin 64 := ⟨q.val % 64, by omega⟩

/-! ## The mean of a head's squares, from one product with a matrix of zeros and ones -/

theorem word_64 : word 0x42800000#32 = ((64 : ℝ) : EReal) := by
  simp [word, Ideal.ofBits, Ideal.ieee, -EReal.coe_mul]; norm_num
theorem word_inv64 : word 0x3C800000#32 = ((1 / 64 : ℝ) : EReal) := by
  simp [word, Ideal.ofBits, Ideal.ieee, -EReal.coe_mul]; norm_num

/-- Of 128 terms, times one where they share the column's head and times zero elsewhere, the head's 64 remain. -/
theorem sum_head (f : Fin 128 → EReal) (k : Fin 128) :
    ∑ j, f j * (if j.val / 64 = k.val / 64 then 1 else 0) = ∑ d : Fin 64, f (tile heads128 k d) := by
  have e : ∀ G : Fin 128 → EReal, ∑ j, G j = ∑ d : Fin 64, G (Fin.castAdd 64 d) + ∑ d : Fin 64, G (Fin.natAdd 64 d) := fun G =>
    Fin.sum_univ_add (a := 64) (b := 64) G
  rw [e]
  have hk : k.val / 64 = 0 ∨ k.val / 64 = 1 := by omega
  rcases hk with h | h
  · have a : ∀ d : Fin 64, f (Fin.castAdd 64 d) * (if (Fin.castAdd 64 d : Fin 128).val / 64 = k.val / 64 then 1 else 0)
        = f (tile heads128 k d) := fun d => by
      have : (Fin.castAdd 64 d : Fin 128).val / 64 = k.val / 64 := by simp only [Fin.val_castAdd]; omega
      rw [if_pos this, mul_one]
      exact congrArg f (Fin.ext (by simp only [Fin.val_castAdd, tile]; omega))
    have b : ∀ d : Fin 64, f (Fin.natAdd 64 d) * (if (Fin.natAdd 64 d : Fin 128).val / 64 = k.val / 64 then 1 else 0) = 0 := fun d => by
      have : ¬ (Fin.natAdd 64 d : Fin 128).val / 64 = k.val / 64 := by simp only [Fin.val_natAdd]; omega
      rw [if_neg this, mul_zero]
    simp only [a, b, Finset.sum_const_zero, add_zero]
  · have a : ∀ d : Fin 64, f (Fin.natAdd 64 d) * (if (Fin.natAdd 64 d : Fin 128).val / 64 = k.val / 64 then 1 else 0)
        = f (tile heads128 k d) := fun d => by
      have : (Fin.natAdd 64 d : Fin 128).val / 64 = k.val / 64 := by simp only [Fin.val_natAdd]; omega
      rw [if_pos this, mul_one]
      exact congrArg f (Fin.ext (by simp only [Fin.val_natAdd, tile]; omega))
    have b : ∀ d : Fin 64, f (Fin.castAdd 64 d) * (if (Fin.castAdd 64 d : Fin 128).val / 64 = k.val / 64 then 1 else 0) = 0 := fun d => by
      have : ¬ (Fin.castAdd 64 d : Fin 128).val / 64 = k.val / 64 := by simp only [Fin.val_castAdd]; omega
      rw [if_neg this, mul_zero]
    simp only [a, b, Finset.sum_const_zero, zero_add]

/-- The norm over 128 columns at once, with the squares summed by the matrix, is each head's norm. -/
theorem rms_chunk (z g : Fin 128 → EReal) (b : Fin 128 → Fin 128 → EReal)
    (hb : ∀ j k, b j k = if j.val / 64 = k.val / 64 then 1 else 0) (k : Fin 128) :
    z k * Ideal.rsqrt ((∑ j, z j * z j * b j k) * word 0x3C800000#32 + word 0x358637BD#32) * g k
      = rms (word 0x42800000#32) (fun d => z (tile heads128 k d)) (fun d => g (tile heads128 k d)) (lane k) := by
  have ek : tile (n := 128) heads128 k (lane k) = k := Fin.ext (by simp only [tile, lane]; omega)
  unfold rms
  simp only [hb]
  rw [sum_head (fun j => z j * z j), word_64, word_inv64, Ideal.div_coe (by norm_num), ek]

/-- The turn over 128 columns at once: the mate 32 columns over, the sine's sign in the table. -/
theorem turn_chunk (y : Fin 128 → EReal) (a : Fin 32 → EReal) (c s : EReal) (l : Fin 128)
    (hc : c = Ideal.cos (a ⟨l.val % 32, by omega⟩))
    (hs : s = if l.val % 64 < 32 then -Ideal.sin (a ⟨l.val % 32, by omega⟩) else Ideal.sin (a ⟨l.val % 32, by omega⟩)) :
    y l * c + (if l.val % 64 < 32 then y ⟨(l.val + 32) % 128, by omega⟩ else y ⟨(l.val + 96) % 128, by omega⟩) * s
      = turn (fun d => y (tile heads128 l d)) a (lane l) := by
  have el : tile (n := 128) heads128 l (lane l) = l := Fin.ext (by simp only [tile, lane]; omega)
  subst hc hs
  unfold turn
  by_cases h : l.val % 64 < 32
  · have h' : (lane l).val < 32 := h
    rw [dif_pos h', if_pos h, if_pos h, mul_neg, ← sub_eq_add_neg]
    have e1 : (⟨l.val % 32, by omega⟩ : Fin 32) = ⟨(lane l).val, h'⟩ := Fin.ext (by simp only [lane]; omega)
    have e2 : (⟨(l.val + 32) % 128, by omega⟩ : Fin 128) = tile heads128 l ⟨(lane l).val + 32, by omega⟩ :=
      Fin.ext (by simp only [lane, tile]; omega)
    rw [e1, e2]
    simp only [el]
  · have h' : ¬ (lane l).val < 32 := h
    rw [dif_neg h', if_neg h, if_neg h]
    have hl : (lane l).val < 64 := (lane l).isLt
    have e1 : (⟨l.val % 32, by omega⟩ : Fin 32) = ⟨(lane l).val - 32, by omega⟩ := Fin.ext (by simp only [lane]; omega)
    have e2 : (⟨(l.val + 96) % 128, by omega⟩ : Fin 128) = tile heads128 l ⟨(lane l).val - 32, by omega⟩ :=
      Fin.ext (by simp only [lane, tile]; omega)
    rw [e1, e2]
    simp only [el]

/-- Both together. -/
theorem head_chunk (z g : Fin 128 → EReal) (b : Fin 128 → Fin 128 → EReal)
    (hb : ∀ j k, b j k = if j.val / 64 = k.val / 64 then 1 else 0) (a : Fin 32 → EReal) (l : Fin 128) :
    turn (fun d => z (tile heads128 l d)
        * Ideal.rsqrt ((∑ j, z j * z j * b j (tile heads128 l d)) * word 0x3C800000#32 + word 0x358637BD#32) * g (tile heads128 l d)) a (lane l)
      = head (fun d => z (tile heads128 l d)) (fun d => g (tile heads128 l d)) a (lane l) := by
  unfold head
  refine congrArg (fun y => turn y a (lane l)) (funext fun d => ?_)
  rw [rms_chunk z g b hb]
  have e : ∀ e : Fin 64, tile (n := 128) heads128 (tile heads128 l d) e = tile heads128 l e := fun e =>
    Fin.ext (by simp only [tile]; omega)
  have e' : lane (tile (n := 128) heads128 l d) = d := Fin.ext (by simp only [tile, lane]; omega)
  simp only [e, e']

end Cert.Layer
end
-- ==== Proof.QkBlock.lean ====
module
public import proofs.«01_k».proof.Proof.Gen.QkIdeal.Frame
public import Idealize.ShloMosaic.Lib.Pointwise
public import Idealize.ShloMosaic.Lib.Pipeline.ValueKit
public import proofs.«01_k».proof.Proof.QkSpec

@[expose] public section

set_option maxRecDepth 16384

/-! # The blocks of the queries' and keys' call, at an index -/

noncomputable section

namespace Cert.QkIdeal.Layer

open Cert.QkIdeal Cert.QkIdeal.Gen Cert.Layer
open Idealize.ShloMosaic Idealize.ShloMosaic.TcCoe

theorem pay0_apply (x : Vec Ideal S768x2048 .f32) (g : Vec Ideal S1x2048 .f32) (r : Fin 768) (q : Fin 2048) :
    k0_pay1 (F := Ideal) x g (ix2 r q)
      = rms (word 0x45000000#32) (fun j => x (ix2 r j)) (fun j => g (ix2 (0 : Fin 1) j)) q := by
  unfold rms
  pointwise [k0_pay1]

/-- One chunk of 128 columns: the norm of its two heads. -/
def norm (z : FVec Ideal S768x128 .f32) (b : FVec Ideal S128x128 .bf16) (g : FVec Ideal S1x128 .f32) : FVec Ideal S768x128 .f32 :=
  mulf (mulf z (rsqrt (addf (mulf (matmul dot_S768x128_S128x128_S768x128_1_0_0_1_n_n none (truncf .bf16 (mulf z z) bitsLt_bf16_f32) b
    (constant S768x128 .f32 0x00000000#32)) (broadcast S768x128 (Scalar.ofBits .f32 0x3C800000#32)))
    (broadcast S768x128 (Scalar.ofBits .f32 0x358637BD#32))))) (broadcastTo S768x128 (shapeCast S1x128 g shapeCasts_S1x128_S1x128) broadcasts_S1x128_S768x128)

/-- The chunk's turn. -/
def chunk (y cs sn : FVec Ideal S768x128 .f32) (up : IVec S768x128 1) : FVec Ideal S768x128 .f32 :=
  addf (mulf y cs) (mulf (select up (dynamicRotate 1 32#32 none y rotates_S768x128_d1) (dynamicRotate 1 96#32 none y rotates_S768x128_d1)) sn)

theorem norm_apply (z : FVec Ideal S768x128 .f32) (b : FVec Ideal S128x128 .bf16) (g : FVec Ideal S1x128 .f32) (r : Fin 768) (k : Fin 128) :
    norm z b g (ix2 r k)
      = z (ix2 r k) * Ideal.rsqrt ((∑ j : Fin 128, z (ix2 r j) * z (ix2 r j) * b (ix2 j k)) * word 0x3C800000#32 + word 0x358637BD#32)
        * g (ix2 (0 : Fin 1) k) := by
  pointwise [norm]

/-- The mask is set on the columns of a head's second half. -/
theorem mask_apply (r : Fin 768) (l : Fin 128) : k1_pay6 (ix2 r l) = if l.val % 64 < 32 then 0#1 else 1#1 := by
  have h : ∀ l : Fin 128, BitVec.ofBool (BitVec.ofNat 32 l.val &&& 32#32 != 0#32) = if l.val % 64 < 32 then 0#1 else 1#1 := by decide +kernel
  rw [← h]
  pointwise [k1_pay6]
  rfl

theorem chunk_apply (y cs sn : FVec Ideal S768x128 .f32) (r : Fin 768) (l : Fin 128) :
    chunk y cs sn k1_pay6 (ix2 r l)
      = y (ix2 r l) * cs (ix2 r l)
        + (if l.val % 64 < 32 then y (ix2 r ⟨(l.val + 32) % 128, by omega⟩) else y (ix2 r ⟨(l.val + 96) % 128, by omega⟩)) * sn (ix2 r l) := by
  have h := mask_apply r l
  unfold chunk
  pointwise
  rw [h]
  split <;> rfl

/-- The chunk at `o` of the product's columns, normed and turned. -/
def piece (o : ℕ) (hs : S768x1024.Slices ![0, o] S768x128) (v : FVec Ideal S768x1024 .f32) (cs sn : FVec Ideal S768x128 .f32)
    (b : FVec Ideal S128x128 .bf16) (g : FVec Ideal S1x128 .f32) : FVec Ideal S768x128 .f32 :=
  chunk (norm (extractStridedSlice S768x128 ![0, o] v hs) b g) cs sn k1_pay6

variable (x : Vec Ideal S768x2048 .bf16) (w : Vec Ideal S2048x1024 .bf16) (ga sc : Vec Ideal S1x1024 .f32)
  (cs sn : Vec Ideal S768x128 .f32) (b : Vec Ideal S128x128 .bf16)

theorem prod_apply (r : Fin 768) (q : Fin 1024) : k1_pay2 (F := Ideal) x w (ix2 r q) = prod (fun j => x (ix2 r j)) w q := by
  unfold prod
  pointwise [k1_pay2]

theorem heads1024 : 64 ∣ 1024 := ⟨16, rfl⟩

/-- The block's element: its head's columns of the product, normed with the head's gains and turned by the row's angles. -/
def elem (a : Fin 768 → Fin 32 → EReal) (r : Fin 768) (q : Fin 1024) : EReal :=
  head (fun d => prod (fun j => x (ix2 r j)) w (tile heads1024 q d)) (fun d => ga (ix2 (0 : Fin 1) (tile heads1024 q d))) (a r) (lane q)

/-- What the block's tables hold: the angles' cosines and signed sines, and ones where two columns share a head. -/
structure Tables (a : Fin 768 → Fin 32 → EReal) : Prop where
  cos : ∀ (r : Fin 768) (l : Fin 128), cs (ix2 r l) = Ideal.cos (a r ⟨l.val % 32, by omega⟩)
  sin : ∀ (r : Fin 768) (l : Fin 128), sn (ix2 r l)
    = if l.val % 64 < 32 then -Ideal.sin (a r ⟨l.val % 32, by omega⟩) else Ideal.sin (a r ⟨l.val % 32, by omega⟩)
  one : ∀ j k : Fin 128, b (ix2 j k) = if j.val / 64 = k.val / 64 then 1 else 0

variable {cs sn b} {a : Fin 768 → Fin 32 → EReal}

theorem chunk_turn (T : Tables cs sn b a) (y : FVec Ideal S768x128 .f32) (r : Fin 768) (l : Fin 128) :
    chunk y cs sn k1_pay6 (ix2 r l) = turn (fun d => y (ix2 r (tile heads128 l d))) (a r) (lane l) :=
  (chunk_apply y cs sn r l).trans (turn_chunk (fun k => y (ix2 r k)) (a r) _ _ l (T.cos r l) (T.sin r l))

theorem norm_turn (T : Tables cs sn b a) (z : FVec Ideal S768x128 .f32) (g : FVec Ideal S1x128 .f32) (r : Fin 768) (l : Fin 128) :
    turn (fun d => norm z b g (ix2 r (tile heads128 l d))) (a r) (lane l)
      = head (fun d => z (ix2 r (tile heads128 l d))) (fun d => g (ix2 (0 : Fin 1) (tile heads128 l d))) (a r) (lane l) := by
  simp only [norm_apply]
  exact head_chunk (fun k => z (ix2 r k)) (fun k => g (ix2 (0 : Fin 1) k)) (fun j k => b (ix2 j k)) T.one (a r) l

theorem piece_apply (T : Tables cs sn b a) (o : ℕ) (ho : o + 128 ≤ 1024) (ho' : 64 ∣ o) (hs : S768x1024.Slices ![0, o] S768x128)
    (g : Vec Ideal S1x128 .f32) (hg : ∀ l : Fin 128, g (ix2 (0 : Fin 1) l) = ga (ix2 (0 : Fin 1) ⟨o + l.val, by omega⟩))
    (r : Fin 768) (l : Fin 128) :
    piece o hs (k1_pay2 x w) cs sn b g (ix2 r l) = elem x w ga a r ⟨o + l.val, by omega⟩ := by
  have hz : ∀ l : Fin 128, extractStridedSlice S768x128 ![0, o] (k1_pay2 (F := Ideal) x w) hs (ix2 r l)
      = prod (fun j => x (ix2 r j)) w ⟨o + l.val, by omega⟩ := fun l => by
    rw [← prod_apply]
    pointwise
  unfold piece
  rw [chunk_turn T, norm_turn T]
  unfold elem
  have el : lane (⟨o + l.val, by omega⟩ : Fin 1024) = lane l := Fin.ext (by simp only [lane]; omega)
  have et : ∀ d, tile heads1024 (⟨o + l.val, by omega⟩ : Fin 1024) d = ⟨o + (tile heads128 l d).val, by omega⟩ := fun d =>
    Fin.ext (by simp only [tile]; omega)
  simp only [hz, hg, el, et]

end Cert.QkIdeal.Layer
end
-- ==== Proof.QkBody.lean ====
module
public import proofs.«01_k».proof.Proof.QkBlock

@[expose] public section

set_option maxRecDepth 16384

/-! # The eight chunks of a block of queries or keys, put together -/

noncomputable section

namespace Cert.QkIdeal.Layer

open Cert.QkIdeal Cert.QkIdeal.Gen Cert.Layer
open Idealize.ShloMosaic Idealize.ShloMosaic.TcCoe

variable (x : Vec Ideal S768x2048 .bf16) (w : Vec Ideal S2048x1024 .bf16) (ga sc : Vec Ideal S1x1024 .f32)
  (cs sn : Vec Ideal S768x128 .f32) (b : Vec Ideal S128x128 .bf16)

/-! ## The values the chunks share -/

theorem share_z : k1_pay30 x w ga sc cs sn b = k1_pay2 x w := by
  unfold k1_pay30
  rw [View.ld_unit_lit _ x (by decide), View.ld_unit_lit _ w (by decide)]
theorem share_cos : k1_pay31 x w ga sc cs sn b = cs := by
  unfold k1_pay31
  rw [View.ld_unit_lit _ cs (by decide)]
  exact shapeCast_self _ _
theorem share_sin : k1_pay32 x w ga sc cs sn b = sn := by
  unfold k1_pay32
  rw [View.ld_unit_lit _ sn (by decide)]
  exact shapeCast_self _ _
theorem share_one : k1_pay33 x w ga sc cs sn b = b := by
  unfold k1_pay33
  rw [View.ld_unit_lit _ b (by decide)]
  exact shapeCast_self _ _

/-- The chunk at `o`, over the values the body shares. -/
def part (o : ℕ) (hs : S768x1024.Slices ![0, o] S768x128) (inb : ∀ a, (![0, o] : Fin 2 → ℕ) a + S1x128.size a ≤ S1x1024.size a) :
    FVec Ideal S768x128 .f32 :=
  piece o hs (k1_pay30 x w ga sc cs sn b) (k1_pay31 x w ga sc cs sn b) (k1_pay32 x w ga sc cs sn b) (k1_pay33 x w ga sc cs sn b)
    (View.ld ga (Rect.unit (s := S1x1024) ![0, o] S1x128.size inb))

/-- The chunk once more, scaled. -/
def part' (o : ℕ) (hs : S768x1024.Slices ![0, o] S768x128) (inb : ∀ a, (![0, o] : Fin 2 → ℕ) a + S1x128.size a ≤ S1x1024.size a) :
    FVec Ideal S768x128 .bf16 :=
  truncf .bf16 (mulf (part x w ga sc cs sn b o hs inb)
    (broadcastTo S768x128 (shapeCast S1x128 (View.ld sc (Rect.unit (s := S1x1024) ![0, o] S1x128.size inb) : FVec Ideal S1x128 .f32) shapeCasts_S1x128_S1x128)
      broadcasts_S1x128_S768x128)) bitsLt_bf16_f32

theorem ld_lane (g : Vec Ideal S1x1024 .f32) (o : ℕ) (ho : o + 128 ≤ 1024) (inb : ∀ a, (![0, o] : Fin 2 → ℕ) a + S1x128.size a ≤ S1x1024.size a)
    (l : Fin 128) : (View.ld g (Rect.unit (s := S1x1024) ![0, o] S1x128.size inb) : Vec Ideal S1x128 .f32) (ix2 (0 : Fin 1) l)
      = g (ix2 (0 : Fin 1) ⟨o + l.val, by omega⟩) := by
  refine View.ld_unit_apply_of g _ _ _ _ _ fun a => ?_
  fin_cases a <;> rfl

variable {cs sn b} {a : Fin 768 → Fin 32 → EReal}

theorem part_apply (T : Tables cs sn b a) (o : ℕ) (ho : o + 128 ≤ 1024) (ho' : 64 ∣ o) (hs : S768x1024.Slices ![0, o] S768x128)
    (inb : ∀ a, (![0, o] : Fin 2 → ℕ) a + S1x128.size a ≤ S1x1024.size a) (r : Fin 768) (l : Fin 128) :
    part x w ga sc cs sn b o hs inb (ix2 r l) = elem x w ga a r ⟨o + l.val, by omega⟩ := by
  unfold part
  rw [share_z, share_cos, share_sin, share_one]
  exact piece_apply x w ga T o ho ho' hs _ (ld_lane ga o ho inb) r l

theorem part'_apply (T : Tables cs sn b a) (o : ℕ) (ho : o + 128 ≤ 1024) (ho' : 64 ∣ o) (hs : S768x1024.Slices ![0, o] S768x128)
    (inb : ∀ a, (![0, o] : Fin 2 → ℕ) a + S1x128.size a ≤ S1x1024.size a) (r : Fin 768) (l : Fin 128) :
    part' x w ga sc cs sn b o hs inb (ix2 r l)
      = elem x w ga a r ⟨o + l.val, by omega⟩ * sc (ix2 (0 : Fin 1) ⟨o + l.val, by omega⟩) := by
  rw [← part_apply x w ga sc T o ho ho' hs inb, ← ld_lane sc o ho inb]
  unfold part'
  pointwise

/-! ## The block of both results -/

/-- A block whose columns from `o` on are the chunk at `o` has at the chunk's place what the block's description says. -/
theorem place (G : Fin 768 → Fin 1024 → EReal) (o : ℕ) (ho : o + 128 ≤ 1024) (inb : ∀ a, (![0, o] : Fin 2 → ℕ) a + S768x128.size a ≤ S768x1024.size a)
    (p : S768x128.Idx → EReal) (hp : ∀ (r : Fin 768) (l : Fin 128), p (ix2 r l) = G r ⟨o + l.val, by omega⟩)
    (y : S768x128.Idx) : p y = (fun i : S768x1024.Idx => G (i 0) (i 1)) ((Rect.unit (s := S768x1024) ![0, o] S768x128.size inb).emb y) := by
  obtain ⟨r, l, rfl⟩ : ∃ (r : Fin 768) (l : Fin 128), y = ix2 r l := ⟨y 0, y 1, by funext a; fin_cases a <;> rfl⟩
  rw [hp]
  refine congrArg₂ G (Fin.ext ?_) (Fin.ext ?_)
  · show r.val = 0 + 1 * r.val; omega
  · show o + l.val = o + 1 * l.val; omega

theorem out7_apply (T : Tables cs sn b a) (r : Fin 768) (q : Fin 1024) :
    out1_7 x w ga sc cs sn b (ix2 r q) = elem x w ga a r q := by
  have P := fun (o : ℕ) (ho : o + 128 ≤ 1024) (ho' : 64 ∣ o) hs inb inb' =>
    place (elem x w ga a) o ho inb' (part x w ga sc cs sn b o hs inb) (part_apply x w ga sc T o ho ho' hs inb)
  unfold out1_7
  refine View.canon_apply_of_pieces (Val := Elt Ideal) ((fun i => elem x w ga a (i 0) (i 1)) : Vec Ideal S768x1024 .f32) _ ?_ (ix2 r q) (cover1_7 _ _ _ _ _ _ _ _ _)
  simp only [List.forall_mem_cons, List.forall_mem_nil, and_true]
  exact ⟨P 896 (by omega) (by decide) slices_S768x1024_o0_896_S768x128 inb_S1x1024_S1x128_0_896 _,
    P 768 (by omega) (by decide) slices_S768x1024_o0_768_S768x128 inb_S1x1024_S1x128_0_768 _,
    P 640 (by omega) (by decide) slices_S768x1024_o0_640_S768x128 inb_S1x1024_S1x128_0_640 _,
    P 512 (by omega) (by decide) slices_S768x1024_o0_512_S768x128 inb_S1x1024_S1x128_0_512 _,
    P 384 (by omega) (by decide) slices_S768x1024_o0_384_S768x128 inb_S1x1024_S1x128_0_384 _,
    P 256 (by omega) (by decide) slices_S768x1024_o0_256_S768x128 inb_S1x1024_S1x128_0_256 _,
    P 128 (by omega) (by decide) slices_S768x1024_o0_128_S768x128 inb_S1x1024_S1x128_0_128 _,
    P 0 (by omega) (by decide) slices_S768x1024_o0_0_S768x128 inb_S1x1024_S1x128_0_0 _, fun _ h => absurd h List.not_mem_nil⟩

theorem out8_apply (T : Tables cs sn b a) (r : Fin 768) (q : Fin 1024) :
    out1_8 x w ga sc cs sn b (ix2 r q) = elem x w ga a r q * sc (ix2 (0 : Fin 1) q) := by
  have P := fun (o : ℕ) (ho : o + 128 ≤ 1024) (ho' : 64 ∣ o) hs inb inb' =>
    place (fun r q => elem x w ga a r q * sc (ix2 (0 : Fin 1) q)) o ho inb' (part' x w ga sc cs sn b o hs inb)
      (part'_apply x w ga sc T o ho ho' hs inb)
  unfold out1_8
  refine View.canon_apply_of_pieces (Val := Elt Ideal) ((fun i => elem x w ga a (i 0) (i 1) * sc (ix2 (0 : Fin 1) (i 1))) : Vec Ideal S768x1024 .bf16) _ ?_ (ix2 r q)
    (cover1_8 _ _ _ _ _ _ _ _ _)
  simp only [List.forall_mem_cons, List.forall_mem_nil, and_true]
  exact ⟨P 896 (by omega) (by decide) slices_S768x1024_o0_896_S768x128 inb_S1x1024_S1x128_0_896 _,
    P 768 (by omega) (by decide) slices_S768x1024_o0_768_S768x128 inb_S1x1024_S1x128_0_768 _,
    P 640 (by omega) (by decide) slices_S768x1024_o0_640_S768x128 inb_S1x1024_S1x128_0_640 _,
    P 512 (by omega) (by decide) slices_S768x1024_o0_512_S768x128 inb_S1x1024_S1x128_0_512 _,
    P 384 (by omega) (by decide) slices_S768x1024_o0_384_S768x128 inb_S1x1024_S1x128_0_384 _,
    P 256 (by omega) (by decide) slices_S768x1024_o0_256_S768x128 inb_S1x1024_S1x128_0_256 _,
    P 128 (by omega) (by decide) slices_S768x1024_o0_128_S768x128 inb_S1x1024_S1x128_0_128 _,
    P 0 (by omega) (by decide) slices_S768x1024_o0_0_S768x128 inb_S1x1024_S1x128_0_0 _, fun _ h => absurd h List.not_mem_nil⟩

end Cert.QkIdeal.Layer
end
-- ==== Proof.QkValue.lean ====
module
public import proofs.«01_k».proof.Proof.QkBody

@[expose] public section

set_option maxRecDepth 16384

/-! # What the norm's call and the queries' and keys' call leave

    A call is entered with the buffers holding `V`. Its points write blocks that cover each result; each block is the block of
    one array. -/

noncomputable section

namespace Cert.QkIdeal.Layer

open Cert.QkIdeal Cert.QkIdeal.Gen Cert.Layer
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-- The buffers the calls read: the rows and the norm's gain; the normed rows, the weights, the heads' gains and scales, the
    tables of cosines and sines, and the matrix of ones. -/
abbrev bX : Vec Ideal S8448x2048 .f32 := V c main_v38
abbrev bG : Vec Ideal S1x2048 .f32 := V c main_v42
abbrev bN : Vec Ideal S8448x2048 .bf16 := V c main_v43
abbrev bW : Vec Ideal S2048x9216 .bf16 := V c main_v40
abbrev bA : Vec Ideal S1x2048 .f32 := V c main_v53
abbrev bS : Vec Ideal S1x2048 .f32 := V c main_v57
abbrev bC : Vec Ideal S8448x128 .f32 := V c main_v30
abbrev bT : Vec Ideal S8448x128 .f32 := V c main_v35
abbrev bO : Vec Ideal S128x128 .bf16 := V c main_v66

/-- The row of the whole at a row of tile `t`. -/
def row (t : ℕ) (h : t < 11) (r : Fin 768) : Fin 8448 := ⟨t * 768 + r.val, by omega⟩

/-! ## The norm -/

theorem ix0 : ∀ t : Fin grid0.N, win0_0.index t = ![t.val, 0] ∧ win0_1.index t = ![0, 0] ∧ win0_2.index t = ![t.val, 0] := by
  decide +kernel

def x0 (t : Fin cfg0.N) : Vec Ideal S768x2048 .f32 := iblk0 V c 0 t
def g0 (t : Fin cfg0.N) : Vec Ideal S1x2048 .f32 := iblk0 V c 1 t

theorem x0_apply (t : Fin cfg0.N) (r : Fin 768) (k : Fin 2048) : x0 V c t (ix2 r k) = bX V c (ix2 (row t.val t.isLt r) k) := by
  have e := (ix0 t).1
  unfold x0
  blk_ext [iblk0, e, row]
theorem g0_apply (t : Fin cfg0.N) (k : Fin 2048) : g0 V c t (ix2 (0 : Fin 1) k) = bG V c (ix2 (0 : Fin 1) k) := by
  have e := (ix0 t).2.1
  unfold g0
  blk_ext [iblk0, e]

def res0 : Vec Ideal S8448x2048 .bf16 := fun i =>
  rms (word 0x45000000#32) (fun j => bX V c (ix2 (i 0) j)) (fun j => bG V c (ix2 (0 : Fin 1) j)) (i 1)

theorem arr0 : (dat0 V c).arrAt 2 cfg0.N = res0 V c := by
  refine (dat0 V c).arrAt_eq_of_covers 2 _ (by decide +kernel) fun t hf y => ?_
  have e := (ix0 t).2.2
  obtain ⟨r, q, rfl⟩ : ∃ (r : Fin 768) (q : Fin 2048), y = ix2 r q := ⟨y 0, y 1, by funext a; fin_cases a <;> rfl⟩
  blk_simp
  rw [after0_2]
  frame_out
  refine (pay0_apply (x0 V c t) (g0 V c t) r q).trans ?_
  have eb : (((cfg0.win 2).blk t).view.emb (ix2 r q)) = (ix2 (row t.val t.isLt r) q : S8448x2048.Idx) := by
    blk_ext [e, row]
  rw [eb]
  simp only [x0_apply, g0_apply]
  rfl

/-! ## The queries and keys -/

theorem ix1' : ∀ t : Fin grid1.N, win1_0.index t = ![t.val % 11, 0] ∧ win1_1.index t = ![0, t.val / 11] ∧ win1_2.index t = ![0, t.val / 11]
    ∧ win1_3.index t = ![0, t.val / 11] ∧ win1_4.index t = ![t.val % 11, 0] ∧ win1_5.index t = ![t.val % 11, 0] ∧ win1_6.index t = ![0, 0]
    ∧ win1_7.index t = ![t.val % 11, t.val / 11] ∧ win1_8.index t = ![t.val % 11, t.val / 11] := by decide +kernel

def x1 (t : Fin cfg1.N) : Vec Ideal S768x2048 .bf16 := iblk1 V c 0 t
def w1 (t : Fin cfg1.N) : Vec Ideal S2048x1024 .bf16 := iblk1 V c 1 t
def a1 (t : Fin cfg1.N) : Vec Ideal S1x1024 .f32 := iblk1 V c 2 t
def s1 (t : Fin cfg1.N) : Vec Ideal S1x1024 .f32 := iblk1 V c 3 t
def c1 (t : Fin cfg1.N) : Vec Ideal S768x128 .f32 := iblk1 V c 4 t
def t1 (t : Fin cfg1.N) : Vec Ideal S768x128 .f32 := iblk1 V c 5 t
def o1 (t : Fin cfg1.N) : Vec Ideal S128x128 .bf16 := iblk1 V c 6 t

/-- The row and the column of the whole at a row and a column of block `t`. -/
def row1 (t : Fin cfg1.N) (r : Fin 768) : Fin 8448 := row (t.val % 11) (Nat.mod_lt _ (by omega)) r
def col1 (t : Fin cfg1.N) (q : Fin 1024) : Fin 2048 := ⟨t.val / 11 * 1024 + q.val, by have h : t.val < 22 := t.isLt; omega⟩

/-- A normed row times the weights' column. -/
def pcol (r : Fin 8448) (q : Fin 2048) : EReal := prod (fun j => bN V c (ix2 r j)) (bW V c) (col 0 (by omega) q)

theorem prod1 (t : Fin cfg1.N) (r : Fin 768) (q : Fin 1024) :
    prod (fun j => x1 V c t (ix2 r j)) (w1 V c t) q = pcol V c (row1 t r) (col1 t q) := by
  have e := (ix1' t).1
  have e' := (ix1' t).2.1
  unfold pcol prod x1 w1
  refine Finset.sum_congr rfl fun k _ => ?_
  congr 1 <;> blk_ext [iblk1, e, e', row1, row, col1, col]
theorem a1_apply (t : Fin cfg1.N) (q : Fin 1024) : a1 V c t (ix2 (0 : Fin 1) q) = bA V c (ix2 (0 : Fin 1) (col1 t q)) := by
  have e := (ix1' t).2.2.1
  unfold a1
  blk_ext [iblk1, e, col1]
theorem s1_apply (t : Fin cfg1.N) (q : Fin 1024) : s1 V c t (ix2 (0 : Fin 1) q) = bS V c (ix2 (0 : Fin 1) (col1 t q)) := by
  have e := (ix1' t).2.2.2.1
  unfold s1
  blk_ext [iblk1, e, col1]
theorem c1_apply (t : Fin cfg1.N) (r : Fin 768) (l : Fin 128) : c1 V c t (ix2 r l) = bC V c (ix2 (row1 t r) l) := by
  have e := (ix1' t).2.2.2.2.1
  unfold c1
  blk_ext [iblk1, e, row1, row]
theorem t1_apply (t : Fin cfg1.N) (r : Fin 768) (l : Fin 128) : t1 V c t (ix2 r l) = bT V c (ix2 (row1 t r) l) := by
  have e := (ix1' t).2.2.2.2.2.1
  unfold t1
  blk_ext [iblk1, e, row1, row]
theorem o1_apply (t : Fin cfg1.N) (j k : Fin 128) : o1 V c t (ix2 j k) = bO V c (ix2 j k) := by
  have e := (ix1' t).2.2.2.2.2.2.1
  unfold o1
  blk_ext [iblk1, e]

/-- What the tables hold where the call starts: the angles' cosines and signed sines, and ones where two columns share a head. -/
structure Holds : Prop where
  cos : ∀ (r : Fin 8448) (l : Fin 128), bC V c (ix2 r l) = Ideal.cos (angle r.val ⟨l.val % 32, by omega⟩)
  sin : ∀ (r : Fin 8448) (l : Fin 128), bT V c (ix2 r l)
    = if l.val % 64 < 32 then -Ideal.sin (angle r.val ⟨l.val % 32, by omega⟩) else Ideal.sin (angle r.val ⟨l.val % 32, by omega⟩)
  one : ∀ j k : Fin 128, bO V c (ix2 j k) = if j.val / 64 = k.val / 64 then 1 else 0

variable {V c}

theorem Holds.block (H : Holds V c) (t : Fin cfg1.N) :
    Tables (c1 V c t) (t1 V c t) (o1 V c t) (fun r => angle (row1 t r).val) :=
  ⟨fun r l => (c1_apply V c t r l).trans (H.cos _ l), fun r l => (t1_apply V c t r l).trans (H.sin _ l),
    fun j k => (o1_apply V c t j k).trans (H.one j k)⟩

variable (V c)

/-- The whole array's element. -/
def full (r : Fin 8448) (q : Fin 2048) : EReal :=
  head (fun d => pcol V c r (tile heads2048 q d)) (fun d => bA V c (ix2 (0 : Fin 1) (tile heads2048 q d))) (angle r.val) (lane q)

theorem elem1 (t : Fin cfg1.N) (r : Fin 768) (q : Fin 1024) :
    elem (x1 V c t) (w1 V c t) (a1 V c t) (fun r => angle (row1 t r).val) r q = full V c (row1 t r) (col1 t q) := by
  have el : lane (col1 t q) = lane q := Fin.ext (by simp only [lane, col1]; omega)
  have et : ∀ d, tile heads2048 (col1 t q) d = col1 t (tile heads1024 q d) := fun d => Fin.ext (by simp only [tile, col1]; omega)
  unfold elem full
  simp only [prod1, a1_apply, el, et]

def res7 : Vec Ideal S8448x2048 .f32 := fun i => full V c (i 0) (i 1)
def res8 : Vec Ideal S8448x2048 .bf16 := fun i => full V c (i 0) (i 1) * bS V c (ix2 (0 : Fin 1) (i 1))

theorem arr7 (H : Holds V c) : (dat1 V c).arrAt 7 cfg1.N = res7 V c := by
  refine (dat1 V c).arrAt_eq_of_covers 7 _ (by decide +kernel) fun t hf y => ?_
  have e := (ix1' t).2.2.2.2.2.2.2.1
  obtain ⟨r, q, rfl⟩ : ∃ (r : Fin 768) (q : Fin 1024), y = ix2 r q := ⟨y 0, y 1, by funext a; fin_cases a <;> rfl⟩
  blk_simp
  rw [after1_7]
  refine (out7_apply (x1 V c t) (w1 V c t) (a1 V c t) (s1 V c t) (H.block t) r q).trans ?_
  have eb : (((cfg1.win 7).blk t).view.emb (ix2 r q)) = (ix2 (row1 t r) (col1 t q) : S8448x2048.Idx) := by
    blk_ext [e, row1, row, col1]
  rw [eb, elem1]
  rfl

theorem arr8 (H : Holds V c) : (dat1 V c).arrAt 8 cfg1.N = res8 V c := by
  refine (dat1 V c).arrAt_eq_of_covers 8 _ (by decide +kernel) fun t hf y => ?_
  have e := (ix1' t).2.2.2.2.2.2.2.2
  obtain ⟨r, q, rfl⟩ : ∃ (r : Fin 768) (q : Fin 1024), y = ix2 r q := ⟨y 0, y 1, by funext a; fin_cases a <;> rfl⟩
  blk_simp
  rw [after1_8]
  refine (out8_apply (x1 V c t) (w1 V c t) (a1 V c t) (s1 V c t) (H.block t) r q).trans ?_
  have eb : (((cfg1.win 8).blk t).view.emb (ix2 r q)) = (ix2 (row1 t r) (col1 t q) : S8448x2048.Idx) := by
    blk_ext [e, row1, row, col1]
  rw [eb, elem1, s1_apply]
  rfl

end Cert.QkIdeal.Layer
end
-- ==== Proof.QkRun.lean ====
module
public import proofs.«01_k».proof.Proof.QkValue

@[expose] public section

set_option maxRecDepth 16384

/-! # The whole run: every buffer ends at the last boundary's contents -/

noncomputable section

namespace Cert.QkIdeal.Layer

open Cert.QkIdeal Cert.QkIdeal.Gen Cert.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The calls one after the other, with what the last of them leaves. -/
theorem run_all : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = V8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c b hb => h c _ (mem_uc b hb))

/-! ## The buffers the calls read, from the arguments -/

variable (c : Dev nD)

abbrev aP : Vec Ideal S2x4096x2048 .f32 := m ((c : Thread nD τ).loc main_arg0)
abbrev aS : Vec Ideal S32x8x2048 .f32 := m ((c : Thread nD τ).loc main_arg1)
abbrev aG : Vec Ideal S1x2048 .f32 := m ((c : Thread nD τ).loc main_arg2)
abbrev aW : Vec Ideal S1x2048x9216 .f32 := m ((c : Thread nD τ).loc main_arg3)
abbrev aQ : Vec Ideal S1x64 .f32 := m ((c : Thread nD τ).loc main_arg4)
abbrev aK : Vec Ideal S1x64 .f32 := m ((c : Thread nD τ).loc main_arg5)

/-- The rows of both groups, one under the other. -/
def rows : Vec Ideal S8448x2048 .f32 :=
  concatenate S8448x2048 0 [⟨S8192x2048, shapeCast S8192x2048 (aP m c) shapeCasts_S2x4096x2048_S8192x2048⟩,
    ⟨S256x2048, shapeCast S256x2048 (aS m c) shapeCasts_S32x8x2048_S256x2048⟩] concatenates_S8192x2048_S256x2048_S8448x2048_d0

theorem V1_X : V1 m ρ c main_v38 = rows m c := by
  show StableHlo.after hostOps0 (W0 m ρ c) _ = _
  unfold hostOps0; after_results_simp; rfl
theorem V1_G : V1 m ρ c main_v42 = shapeCast S1x2048 (shapeCast S2048 (aG m c) shapeCasts_S1x2048_S2048) shapeCasts_S2048_S1x2048 := by
  show StableHlo.after hostOps0 (W0 m ρ c) _ = _
  unfold hostOps0; after_results_simp; rfl
theorem V1_W : V1 m ρ c main_v40
    = (truncf .bf16 (shapeCast S2048x9216 (aW m c) shapeCasts_S1x2048x9216_S2048x9216 : FVec Ideal S2048x9216 .f32) bitsLt_bf16_f32 : FVec Ideal S2048x9216 .bf16) := by
  show StableHlo.after hostOps0 (W0 m ρ c) _ = _
  unfold hostOps0; after_results_simp; rfl

/-! ## The tables -/

/-- The positions of the first group's rows. -/
def placesP : Vec Ideal S8192 .i32 :=
  shapeCast S8192 (broadcastInDim S2x4096 ![0, 1] bcast_S1x4096_S2x4096_0_1 (shapeCast S1x4096 (iotaInDim S4096 32 0) shapeCasts_S4096_S1x4096)) shapeCasts_S2x4096_S8192
/-- The positions of the second group's rows. -/
def placesS : Vec Ideal S256 .i32 :=
  let s : Vec Ideal S8 .i32 := addi (broadcastInDim S8 ![] bcast_S_S8 (constantI S_ 32 16384#32)) (iotaInDim S8 32 0)
  shapeCast S256 (broadcastInDim S32x8 ![0, 1] bcast_S1x8_S32x8_0_1 (shapeCast S1x8 s shapeCasts_S8_S1x8)) shapeCasts_S32x8_S256
/-- The rows' positions. -/
def places : Vec Ideal S8448 .i32 :=
  concatenate S8448 0 [⟨S8192, placesP⟩, ⟨S256, placesS⟩] concatenates_S8192_S256_S8448_d0

theorem placesP_apply (r : Fin 8192) : placesP (ix1 r) = BitVec.ofNat 32 (r.val % 4096) := by
  unfold placesP
  pointwise
theorem placesS_apply (r : Fin 256) : placesS (ix1 r) = IntOp.addi 16384#32 (BitVec.ofNat 32 (r.val % 8)) := by
  unfold placesS
  pointwise
theorem places_apply (r : Fin 8448) : places (ix1 r) = BitVec.ofNat 32 (pos r.val) := by
  have e : places (ix1 r) = if h : r.val < 8192 then placesP (ix1 (⟨r.val, h⟩ : Fin 8192)) else placesS (ix1 (⟨r.val - 8192, by omega⟩ : Fin 256)) := by
    unfold places
    pointwise
  rw [e]
  unfold pos
  by_cases h : r.val < 8192
  · rw [dif_pos h, placesP_apply]
    by_cases h' : r.val < 4096
    · rw [if_pos h', Nat.mod_eq_of_lt h']
    · rw [if_neg h', if_pos h]
      exact congrArg _ (by dsimp only; omega)
  · rw [dif_neg h, placesS_apply, if_neg (by omega), if_neg h]
    exact (BitVec.ofNat_add 16384 _).symm

/-- The angles of the rows' points. -/
def angs : Vec Ideal S8448x32 .f32 :=
  let e : FVec Ideal S32 .f32 := Host.divf (mulf (Host.negf (sitofp .f32 (iotaInDim S32 32 0))) (broadcastInDim S32 ![] bcast_S_S32 (constant S_ .f32 0x40000000#32)))
    (broadcastInDim S32 ![] bcast_S_S32 (constant S_ .f32 0x42800000#32))
  let f : FVec Ideal S32 .f32 := Host.powf (broadcastInDim S32 ![] bcast_S_S32 (constant S_ .f32 0x461C4000#32)) e
  let p : FVec Ideal S8448 .f32 := sitofp .f32 places
  mulf (broadcastInDim S8448x32 ![0, 1] bcast_S8448x1_S8448x32_0_1 (broadcastInDim S8448x1 ![0] bcast_S8448_S8448x1_0 p))
    (broadcastInDim S8448x32 ![0, 1] bcast_S1x32_S8448x32_0_1 (broadcastInDim S1x32 ![1] bcast_S32_S1x32_1 f))

theorem angs_apply (r : Fin 8448) (i : Fin 32) : angs (ix2 r i) = angle r.val i := by
  unfold angle
  rw [← places_apply]
  unfold angs
  pointwise

/-- Two columns of 32, side by side, twice. -/
def twice (a b : Vec Ideal S8448x32 .f32) : Vec Ideal S8448x128 .f32 :=
  shapeCast S8448x128 (broadcastInDim S1x8448x2x64 ![0, 1, 2, 3] bcast_S1x8448x1x64_S1x8448x2x64_0_1_2_3
    (shapeCast S1x8448x1x64 (concatenate S8448x64 1 [⟨S8448x32, a⟩, ⟨S8448x32, b⟩] concatenates_S8448x32_S8448x32_S8448x64_d1)
      shapeCasts_S8448x64_S1x8448x1x64)) shapeCasts_S1x8448x2x64_S8448x128

theorem twice_apply (a b : Vec Ideal S8448x32 .f32) (r : Fin 8448) (l : Fin 128) :
    twice a b (ix2 r l) = if l.val % 64 < 32 then a (ix2 r (⟨l.val % 32, by omega⟩ : Fin 32)) else b (ix2 r (⟨l.val % 32, by omega⟩ : Fin 32)) := by
  unfold twice
  pointwise
  by_cases h : l.val % 64 < 32
  · rw [dif_pos h, if_pos h]
    exact congrArg (fun i => a (ix2 r i)) (Fin.ext (by dsimp only; omega))
  · rw [dif_neg h, if_neg h]
    exact congrArg (fun i => b (ix2 r i)) (Fin.ext (by dsimp only; omega))

/-- The cosines and sines of the angles. -/
def coss : FVec Ideal S8448x32 .f32 := let a : FVec Ideal S8448x32 .f32 := angs; Host.cos a
def sins : FVec Ideal S8448x32 .f32 := let a : FVec Ideal S8448x32 .f32 := angs; Host.sin a
def nsins : FVec Ideal S8448x32 .f32 := Host.negf sins

theorem V1_C : V1 m ρ c main_v30 = twice coss coss := by
  show StableHlo.after hostOps0 (W0 m ρ c) _ = _
  unfold hostOps0; after_results_simp; rfl
theorem V1_T : V1 m ρ c main_v35 = twice nsins sins := by
  show StableHlo.after hostOps0 (W0 m ρ c) _ = _
  unfold hostOps0; after_results_simp; rfl

/-! ## The gains and scales of the columns, and the matrix of ones -/

/-- The 16 heads of each group with one gain. -/
def gains (a b : Vec Ideal S1x64 .f32) : Vec Ideal S1x2048 .f32 :=
  shapeCast S1x2048 (concatenate S2048 0
    [⟨S1024, shapeCast S1024 (broadcastInDim S16x64 ![0, 1] bcast_S1x64_S16x64_0_1 (shapeCast S1x64 (shapeCast S64 a shapeCasts_S1x64_S64) shapeCasts_S64_S1x64)) shapeCasts_S16x64_S1024⟩,
      ⟨S1024, shapeCast S1024 (broadcastInDim S16x64 ![0, 1] bcast_S1x64_S16x64_0_1 (shapeCast S1x64 (shapeCast S64 b shapeCasts_S1x64_S64) shapeCasts_S64_S1x64)) shapeCasts_S16x64_S1024⟩]
    concatenates_S1024_S1024_S2048_d0) shapeCasts_S2048_S1x2048

theorem gains_apply (a b : Vec Ideal S1x64 .f32) (q : Fin 2048) :
    gains a b (ix2 (0 : Fin 1) q) = if q.val < 1024 then a (ix2 (0 : Fin 1) (lane q)) else b (ix2 (0 : Fin 1) (lane q)) := by
  unfold gains
  pointwise
  by_cases h : q.val < 1024
  · rw [dif_pos h, if_pos h]; rfl
  · rw [dif_neg h, if_neg h]
    exact congrArg (fun i => b (ix2 (0 : Fin 1) i)) (Fin.ext (by simp only [lane]; omega))

/-- An eighth for the first group's columns, one for the second's. -/
def scales : Vec Ideal S1x2048 .f32 :=
  shapeCast S1x2048 (concatenate S2048 0
    [⟨S1024, broadcastInDim S1024 ![] bcast_S_S1024 (constant (F := Ideal) S_ .f32 0x3E000000#32)⟩,
      ⟨S1024, broadcastInDim S1024 ![] bcast_S_S1024 (constant (F := Ideal) S_ .f32 0x3F800000#32)⟩]
    concatenates_S1024_S1024_S2048_d0) shapeCasts_S2048_S1x2048

theorem scales_apply (q : Fin 2048) : scales (ix2 (0 : Fin 1) q) = if q.val < 1024 then word 0x3E000000#32 else 1 := by
  unfold scales
  pointwise
  split <;> rfl

theorem W3_A : W3 m ρ c (Proc.devRef .tc main_v53) = gains (aQ m c) (aK m c) := by
  have e : W3 m ρ c (Proc.devRef .tc main_v53) = gains (W2 m ρ c (Proc.devRef .tc main_arg4)) (W2 m ρ c (Proc.devRef .tc main_arg5)) := by
    show StableHlo.after hostOps1 (W2 m ρ c) _ = _
    unfold hostOps1; after_results_simp; rfl
  rw [e, W2_args m ρ c main_arg4 (by decide), W2_args m ρ c main_arg5 (by decide)]
theorem W3_S : W3 m ρ c (Proc.devRef .tc main_v57) = scales := by
  show StableHlo.after hostOps1 (W2 m ρ c) _ = _
  unfold hostOps1; after_results_simp; rfl

/-- A word's sign. -/
def signOf (b : BitVec 32) : BitVec 32 := if b = 0 then 0 else if b.msb then -1 else 1
/-- A word over 64, rounded down, as the host writes it. -/
def over64 (b : BitVec 32) : BitVec 32 :=
  Scalar.select (IntOp.andi (IntOp.cmpi .ne (signOf b) (signOf 64#32)) (IntOp.cmpi .ne (IntOp.remsi .host b 64#32) 0#32))
    (IntOp.subi (IntOp.divsi .host b 64#32) 1#32) (IntOp.divsi .host b 64#32)

theorem over64_ofNat : ∀ j : Fin 128, over64 (BitVec.ofNat 32 j.val) = BitVec.ofNat 32 (j.val / 64) := by decide +kernel

theorem W4_q (j : Fin 128) : (W4 m ρ c (Proc.devRef .tc main_v60) : Vec Ideal S128x1 .i32) (ix2 j (0 : Fin 1)) = BitVec.ofNat 32 (j.val / 64) := by
  refine Eq.trans ?_ (over64_ofNat j)
  show (StableHlo.after hostOps1_1 (W3 m ρ c) (Proc.devRef .tc main_v60) : Vec Ideal S128x1 .i32) _ = _
  unfold hostOps1_1; after_results_simp
  simp only [StableHlo.TRef.toBuf, StableHlo.TRef.ofBuf, id, cast_eq]
  rfl
theorem W6_q (k : Fin 128) : (W6 m ρ c (Proc.devRef .tc main_v62) : Vec Ideal S1x128 .i32) (ix2 (0 : Fin 1) k) = BitVec.ofNat 32 (k.val / 64) := by
  refine Eq.trans ?_ (over64_ofNat k)
  show (StableHlo.after hostOps1_3 (W5 m ρ c) (Proc.devRef .tc main_v62) : Vec Ideal S1x128 .i32) _ = _
  unfold hostOps1_3; after_results_simp
  simp only [StableHlo.TRef.toBuf, StableHlo.TRef.ofBuf, id, cast_eq]
  rfl

/-- One where two numbers agree, zero elsewhere. -/
def same (a : Vec Ideal S128x1 .i32) (b : Vec Ideal S1x128 .i32) : FVec Ideal S128x128 .bf16 :=
  uitofp .bf16 (cmpi .eq (broadcastInDim S128x128 ![0, 1] bcast_S128x1_S128x128_0_1 a) (broadcastInDim S128x128 ![0, 1] bcast_S1x128_S128x128_0_1 b))

theorem eq_heads : ∀ j k : Fin 128, IntOp.cmpi .eq (BitVec.ofNat 32 (j.val / 64)) (BitVec.ofNat 32 (k.val / 64)) = if j.val / 64 = k.val / 64 then 1#1 else 0#1 := by
  decide +kernel

theorem W7_ones (j k : Fin 128) : bO (V7 m ρ) c (ix2 j k) = if j.val / 64 = k.val / 64 then 1 else 0 := by
  have e := (W6_of m ρ c main_v60 (by decide)).trans (W5_of m ρ c main_v60 (by decide))
  have ej : (W6 m ρ c (Proc.devRef .tc main_v60) : Vec Ideal S128x1 .i32) (ix2 j (0 : Fin 1)) = _ := (congrFun e _).trans (W4_q m ρ c j)
  have ek := W6_q m ρ c k
  have eo : bO (V7 m ρ) c = same (W6 m ρ c (Proc.devRef .tc main_v60)) (W6 m ρ c (Proc.devRef .tc main_v62)) := by
    show StableHlo.after hostOps1_4 (W6 m ρ c) _ = _
    generalize W6 m ρ c = w
    unfold hostOps1_4; after_results_simp; rfl
  rw [eo]
  generalize (W6 m ρ c (Proc.devRef .tc main_v60) : Vec Ideal S128x1 .i32) = a at ej ⊢
  generalize (W6 m ρ c (Proc.devRef .tc main_v62) : Vec Ideal S1x128 .i32) = b at ek ⊢
  have el : same a b (ix2 j k) = FloatOps.uitofp (F := Ideal) .bf16 (IntOp.cmpi .eq (a (ix2 j (0 : Fin 1))) (b (ix2 (0 : Fin 1) k))) := by
    unfold same
    pointwise
  rw [el, ej, ek, eq_heads]
  split
  · simp [FloatOps.uitofp]
  · simp [FloatOps.uitofp]

/-! ## What the last call is entered with -/

/-- A buffer set before the first call and read by the last. -/
theorem keep (b : Ref sig .tc) (h : b = main_v40 ∨ b = main_v30 ∨ b = main_v35) : V7 m ρ c b = V1 m ρ c b := by
  rcases h with rfl | rfl | rfl <;>
    exact (W7_of m ρ c _ (by decide)).trans ((W6_of m ρ c _ (by decide)).trans ((W5_of m ρ c _ (by decide)).trans
      ((W4_of m ρ c _ (by decide)).trans ((W3_of m ρ c _ (by decide)).trans (W2_of m ρ c _ (by decide))))))
/-- A buffer set between the calls. -/
theorem keep' (b : Ref sig .tc) (h : b = main_v53 ∨ b = main_v57) : V7 m ρ c b = W3 m ρ c (Proc.devRef .tc b) := by
  rcases h with rfl | rfl <;>
    exact (W7_of m ρ c _ (by decide)).trans ((W6_of m ρ c _ (by decide)).trans ((W5_of m ρ c _ (by decide)).trans (W4_of m ρ c _ (by decide))))

theorem holds : Holds (V7 m ρ) c where
  cos r l := by
    unfold bC
    rw [keep m ρ c _ (.inr (.inl rfl)), V1_C, twice_apply, ite_self, ← angs_apply]
    rfl
  sin r l := by
    unfold bT
    rw [keep m ρ c _ (.inr (.inr rfl)), V1_T, twice_apply, ← angs_apply]
    rfl
  one := W7_ones m ρ c

theorem N_apply (r : Fin 8448) (k : Fin 2048) :
    bN (V7 m ρ) c (ix2 r k) = rms (word 0x45000000#32) (fun j => rows m c (ix2 r j)) (fun j => aG m c (ix2 (0 : Fin 1) j)) k := by
  have e : V7 m ρ c main_v43 = res0 (V1 m ρ) c :=
    (W7_of m ρ c main_v43 (by decide)).trans ((W6_of m ρ c main_v43 (by decide)).trans ((W5_of m ρ c main_v43 (by decide)).trans
      ((W4_of m ρ c main_v43 (by decide)).trans ((W3_of m ρ c main_v43 (by decide)).trans ((W2_arr m ρ c 2).trans (arr0 (V1 m ρ) c))))))
  unfold bN
  rw [e]
  unfold res0 bX bG
  rw [V1_X, V1_G]
  have g : (fun j : Fin 2048 => shapeCast S1x2048 (shapeCast S2048 (aG m c) shapeCasts_S1x2048_S2048) shapeCasts_S2048_S1x2048 (ix2 (0 : Fin 1) j))
      = fun j => aG m c (ix2 (0 : Fin 1) j) := by
    funext j
    pointwise
  rw [g]
  rfl
theorem W_apply (k : Fin 2048) (q : Fin 9216) : bW (V7 m ρ) c (ix2 k q) = aW m c (ix3 (0 : Fin 1) k q) := by
  unfold bW
  rw [keep m ρ c _ (.inl rfl), V1_W]
  pointwise
theorem A_apply (q : Fin 2048) : bA (V7 m ρ) c (ix2 (0 : Fin 1) q)
    = if q.val < 1024 then aQ m c (ix2 (0 : Fin 1) (lane q)) else aK m c (ix2 (0 : Fin 1) (lane q)) := by
  unfold bA
  rw [keep' m ρ c _ (.inl rfl), W3_A, gains_apply]
theorem S_apply (q : Fin 2048) : bS (V7 m ρ) c (ix2 (0 : Fin 1) q) = if q.val < 1024 then word 0x3E000000#32 else 1 := by
  unfold bS
  rw [keep' m ρ c _ (.inr rfl), W3_S, scales_apply]

/-- The head a column lies in, normed and turned, from the arguments. -/
def entry (r : Fin 8448) (q : Fin 2048) : EReal :=
  head (fun d => proj (fun j => rows m c (ix2 r j)) (fun j => aG m c (ix2 (0 : Fin 1) j)) (aW m c) (col 0 (by omega) (tile heads2048 q d)))
    (fun d => if q.val < 1024 then aQ m c (ix2 (0 : Fin 1) d) else aK m c (ix2 (0 : Fin 1) d)) (angle r.val) (lane q)

theorem full_eq (r : Fin 8448) (q : Fin 2048) : full (V7 m ρ) c r q = entry m c r q := by
  unfold full entry
  have p : ∀ q, pcol (V7 m ρ) c r q = proj (fun j => rows m c (ix2 r j)) (fun j => aG m c (ix2 (0 : Fin 1) j)) (aW m c) (col 0 (by omega) q) := fun q => by
    unfold pcol prod proj
    exact Finset.sum_congr rfl fun k _ => congrArg₂ (· * ·) (N_apply m ρ c r k) (W_apply m ρ c k _)
  have g : ∀ d, bA (V7 m ρ) c (ix2 (0 : Fin 1) (tile heads2048 q d)) = if q.val < 1024 then aQ m c (ix2 (0 : Fin 1) d) else aK m c (ix2 (0 : Fin 1) d) := fun d => by
    rw [A_apply]
    have e : lane (tile heads2048 q d) = d := Fin.ext (by simp only [lane, tile]; omega)
    have e' : (tile heads2048 q d).val < 1024 ↔ q.val < 1024 := by simp only [tile]; omega
    simp only [e, e']
  simp only [p, g]

/-! ## The results at the end -/

theorem end_qk (r : Fin 8448) (q : Fin 2048) : (V8 m ρ c main_v67_0 : Vec Ideal S8448x2048 .f32) (ix2 r q) = entry m c r q := by
  have e : V8 m ρ c main_v67_0 = res7 (V7 m ρ) c := (W8_arr m ρ c 7).trans (arr7 (V7 m ρ) c (holds m ρ c))
  rw [e, ← full_eq m ρ]
  rfl
theorem end_qk16 (r : Fin 8448) (q : Fin 2048) :
    (V8 m ρ c main_v67_1 : Vec Ideal S8448x2048 .bf16) (ix2 r q) = entry m c r q * (if q.val < 1024 then word 0x3E000000#32 else 1) := by
  have e : V8 m ρ c main_v67_1 = res8 (V7 m ρ) c := (W8_arr m ρ c 8).trans (arr8 (V7 m ρ) c (holds m ρ c))
  rw [e, ← full_eq m ρ, ← S_apply m ρ c]
  rfl

end Cert.QkIdeal.Layer
end
-- ==== Proof.QkRef.lean ====
module
public import proofs.«01_k».proof.Proof.Gen.QkReferenceIdeal.Read
public import Idealize.ShloMosaic.Lib.Pointwise
public import proofs.«01_k».proof.Proof.QkSpec

@[expose] public section

set_option maxRecDepth 16384

/-! # The plain program of the normed and turned heads, at an index -/

noncomputable section

namespace Cert.QkReferenceIdeal.Layer

open Cert.QkReferenceIdeal Cert.QkReferenceIdeal.Gen Cert.QkReferenceIdeal.Read Cert.Layer
open Idealize.ShloMosaic Idealize.ShloMosaic.TcCoe

variable (x0 : Vec Ideal S2x4096x2048 .f32) (x1 : Vec Ideal S32x8x2048 .f32) (x2 : Vec Ideal S1x2048 .f32)
  (x3 : Vec Ideal S1x2048x9216 .f32) (x4 x5 : Vec Ideal S1x64 .f32)

/-- The rows of both groups, one under the other. -/
abbrev rows : Vec Ideal S8448x2048 .f32 := val_main_v2 (F := Ideal) x0 x1

theorem normed_apply (r : Fin 8448) (q : Fin 2048) :
    val_main_v24 (F := Ideal) x0 x1 x2 (ix2 r q)
      = rms (word 0x45000000#32) (fun j => rows x0 x1 (ix2 r j)) (fun j => x2 (ix2 (0 : Fin 1) j)) q := by
  unfold rms rows
  pointwise [val_main_v24, val_main_v23, val_main_v22, val_main_v21, val_main_v20, val_main_v19, val_main_v18, val_main_v17, val_main_cst_2,
    val_main_v16, val_main_v15, val_main_cst_1, val_main_v14, val_main_v13, val_main_cst, val_main_v12, val_main_v11]

theorem proj_apply (r : Fin 8448) (q : Fin 9216) :
    val_main_v26 (F := Ideal) x0 x1 x2 x3 (ix2 r q)
      = proj (fun j => rows x0 x1 (ix2 r j)) (fun j => x2 (ix2 (0 : Fin 1) j)) x3 q := by
  unfold proj
  simp only [← normed_apply]
  pointwise [val_main_v26, val_main_v25]

theorem mask7 (n : ℕ) (h : n < 256) : IntOp.addi (IntOp.andi (BitVec.ofNat 32 n) 7#32) 16384#32 = BitVec.ofNat 32 (16384 + n % 8) := by
  apply BitVec.eq_of_toNat_eq
  have e : n &&& 7 = n % 8 := Nat.and_two_pow_sub_one_eq_mod n 3
  simp only [IntOp.addi, IntOp.andi, BitVec.toNat_add, BitVec.toNat_and, BitVec.toNat_ofNat]
  rw [Nat.mod_eq_of_lt (show n < 2 ^ 32 by omega), show 7 % 2 ^ 32 = 7 from rfl, e]
  omega

theorem positions (r : Fin 8448) : val_main_v10 (F := Ideal) (ix1 r) = BitVec.ofNat 32 (pos r.val) := by
  pointwise [val_main_v10, val_main_v9, val_main_v8, val_main_c_0, val_main_v7, val_main_v6, val_main_c, val_main_v5, val_main_v4, val_main_v3]
  unfold pos
  by_cases h : r.val < 4096
  · rw [dif_pos h, if_pos h]
  · rw [dif_neg h, if_neg h]
    by_cases h' : r.val < 8192
    · rw [dif_pos (by omega), if_pos h']
    · rw [dif_neg (by omega), if_neg h', mask7 _ (by omega), Nat.sub_sub]

theorem angles (r : Fin 8448) (i : Fin 32) : val_main_v57 (F := Ideal) (ix2 r i) = angle r.val i := by
  unfold angle
  rw [← positions]
  pointwise [val_main_v57, val_main_v56, val_main_v55, val_main_v54, val_main_v53, val_main_v52, val_main_v51, val_main_v50, val_main_cst_8, val_main_v49, val_main_v48, val_main_cst_7, val_main_v47, val_main_v46, val_main_cst_6, val_main_v45, val_main_v44]

/-- The second group of heads turns by the same angles. -/
theorem angles' (r : Fin 8448) (i : Fin 32) : val_main_v104 (F := Ideal) (ix2 r i) = angle r.val i := angles r i

/-- The place in its group of 16 heads that column `e` of head `h` has. -/
abbrev at' (h : Fin 16) (e : Fin 64) : Fin 1024 := ⟨h.val * 64 + e.val, by omega⟩
/-- The head a column lies in. -/
abbrev ofCol (q : Fin 1024) : Fin 16 := ⟨q.val / 64, by omega⟩

theorem q_norm (r : Fin 8448) (h : Fin 16) (d : Fin 64) : val_main_v43 (F := Ideal) x0 x1 x2 x3 x4 (ix3 r h d) =
    rms (word 0x42800000#32) (fun e => val_main_v27 (F := Ideal) x0 x1 x2 x3 (ix2 r (at' h e))) (fun e => x4 (ix2 (0 : Fin 1) e)) d := by
  unfold rms
  pointwise [val_main_v43, val_main_v42, val_main_v41, val_main_v40, val_main_v39, val_main_v38, val_main_v37, val_main_v36, val_main_cst_5, val_main_v35, val_main_v34, val_main_cst_4, val_main_v33, val_main_v32, val_main_cst_3, val_main_v31, val_main_v30, val_main_v29]
theorem k_norm (r : Fin 8448) (h : Fin 16) (d : Fin 64) : val_main_v90 (F := Ideal) x0 x1 x2 x3 x5 (ix3 r h d) =
    rms (word 0x42800000#32) (fun e => val_main_v28 (F := Ideal) x0 x1 x2 x3 (ix2 r (at' h e))) (fun e => x5 (ix2 (0 : Fin 1) e)) d := by
  unfold rms
  pointwise [val_main_v90, val_main_v89, val_main_v88, val_main_v87, val_main_v86, val_main_v85, val_main_v84, val_main_v83, val_main_cst_11, val_main_v82, val_main_v81, val_main_cst_10, val_main_v80, val_main_v79, val_main_cst_9, val_main_v78, val_main_v77, val_main_v76]

/-- The two halves of a turn, as the plain program writes them. -/
theorem turn_halves (y : Fin 64 → EReal) (a : Fin 32 → EReal) (q : Fin 1024) :
    (if h : q.val % 64 < 32 then
        y ⟨q.val % 64, by omega⟩ * Ideal.cos (a ⟨q.val % 64, h⟩) - y ⟨32 + q.val % 64, by omega⟩ * Ideal.sin (a ⟨q.val % 64, h⟩)
      else y ⟨32 + (q.val % 64 - 32), by omega⟩ * Ideal.cos (a ⟨q.val % 64 - 32, by omega⟩)
        + y ⟨q.val % 64 - 32, by omega⟩ * Ideal.sin (a ⟨q.val % 64 - 32, by omega⟩)) = turn y a (lane q) := by
  unfold turn
  by_cases h : q.val % 64 < 32
  · rw [dif_pos h, dif_pos (show (lane q).val < 32 from h)]
    have e : (⟨32 + q.val % 64, by omega⟩ : Fin 64) = ⟨(lane q).val + 32, by simp only [lane]; omega⟩ := Fin.ext (by simp only [lane]; omega)
    rw [e]; rfl
  · rw [dif_neg h, dif_neg (show ¬ (lane q).val < 32 from h)]
    have e : (⟨32 + (q.val % 64 - 32), by omega⟩ : Fin 64) = lane q := Fin.ext (by simp only [lane]; omega)
    rw [e]; rfl

theorem q_turn (r : Fin 8448) (q : Fin 1024) : val_main_v75 (F := Ideal) x0 x1 x2 x3 x4 (ix2 r q) =
    turn (fun d => val_main_v43 (F := Ideal) x0 x1 x2 x3 x4 (ix3 r (ofCol q) d)) (fun i => val_main_v57 (F := Ideal) (ix2 r i)) (lane q) := by
  rw [← turn_halves]
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58]
theorem k_turn (r : Fin 8448) (q : Fin 1024) : val_main_v122 (F := Ideal) x0 x1 x2 x3 x5 (ix2 r q) =
    turn (fun d => val_main_v90 (F := Ideal) x0 x1 x2 x3 x5 (ix3 r (ofCol q) d)) (fun i => val_main_v104 (F := Ideal) (ix2 r i)) (lane q) := by
  rw [← turn_halves]
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105]

/-- The projection's columns that the two groups of heads take. -/
theorem q_col (r : Fin 8448) (q : Fin 1024) : val_main_v27 (F := Ideal) x0 x1 x2 x3 (ix2 r q)
    = proj (fun j => rows x0 x1 (ix2 r j)) (fun j => x2 (ix2 (0 : Fin 1) j)) x3 (col 0 (by omega) q) := by
  rw [val_main_v27_apply]
  refine (congrArg _ ?_).trans (proj_apply x0 x1 x2 x3 r _)
  funext a; fin_cases a
  · rfl
  · exact Fin.ext (Nat.zero_add _).symm
theorem k_col (r : Fin 8448) (q : Fin 1024) : val_main_v28 (F := Ideal) x0 x1 x2 x3 (ix2 r q)
    = proj (fun j => rows x0 x1 (ix2 r j)) (fun j => x2 (ix2 (0 : Fin 1) j)) x3 (col 1024 (by omega) q) := by
  rw [val_main_v28_apply]
  refine (congrArg _ ?_).trans (proj_apply x0 x1 x2 x3 r _)
  funext a; fin_cases a <;> rfl

/-- What both results are of: the head a column lies in, normed and turned, the first 16 heads with one gain and the last 16 with the other. -/
def full (r : Fin 8448) (q : Fin 2048) : EReal :=
  head (fun d => proj (fun j => rows x0 x1 (ix2 r j)) (fun j => x2 (ix2 (0 : Fin 1) j)) x3 (col 0 (by omega) (tile heads2048 q d)))
    (fun d => if q.val < 1024 then x4 (ix2 (0 : Fin 1) d) else x5 (ix2 (0 : Fin 1) d)) (angle r.val) (lane q)

theorem q_head (r : Fin 8448) (q : Fin 2048) (h : q.val < 1024) :
    val_main_v75 (F := Ideal) x0 x1 x2 x3 x4 (ix2 r ⟨q.val, h⟩) = full x0 x1 x2 x3 x4 x5 r q := by
  rw [q_turn]
  unfold full head
  simp only [q_norm, angles, q_col, if_pos h]
  rfl
theorem k_head (r : Fin 8448) (q : Fin 2048) (h : ¬ q.val < 1024) :
    val_main_v122 (F := Ideal) x0 x1 x2 x3 x5 (ix2 r (⟨q.val - 1024, by omega⟩ : Fin 1024)) = full x0 x1 x2 x3 x4 x5 r q := by
  rw [k_turn]
  unfold full head
  have e : ∀ d : Fin 64, (col 1024 (by omega) (at' (ofCol ⟨q.val - 1024, by omega⟩) d) : Fin 9216) = col 0 (by omega) (tile heads2048 q d) := fun d =>
    Fin.ext (by simp only [col, tile]; omega)
  have e' : lane (⟨q.val - 1024, by omega⟩ : Fin 1024) = lane q := Fin.ext (by simp only [lane]; omega)
  simp only [k_norm, angles', k_col, if_neg h, e, e']

theorem ref_qk (r : Fin 8448) (q : Fin 2048) :
    val_main_v126 (F := Ideal) x0 x1 x2 x3 x4 x5 (ix2 r q) = full x0 x1 x2 x3 x4 x5 r q := by
  have e : val_main_v126 (F := Ideal) x0 x1 x2 x3 x4 x5 (ix2 r q) =
      if h : q.val < 1024 then val_main_v75 (F := Ideal) x0 x1 x2 x3 x4 (ix2 r ⟨q.val, h⟩)
      else val_main_v122 (F := Ideal) x0 x1 x2 x3 x5 (ix2 r (⟨q.val - 1024, by omega⟩ : Fin 1024)) := by
    pointwise [val_main_v126]
  rw [e]
  by_cases h : q.val < 1024
  · rw [dif_pos h, q_head]
  · rw [dif_neg h, k_head _ _ _ _ x4 _ _ _ h]

/-- In the rounded copy the first 16 heads are scaled by an eighth. -/
theorem ref_qk16 (r : Fin 8448) (q : Fin 2048) :
    val_main_v127 (F := Ideal) x0 x1 x2 x3 x4 x5 (ix2 r q)
      = full x0 x1 x2 x3 x4 x5 r q * (if q.val < 1024 then word 0x3E000000#32 else 1) := by
  have e : val_main_v127 (F := Ideal) x0 x1 x2 x3 x4 x5 (ix2 r q) =
      if h : q.val < 1024 then val_main_v75 (F := Ideal) x0 x1 x2 x3 x4 (ix2 r ⟨q.val, h⟩) * word 0x3E000000#32
      else val_main_v122 (F := Ideal) x0 x1 x2 x3 x5 (ix2 r (⟨q.val - 1024, by omega⟩ : Fin 1024)) := by
    pointwise [val_main_v127, val_main_v125, val_main_v124, val_main_v123, val_main_cst_15]
  rw [e]
  by_cases h : q.val < 1024
  · rw [dif_pos h, if_pos h, q_head]
  · rw [dif_neg h, if_neg h, mul_one, k_head _ _ _ _ x4 _ _ _ h]

end Cert.QkReferenceIdeal.Layer
end
-- ==== Proof.QkClaims.lean ====
module
public import proofs.«01_k».proof.Defs
public import proofs.«01_k».proof.Proof.Gen.Qk.Frame
public import proofs.«01_k».proof.Proof.QkRun
public import proofs.«01_k».proof.Proof.QkRef
public import proofs.«01_k».proof.Proof.MixClaims
public import Idealize.ShloMosaic.Lib.Quiescent

@[expose] public section

set_option maxRecDepth 16384

/-! # The claims about the normed and turned queries and keys -/

noncomputable section

namespace Cert.Layer

open Idealize.ShloMosaic Idealize.SL.Sem Idealize.ShloMosaic.TcCoe

theorem frame_Qk : Cert.quiescent_Qk := fun m g _ => Cert.Qk.Gen.frame m g
theorem frame_QkIdeal : Cert.quiescent_QkIdeal := fun m g _ => Cert.QkIdeal.Gen.frame m g
theorem frame_QkReferenceIdeal : Cert.quiescent_QkReferenceIdeal := fun m g _ =>
  (θ_run Cert.QkReferenceIdeal.defs _ _).mono (fun r h => ⟨fun c => (h c).2.2, sem_eq_zero_of_no_sems (by decide) r.2⟩)
    (Cert.QkReferenceIdeal.Value.run m g)

section
open Cert.QkIdeal

theorem alg_qk : Cert.algebraic_QkIdeal_QkReferenceIdeal := by
  intro m g m' g' h hargs
  refine ⟨fun c => Cert.QkIdeal.Gen.V8 m g c main_v67_0, fun c => Cert.QkIdeal.Gen.V8 m g c main_v67_1, ?_, ?_⟩
  · refine (θ_run Cert.QkIdeal.defs _ _).mono (fun _ hr c => ?_) (Cert.QkIdeal.Layer.run_all m g)
    exact ⟨hr c _ (by decide), hr c _ (by decide),
      (hr c _ (by decide)).trans (Cert.QkIdeal.Gen.W8_main_arg0 m g c), (hr c _ (by decide)).trans (Cert.QkIdeal.Gen.W8_main_arg1 m g c),
      (hr c _ (by decide)).trans (Cert.QkIdeal.Gen.W8_main_arg2 m g c), (hr c _ (by decide)).trans (Cert.QkIdeal.Gen.W8_main_arg3 m g c),
      (hr c _ (by decide)).trans (Cert.QkIdeal.Gen.W8_main_arg4 m g c), (hr c _ (by decide)).trans (Cert.QkIdeal.Gen.W8_main_arg5 m g c)⟩
  · refine (θ_run Cert.QkReferenceIdeal.defs _ _).mono (fun _ hr c => ?_) (Cert.QkReferenceIdeal.Value.run m' g')
    obtain ⟨e0, e1, e2, e3, e4, e5⟩ := hargs c
    refine ⟨(hr c).1.trans ?_, (hr c).2.1.trans ?_, (hr c).2.2⟩
    · rw [Cert.QkReferenceIdeal.Read.val_main_v126_eq, e0, e1, e2, e3, e4, e5]
      funext i
      obtain ⟨r, q, rfl⟩ := idx2 i
      exact (Cert.QkReferenceIdeal.Layer.ref_qk _ _ _ _ _ _ r q).trans (Cert.QkIdeal.Layer.end_qk m g c r q).symm
    · rw [Cert.QkReferenceIdeal.Read.val_main_v127_eq, e0, e1, e2, e3, e4, e5]
      funext i
      obtain ⟨r, q, rfl⟩ := idx2 i
      exact (Cert.QkReferenceIdeal.Layer.ref_qk16 _ _ _ _ _ _ r q).trans (Cert.QkIdeal.Layer.end_qk16 m g c r q).symm
end

end Cert.Layer
end
-- ==== Proof.GmlpBody.lean ====
module
public import proofs.«01_k».proof.Proof.Gen.GmlpIdeal.Value
public import Idealize.ShloMosaic.Lib.Pipeline.ValueKit
public import Idealize.ShloMosaic.Lib.Pointwise

@[expose] public section

set_option maxRecDepth 16384

/-! # One block of the product along the positions -/

noncomputable section

namespace Cert.GmlpIdeal.Layer

open Cert.GmlpIdeal Cert.GmlpIdeal.Gen
open Idealize.ShloMosaic Idealize.ShloMosaic.TcCoe

/-- What the call stores for one group of columns. -/
theorem pay_apply (w : Vec Ideal S1x1x128x128 .bf16) (v : Vec Ideal S128x128 .f32) (b : Vec Ideal S1x1x128x128 .f32) (u : Vec Ideal S128x128 .bf16)
    (r d : Fin 128) :
    k0_pay3 (F := Ideal) w v b u (ix2 r d)
      = u (ix2 r d) * ((∑ s : Fin 128, w (ix4 (0 : Fin 1) (0 : Fin 1) r s) * v (ix2 s d)) + b (ix4 (0 : Fin 1) (0 : Fin 1) r d)) := by
  pointwise [k0_pay3]

variable (u : Vec Ideal S128x1024 .bf16) (v : Vec Ideal S128x1024 .f32) (w : Vec Ideal S1x8x128x128 .bf16) (b : Vec Ideal S1x8x128x128 .f32)

/-- The group of a column. -/
def grp (q : Fin 1024) : Fin 8 := ⟨q.val / 128, by omega⟩
def lane (q : Fin 1024) : Fin 128 := ⟨q.val % 128, by omega⟩

/-- The block at a row and a column. -/
def blockAt (r : Fin 128) (q : Fin 1024) : EReal :=
  u (ix2 r q) * ((∑ s : Fin 128, w (ix4 (0 : Fin 1) (grp q) r s) * v (ix2 s q)) + b (ix4 (0 : Fin 1) (grp q) r (lane q)))

theorem ld_cols {e : EltTy} (x : Vec Ideal S128x1024 e) (o : ℕ) (ho : o + 128 ≤ 1024) (inb : ∀ a, (![0, o] : Fin 2 → ℕ) a + S128x128.size a ≤ S128x1024.size a)
    (r l : Fin 128) : (View.ld x (Rect.unit (s := S128x1024) ![0, o] S128x128.size inb) : Vec Ideal S128x128 e) (ix2 r l)
      = x (ix2 r ⟨o + l.val, by omega⟩) := by
  refine View.ld_unit_apply_of x _ _ _ _ _ fun a => ?_
  fin_cases a
  · show r.val = 0 + r.val; omega
  · rfl

theorem ld_grp {e : EltTy} (x : Vec Ideal S1x8x128x128 e) (g : ℕ) (hg : g < 8)
    (inb : ∀ a, (![0, g, 0, 0] : Fin 4 → ℕ) a + S1x1x128x128.size a ≤ S1x8x128x128.size a)
    (r l : Fin 128) : (View.ld x (Rect.unit (s := S1x8x128x128) ![0, g, 0, 0] S1x1x128x128.size inb) : Vec Ideal S1x1x128x128 e) (ix4 (0 : Fin 1) (0 : Fin 1) r l)
      = x (ix4 (0 : Fin 1) ⟨g, hg⟩ r l) := by
  refine View.ld_unit_apply_of x _ _ _ _ _ fun a => ?_
  fin_cases a
  · rfl
  · rfl
  · show r.val = 0 + r.val; omega
  · show l.val = 0 + l.val; omega

/-- The columns of group `g` are stored as the block says. -/
theorem place (g o : ℕ) (hg : g < 8) (ho : o = g * 128)
    (ing : ∀ a, (![0, g, 0, 0] : Fin 4 → ℕ) a + S1x1x128x128.size a ≤ S1x8x128x128.size a)
    (inb : ∀ a, (![0, o] : Fin 2 → ℕ) a + S128x128.size a ≤ S128x1024.size a) (y : S128x128.Idx) :
    k0_pay3 (F := Ideal) (View.ld w (Rect.unit (s := S1x8x128x128) ![0, g, 0, 0] S1x1x128x128.size ing))
        (View.ld v (Rect.unit (s := S128x1024) ![0, o] S128x128.size inb))
        (View.ld b (Rect.unit (s := S1x8x128x128) ![0, g, 0, 0] S1x1x128x128.size ing))
        (View.ld u (Rect.unit (s := S128x1024) ![0, o] S128x128.size inb)) y
      = (fun i : S128x1024.Idx => blockAt u v w b (i 0) (i 1)) ((Rect.unit (s := S128x1024) ![0, o] S128x128.size inb).emb y) := by
  obtain ⟨r, l, rfl⟩ : ∃ (r l : Fin 128), y = ix2 r l := ⟨y 0, y 1, by funext a; fin_cases a <;> rfl⟩
  refine (pay_apply _ _ _ _ r l).trans ?_
  have eq : grp ⟨o + l.val, by omega⟩ = ⟨g, hg⟩ := Fin.ext (by show (o + l.val) / 128 = g; omega)
  have el : lane ⟨o + l.val, by omega⟩ = l := Fin.ext (by show (o + l.val) % 128 = l.val; omega)
  have e : blockAt u v w b r ⟨o + l.val, by omega⟩ = blockAt u v w b ((Rect.unit (s := S128x1024) ![0, o] S128x128.size inb).emb (ix2 r l) 0)
      ((Rect.unit (s := S128x1024) ![0, o] S128x128.size inb).emb (ix2 r l) 1) := by
    refine congrArg₂ (blockAt u v w b) (Fin.ext ?_) (Fin.ext ?_)
    · show r.val = 0 + 1 * r.val; omega
    · show o + l.val = o + 1 * l.val; omega
  refine Eq.trans ?_ e
  unfold blockAt
  rw [eq, el, ld_cols u o (by omega), ld_grp b g hg]
  refine congrArg (fun z => _ * (z + _)) (Finset.sum_congr rfl fun s _ => ?_)
  rw [ld_cols v o (by omega), ld_grp w g hg]

theorem out_apply (r : Fin 128) (q : Fin 1024) : out0_4 u v w b (ix2 r q) = blockAt u v w b r q := by
  have P := fun (g o : ℕ) (hg : g < 8) (ho : o = g * 128) ing inb => place u v w b g o hg ho ing inb
  unfold out0_4
  refine View.canon_apply_of_pieces (Val := Elt Ideal) ((fun i => blockAt u v w b (i 0) (i 1)) : Vec Ideal S128x1024 .bf16) _ ?_ (ix2 r q)
    (cover0_4 _ _ _ _ _ _ _ _ _)
  simp only [List.forall_mem_cons, List.forall_mem_nil, and_true]
  exact ⟨P 7 896 (by omega) rfl _ _, P 6 768 (by omega) rfl _ _, P 5 640 (by omega) rfl _ _, P 4 512 (by omega) rfl _ _,
    P 3 384 (by omega) rfl _ _, P 2 256 (by omega) rfl _ _, P 1 128 (by omega) rfl _ _, P 0 0 (by omega) rfl _ _, fun _ h => absurd h List.not_mem_nil⟩

end Cert.GmlpIdeal.Layer
end
-- ==== Proof.GmlpRef.lean ====
module
public import proofs.«01_k».proof.Proof.Gen.GmlpReferenceIdeal.Read
public import Idealize.ShloMosaic.Lib.Pointwise

@[expose] public section

set_option maxRecDepth 16384

/-! # The product along the positions: the plain program -/

noncomputable section

namespace Cert.Layer

open Idealize.ShloMosaic

/-- A row of a mixing matrix times a column of `n` positions, plus the bias. -/
def mixed (n : ℕ) (w : Fin n → EReal) (v : Fin n → EReal) (b : EReal) : EReal := (∑ s : Fin n, w s * v s) + b

/-- The product at a row and a column: a prompt's row is mixed with the 128 of its chunk, a sample's with the 8 of its sequence. -/
def gmlp (u v : Fin 8448 → Fin 1024 → EReal) (w : Fin 8 → Fin 128 → Fin 128 → EReal) (b : Fin 8 → Fin 128 → EReal) (r : Fin 8448) (q : Fin 1024) : EReal :=
  u r q * (if h : r.val < 8192
    then mixed 128 (fun s => w ⟨q.val / 128, by omega⟩ ⟨r.val % 128, by omega⟩ s) (fun s => v ⟨r.val / 128 * 128 + s.val, by omega⟩ q)
      (b ⟨q.val / 128, by omega⟩ ⟨r.val % 128, by omega⟩)
    else mixed 8 (fun s => w ⟨q.val / 128, by omega⟩ ⟨r.val % 8, by omega⟩ ⟨s.val, by omega⟩) (fun s => v ⟨r.val / 8 * 8 + s.val, by omega⟩ q)
      (b ⟨q.val / 128, by omega⟩ ⟨r.val % 8, by omega⟩))

end Cert.Layer

namespace Cert.GmlpReferenceIdeal.Layer

open Cert.GmlpReferenceIdeal Cert.GmlpReferenceIdeal.Gen Cert.GmlpReferenceIdeal.Read Cert.Layer
open Idealize.ShloMosaic Idealize.ShloMosaic.TcCoe

variable (x0 : Vec Ideal S8448x1024 .bf16) (x1 : Vec Ideal S8448x1024 .f32) (x2 : Vec Ideal S1x8x128x128 .f32) (x3 : Vec Ideal S1x8x128 .f32)

theorem prompt_apply (r : Fin 8192) (q : Fin 1024) : val_main_v26 (F := Ideal) x1 x2 x3 (ix2 r q)
    = mixed 128 (fun s => val_main_v5 (F := Ideal) x2 (ix3 (⟨q.val / 128, by omega⟩ : Fin 8) (⟨r.val % 128, by omega⟩ : Fin 128) s))
        (fun s => x1 (ix2 (⟨r.val / 128 * 128 + s.val, by omega⟩ : Fin 8448) q))
        (x3 (ix3 (0 : Fin 1) (⟨q.val / 128, by omega⟩ : Fin 8) (⟨r.val % 128, by omega⟩ : Fin 128))) := by
  unfold mixed
  generalize hW : val_main_v5 (F := Ideal) x2 = W
  pointwise [val_main_v26, val_main_v14, val_main_v13, val_main_v12, val_main_v11, val_main_v10, val_main_v9, val_main_v8, val_main_v7, val_main_v6]
  rw [← hW]
  exact congrArg (· + _) (Finset.sum_congr rfl fun s _ => mul_comm _ _)

theorem sample_apply (r : Fin 256) (q : Fin 1024) : val_main_v27 (F := Ideal) x1 x2 x3 (ix2 r q)
    = mixed 8 (fun s => val_main_v5 (F := Ideal) x2 (ix3 (⟨q.val / 128, by omega⟩ : Fin 8) (⟨r.val % 8, by omega⟩ : Fin 128) (⟨s.val, by omega⟩ : Fin 128)))
        (fun s => x1 (ix2 (⟨8192 + (r.val / 8 * 8 + s.val), by omega⟩ : Fin 8448) q))
        (x3 (ix3 (0 : Fin 1) (⟨q.val / 128, by omega⟩ : Fin 8) (⟨r.val % 8, by omega⟩ : Fin 128))) := by
  unfold mixed
  pointwise [val_main_v27, val_main_v25, val_main_v24, val_main_v23, val_main_v22, val_main_v21, val_main_v20, val_main_v19, val_main_v18, val_main_v17, val_main_v16, val_main_v15]
  exact congrArg (· + _) (Finset.sum_congr rfl fun s _ => mul_comm _ _)

theorem res_apply (r : Fin 8448) (q : Fin 1024) : val_main_v31 (F := Ideal) x0 x1 x2 x3 (ix2 r q)
    = gmlp (fun r q => x0 (ix2 r q)) (fun r q => x1 (ix2 r q)) (fun g t s => val_main_v5 (F := Ideal) x2 (ix3 g t s)) (fun g t => x3 (ix3 (0 : Fin 1) g t)) r q := by
  unfold gmlp
  pointwise [val_main_v31, val_main_v30, val_main_v29, val_main_v28]
  refine congrArg (fun z => _ * z) ?_
  by_cases h : r.val < 8192
  · rw [dif_pos h, dif_pos h]
    exact prompt_apply x1 x2 x3 ⟨r.val, h⟩ q
  · rw [dif_neg h, dif_neg h]
    refine (sample_apply x1 x2 x3 ⟨r.val - 8192, by omega⟩ q).trans ?_
    have e : (r.val - 8192) % 8 = r.val % 8 := by omega
    have e' : ∀ s : ℕ, 8192 + ((r.val - 8192) / 8 * 8 + s) = r.val / 8 * 8 + s := by omega
    simp only [e, e']

end Cert.GmlpReferenceIdeal.Layer
end
-- ==== Proof.GmlpHost.lean ====
module
public import proofs.«01_k».proof.Proof.GmlpBody
public import proofs.«01_k».proof.Proof.GmlpRef

@[expose] public section

set_option maxRecDepth 16384

/-! # The mixing matrices the host makes -/

noncomputable section

namespace Cert.GmlpIdeal.Layer

open Cert.GmlpIdeal Cert.GmlpIdeal.Gen Cert.Layer
open Idealize.ShloMosaic Idealize.ShloMosaic.TcCoe

variable (m : (ℓ : Loc nD τ sig) → Buf (Elt Ideal) ℓ) (c : Dev nD)

/-- The arguments. -/
abbrev aU : Vec Ideal S8448x1024 .bf16 := m ((c : Thread nD τ).loc main_arg0)
abbrev aV : Vec Ideal S8448x1024 .f32 := m ((c : Thread nD τ).loc main_arg1)
abbrev aW : Vec Ideal S1x8x128x128 .f32 := m ((c : Thread nD τ).loc main_arg2)
abbrev aB : Vec Ideal S1x8x128 .f32 := m ((c : Thread nD τ).loc main_arg3)

/-- The causal matrices: what lies above the diagonal is zero. -/
def causal : Vec Ideal S8x128x128 .f32 := Cert.GmlpReferenceIdeal.Read.val_main_v5 (F := Ideal) (aW m c)

/-- The unit matrix of 16 rows. -/
def eye : Vec Ideal S16x16 .f32 := let e : FVec Ideal S16x16 .f32 := uitofp .f32 (cmpi .eq (addi (iotaInDim S16x16 32 0) (broadcastInDim S16x16 ![] bcast_S_S16x16 (constantI S_ 32 0#32))) (iotaInDim S16x16 32 1))
  e

/-- The samples' matrices: the first 8 by 8 of a causal matrix, sixteen times along the diagonal. -/
def diag : Vec Ideal S8x128x128 .f32 :=
  shapeCast S8x128x128 (mulf
    (broadcastInDim S8x16x8x16x8 ![0, 1, 2, 3, 4] bcast_S1x16x1x16x1_S8x16x8x16x8_0_1_2_3_4 (broadcastInDim S1x16x1x16x1 ![1, 3] bcast_S16x16_S1x16x1x16x1_1_3 eye))
    (broadcastInDim S8x16x8x16x8 ![0, 1, 2, 3, 4] bcast_S8x1x8x1x8_S8x16x8x16x8_0_1_2_3_4 (broadcastInDim S8x1x8x1x8 ![0, 2, 4] bcast_S8x8x8_S8x1x8x1x8_0_2_4
      (extractStridedSlice S8x8x8 ![0, 0, 0] (causal m c) slices_S8x128x128_S8x8x8_0_0_0))) : FVec Ideal S8x16x8x16x8 .f32) shapeCasts_S8x16x8x16x8_S8x128x128

/-- Both, one after the other. -/
def both : Vec Ideal S2x8x128x128 .bf16 :=
  let e : FVec Ideal S2x8x128x128 .f32 := concatenate S2x8x128x128 0 [⟨S1x8x128x128, broadcastInDim S1x8x128x128 ![1, 2, 3] bcast_S8x128x128_S1x8x128x128_1_2_3 (causal m c)⟩,
    ⟨S1x8x128x128, broadcastInDim S1x8x128x128 ![1, 2, 3] bcast_S8x128x128_S1x8x128x128_1_2_3 (diag m c)⟩] concatenates_S1x8x128x128_S1x8x128x128_S2x8x128x128_d0
  truncf .bf16 e bitsLt_bf16_f32

/-- The biases of the prompts, and of the samples, repeated. -/
def biasB : Vec Ideal S2x8x128x128 .f32 :=
  broadcastInDim S2x8x128x128 ![0, 1, 2, 3] bcast_S2x8x128x1_S2x8x128x128_0_1_2_3 (broadcastInDim S2x8x128x1 ![0, 1, 2] bcast_S2x8x128_S2x8x128x1_0_1_2
    (concatenate S2x8x128 0 [⟨S1x8x128, broadcastInDim S1x8x128 ![1, 2] bcast_S8x128_S1x8x128_1_2 (shapeCast S8x128 (aB m c) shapeCasts_S1x8x128_S8x128)⟩,
      ⟨S1x8x128, broadcastInDim S1x8x128 ![1, 2] bcast_S8x128_S1x8x128_1_2 (shapeCast S8x128 (broadcastInDim S1x8x16x8 ![0, 1, 2, 3] bcast_S1x8x1x8_S1x8x16x8_0_1_2_3
        (shapeCast S1x8x1x8 (extractStridedSlice S8x8 ![0, 0] (shapeCast S8x128 (aB m c) shapeCasts_S1x8x128_S8x128) slices_S8x128_S8x8_0_0) shapeCasts_S8x8_S1x8x1x8)) shapeCasts_S1x8x16x8_S8x128)⟩]
      concatenates_S1x8x128_S1x8x128_S2x8x128_d0))

theorem V_W : V m c main_v22 = both m c := by
  unfold V hostOps0 hostOps0_1 hostOps0_2
  simp only [List.flatten_cons, List.flatten_nil, List.append_nil, List.cons_append, List.nil_append]
  after_results_simp
  refine congrArg₂ (fun a b : Vec Ideal S1x8x128x128 .f32 => truncf (F := Ideal) .bf16 (concatenate S2x8x128x128 0 [⟨S1x8x128x128, a⟩,
    ⟨S1x8x128x128, b⟩] concatenates_S1x8x128x128_S1x8x128x128_S2x8x128x128_d0 : FVec Ideal S2x8x128x128 .f32) bitsLt_bf16_f32) ?_ ?_
  · after_results_simp
    simp only [StableHlo.TRef.toBuf, StableHlo.TRef.ofBuf, id, cast_eq]
    rfl
  · after_results_simp
    simp only [StableHlo.TRef.toBuf, StableHlo.TRef.ofBuf, id, cast_eq]
    rfl

theorem V_B : V m c main_v33 = biasB m c := by
  unfold V hostOps0 hostOps0_1 hostOps0_2
  after_results_simp
  rfl

theorem eye_apply (a b : Fin 16) : eye (ix2 a b) = if a = b then 1 else 0 := by
  unfold eye
  pointwise
  have e : ∀ a b : Fin 16, IntOp.cmpi CmpIPredicate.eq (IntOp.addi (BitVec.ofNat 32 a.val) 0#32) (BitVec.ofNat 32 b.val) = if a = b then 1#1 else 0#1 := by
    decide
  rw [e]
  split <;> simp [FloatOps.uitofp]

theorem diag_apply (g : Fin 8) (t s : Fin 128) : diag m c (ix3 g t s)
    = eye (ix2 (⟨t.val / 8, by omega⟩ : Fin 16) (⟨s.val / 8, by omega⟩ : Fin 16))
      * causal m c (ix3 g (⟨t.val % 8, by omega⟩ : Fin 128) (⟨s.val % 8, by omega⟩ : Fin 128)) := by
  unfold diag
  generalize causal m c = W
  generalize eye = E
  pointwise

theorem both_apply (j : Fin 2) (g : Fin 8) (t s : Fin 128) : both m c (ix4 j g t s) = if h : j.val < 1 then causal m c (ix3 g t s) else diag m c (ix3 g t s) := by
  unfold both
  generalize causal m c = W
  generalize diag m c = E
  pointwise

theorem biasB_apply (j : Fin 2) (g : Fin 8) (t d : Fin 128) : biasB m c (ix4 j g t d)
    = if h : j.val < 1 then aB m c (ix3 (0 : Fin 1) g t) else aB m c (ix3 (0 : Fin 1) g (⟨t.val % 8, by omega⟩ : Fin 128)) := by
  unfold biasB
  generalize aB m c = B
  pointwise

/-- A row of the samples' matrices times a column: only the row's own eight places count. -/
theorem diag_sum (g : Fin 8) (t : Fin 128) (v : Fin 128 → EReal) : ∑ s : Fin 128, diag m c (ix3 g t s) * v s
    = ∑ s : Fin 8, causal m c (ix3 g (⟨t.val % 8, by omega⟩ : Fin 128) (⟨s.val, by omega⟩ : Fin 128)) * v ⟨t.val / 8 * 8 + s.val, by omega⟩ := by
  rw [← Equiv.sum_comp (finProdFinEquiv : Fin 16 × Fin 8 ≃ Fin 128), Fintype.sum_prod_type, Finset.sum_eq_single (⟨t.val / 8, by omega⟩ : Fin 16)]
  · refine Finset.sum_congr rfl fun s _ => ?_
    have e : (finProdFinEquiv : Fin 16 × Fin 8 ≃ Fin 128) (⟨t.val / 8, by omega⟩, s) = ⟨t.val / 8 * 8 + s.val, by omega⟩ :=
      Fin.ext (by show s.val + 8 * (t.val / 8) = t.val / 8 * 8 + s.val; omega)
    have e1 : (t.val / 8 * 8 + s.val) / 8 = t.val / 8 := by omega
    have e2 : (t.val / 8 * 8 + s.val) % 8 = s.val := by omega
    rw [e, diag_apply, eye_apply]
    simp only [e1, e2, if_true, one_mul]
  · intro a _ ha
    refine Finset.sum_eq_zero fun s _ => ?_
    have e1 : ((finProdFinEquiv : Fin 16 × Fin 8 ≃ Fin 128) (a, s)).val / 8 = a.val := by show (s.val + 8 * a.val) / 8 = a.val; omega
    rw [diag_apply, eye_apply, if_neg (fun h => ha (Fin.ext ((e1.symm.trans (congrArg Fin.val h).symm)))), zero_mul, zero_mul]
  · exact fun h => absurd (Finset.mem_univ _) h

end Cert.GmlpIdeal.Layer
end
-- ==== Proof.GmlpValue.lean ====
module
public import proofs.«01_k».proof.Proof.GmlpHost

@[expose] public section

set_option maxRecDepth 16384

/-! # The product along the positions: what its result holds -/

noncomputable section

namespace Cert.GmlpIdeal.Layer

open Cert.GmlpIdeal Cert.GmlpIdeal.Gen Cert.Layer
open Idealize.ShloMosaic Idealize.ShloMosaic.TcCoe
open Idealize.ShloMosaic.Pipeline (Dat Cfg Window)

variable (m : (ℓ : Loc nD τ sig) → Buf (Elt Ideal) ℓ) (c : Dev nD)

/-! ## The blocks of a point -/

/-- The prompts' chunks come first; the last two are the samples'. -/
def kind (t : Fin cfg0.N) : Fin 2 := ⟨t.val / 64, by have h : t.val < 66 := t.isLt; omega⟩

theorem ixs : ∀ t : Fin grid0.N, win0_0.index t = ![t.val, 0] ∧ win0_1.index t = ![t.val, 0] ∧ win0_2.index t = ![t.val / 64, 0, 0, 0]
    ∧ win0_3.index t = ![t.val / 64, 0, 0, 0] ∧ win0_4.index t = ![t.val, 0] := by decide +kernel

def bU (t : Fin cfg0.N) : Vec Ideal S128x1024 .bf16 := iblk m c 0 t
def bV (t : Fin cfg0.N) : Vec Ideal S128x1024 .f32 := iblk m c 1 t
def bW (t : Fin cfg0.N) : Vec Ideal S1x8x128x128 .bf16 := iblk m c 2 t
def bB (t : Fin cfg0.N) : Vec Ideal S1x8x128x128 .f32 := iblk m c 3 t

/-- The row of the whole at a row of block `t`. -/
def row (t : Fin cfg0.N) (r : Fin 128) : Fin 8448 := ⟨t.val * 128 + r.val, by have h : t.val < 66 := t.isLt; omega⟩

variable (t : Fin cfg0.N)

theorem bU_apply (r : Fin 128) (q : Fin 1024) : bU m c t (ix2 r q) = aU m c (ix2 (row t r) q) := by
  have e := (ixs t).1
  unfold aU
  rw [← V_main_arg0 m c]
  unfold bU
  blk_ext [iblk, e, row]
theorem bV_apply (r : Fin 128) (q : Fin 1024) : bV m c t (ix2 r q) = aV m c (ix2 (row t r) q) := by
  have e := (ixs t).2.1
  unfold aV
  rw [← V_main_arg1 m c]
  unfold bV
  blk_ext [iblk, e, row]
theorem bW_apply (g : Fin 8) (r s : Fin 128) : bW m c t (ix4 (0 : Fin 1) g r s) = both m c (ix4 (kind t) g r s) := by
  have e := (ixs t).2.2.1
  rw [← V_W m c]
  unfold bW
  blk_ext [iblk, e, kind]
theorem bB_apply (g : Fin 8) (r s : Fin 128) : bB m c t (ix4 (0 : Fin 1) g r s) = biasB m c (ix4 (kind t) g r s) := by
  have e := (ixs t).2.2.2.1
  rw [← V_B m c]
  unfold bB
  blk_ext [iblk, e, kind]

/-- The result. -/
def res : Vec Ideal S8448x1024 .bf16 := fun i =>
  gmlp (fun r q => aU m c (ix2 r q)) (fun r q => aV m c (ix2 r q)) (fun g t s => causal m c (ix3 g t s)) (fun g t => aB m c (ix3 (0 : Fin 1) g t)) (i 0) (i 1)

/-- One block is the result's rows. -/
theorem block (r : Fin 128) (q : Fin 1024) : blockAt (bU m c t) (bV m c t) (bW m c t) (bB m c t) r q
    = gmlp (fun r q => aU m c (ix2 r q)) (fun r q => aV m c (ix2 r q)) (fun g t s => causal m c (ix3 g t s)) (fun g t => aB m c (ix3 (0 : Fin 1) g t)) (row t r) q := by
  have ht : t.val < 66 := t.isLt
  unfold blockAt gmlp mixed
  simp only [bU_apply, bV_apply, bW_apply, bB_apply, both_apply, biasB_apply]
  refine congrArg (fun z => _ * z) ?_
  by_cases h : t.val < 64
  · have hk : (kind t).val < 1 := by show t.val / 64 < 1; omega
    have hr : (row t r).val < 8192 := by show t.val * 128 + r.val < 8192; omega
    have e1 : (row t r).val % 128 = r.val := by show (t.val * 128 + r.val) % 128 = _; omega
    have e2 : ∀ s : Fin 128, (row t s).val = (row t r).val / 128 * 128 + s.val := fun s => by
      show t.val * 128 + s.val = (t.val * 128 + r.val) / 128 * 128 + s.val; omega
    have e3 : ∀ s : Fin 128, row t s = ⟨(row t r).val / 128 * 128 + s.val, by omega⟩ := fun s => Fin.ext (e2 s)
    rw [dif_pos hr]
    simp only [dif_pos hk, e1]
    refine congrArg (· + _) (Finset.sum_congr rfl fun s _ => ?_)
    rw [e3 s]
    rfl
  · have hk : ¬(kind t).val < 1 := by show ¬t.val / 64 < 1; omega
    have hr : ¬(row t r).val < 8192 := by show ¬t.val * 128 + r.val < 8192; omega
    have e1 : (row t r).val % 8 = r.val % 8 := by show (t.val * 128 + r.val) % 8 = _; omega
    have e3 : ∀ s : Fin 8, row t ⟨r.val / 8 * 8 + s.val, by omega⟩ = ⟨(row t r).val / 8 * 8 + s.val, by have := (row t r).isLt; omega⟩ := fun s => Fin.ext (by
      show t.val * 128 + (r.val / 8 * 8 + s.val) = (t.val * 128 + r.val) / 8 * 8 + s.val; omega)
    rw [dif_neg hr]
    simp only [dif_neg hk, e1]
    rw [diag_sum m c (grp q) r (fun s => aV m c (ix2 (row t s) q))]
    refine congrArg (· + _) (Finset.sum_congr rfl fun s _ => ?_)
    rw [e3 s]
    rfl

theorem arr : (dats m 0 c).arrAt 4 cfg0.N = res m c := by
  refine (dats m 0 c).arrAt_eq_of_covers 4 _ (by decide +kernel) fun t hf y => ?_
  have e := (ixs t).2.2.2.2
  obtain ⟨r, q, rfl⟩ : ∃ (r : Fin 128) (q : Fin 1024), y = ix2 r q := ⟨y 0, y 1, by funext a; fin_cases a <;> rfl⟩
  blk_simp
  rw [after0_4]
  refine (out_apply (bU m c t) (bV m c t) (bW m c t) (bB m c t) r q).trans ?_
  have eb : (((cfg0.win 4).blk t).view.emb (ix2 r q)) = (ix2 (row t r) q : S8448x1024.Idx) := by
    blk_ext [e, row]
  rw [eb]
  exact block m c t r q

end Cert.GmlpIdeal.Layer
end
-- ==== Proof.GmlpClaims.lean ====
module
public import proofs.«01_k».proof.Defs
public import proofs.«01_k».proof.Proof.Gen.Gmlp.Frame
public import proofs.«01_k».proof.Proof.Gen.GmlpReferenceIdeal.Read
public import proofs.«01_k».proof.Proof.GmlpValue
public import Idealize.ShloMosaic.Lib.Quiescent

@[expose] public section

set_option maxRecDepth 16384

/-! # The claims about the product along the positions -/

noncomputable section

namespace Cert.Layer

open Idealize.ShloMosaic Idealize.SL.Sem Idealize.ShloMosaic.TcCoe

theorem frame_Gmlp : Cert.quiescent_Gmlp := fun m g _ => Cert.Gmlp.Gen.frame m g
theorem frame_GmlpIdeal : Cert.quiescent_GmlpIdeal := fun m g _ => Cert.GmlpIdeal.Gen.frame m g
theorem frame_GmlpReferenceIdeal : Cert.quiescent_GmlpReferenceIdeal := fun m g _ =>
  (θ_run Cert.GmlpReferenceIdeal.defs _ _).mono (fun r h => ⟨fun c => (h c).2, sem_eq_zero_of_no_sems (by decide) r.2⟩)
    (Cert.GmlpReferenceIdeal.Value.run m g)

theorem alg_gmlp : Cert.algebraic_GmlpIdeal_GmlpReferenceIdeal := by
  intro m g m' g' h hargs
  refine ⟨fun c => Cert.GmlpIdeal.Layer.res m c, ?_, ?_⟩
  · refine (θ_run Cert.GmlpIdeal.defs _ _).mono (fun _ hr c => ?_) (Cert.GmlpIdeal.Value.run_blocks m g)
    exact ⟨(hr c).1.trans (Cert.GmlpIdeal.Layer.arr m c), (hr c).2⟩
  · refine (θ_run Cert.GmlpReferenceIdeal.defs _ _).mono (fun _ hr c => ?_) (Cert.GmlpReferenceIdeal.Value.run m' g')
    obtain ⟨e0, e1, e2, e3⟩ := hargs c
    refine ⟨(hr c).1.trans ?_, (hr c).2⟩
    rw [Cert.GmlpReferenceIdeal.Read.val_main_v31_eq, e0, e1, e2, e3]
    funext i
    obtain ⟨r, q, rfl⟩ : ∃ (r : Fin 8448) (q : Fin 1024), i = ix2 r q := ⟨i 0, i 1, by funext a; fin_cases a <;> rfl⟩
    exact (Cert.GmlpReferenceIdeal.Layer.res_apply _ _ _ _ r q).trans rfl

end Cert.Layer
end
-- ==== Proof.OutSpec.lean ====
module
public import proofs.«01_k».proof.Proof.LayerSpec

@[expose] public section

/-! # The layer's output step, as mathematics -/

noncomputable section

namespace Cert.Layer

open Idealize.ShloMosaic

/-- The attention's row and the gMLP's row at a column of their output products, each behind its gate. -/
def merged (a g : Fin 1024 → EReal) (wa wg : (⟨3, ![1, 1024, 2048]⟩ : Shape).Idx → EReal) (ga gg : EReal) (q : Fin 2048) : EReal :=
  ga * (∑ j, a j * wa (ix3 (0 : Fin 1) j q)) + gg * (∑ j, g j * wg (ix3 (0 : Fin 1) j q))

/-- The column of the gates that is column `q` of the slice starting at `o`. -/
def gcol (o : ℕ) (h : o + 2048 ≤ 4096) (q : Fin 2048) : Fin 4096 := ⟨o + q.val, by omega⟩

/-- The stream's element plus a row's output product. -/
def carried (x : EReal) (y : Fin 2048 → EReal) (w : (⟨3, ![1, 2048, 2048]⟩ : Shape).Idx → EReal) (q : Fin 2048) : EReal :=
  x + ∑ j, y j * w (ix3 (0 : Fin 1) j q)

end Cert.Layer
end
-- ==== Proof.OutValue.lean ====
module
public import proofs.«01_k».proof.Proof.Gen.OutIdeal.Frame
public import proofs.«01_k».proof.Proof.OutSpec
public import Idealize.ShloMosaic.Lib.Pointwise
public import Idealize.ShloMosaic.Lib.Pipeline.ValueKit

@[expose] public section

set_option maxRecDepth 16384

/-! # What the merge and the output product leave

    A call is entered with the buffers holding `V`. Its points write blocks that cover the result; each block is the block of
    one array, the call's row operation on the rows `V` has. -/

noncomputable section

namespace Cert.OutIdeal.Layer

open Cert.OutIdeal Cert.OutIdeal.Gen Cert.Layer
open Idealize.ShloMosaic Idealize.ShloMosaic.TcCoe
open Idealize.ShloMosaic.Pipeline (Dat Cfg Window)

/-! ## The blocks, at an index -/

theorem pay0_apply (a g : Vec Ideal S768x1024 .bf16) (wa wg : Vec Ideal S1024x1024 .bf16) (u v : Vec Ideal S768x1024 .bf16) (r : Fin 768) (q : Fin 1024) :
    k0_pay1 (F := Ideal) a wa g wg u v (ix2 r q)
      = u (ix2 r q) * prod (fun j => a (ix2 r j)) wa q + v (ix2 r q) * prod (fun j => g (ix2 r j)) wg q := by
  unfold prod
  pointwise [k0_pay1]
theorem pay1_apply (y : Vec Ideal S768x2048 .bf16) (w : Vec Ideal S2048x1024 .bf16) (x : Vec Ideal S768x1024 .f32) (r : Fin 768) (q : Fin 1024) :
    k1_pay1 (F := Ideal) y w x (ix2 r q) = x (ix2 r q) + prod (fun j => y (ix2 r j)) w q := by
  unfold prod
  pointwise [k1_pay1]

variable (V : (c : Dev nD) → (b : Ref sig .tc) → Buf (Elt Ideal) ((c : Thread nD τ).loc b)) (c : Dev nD)

/-- The buffers the calls read: the two parts, their weights, the gates; the merged rows, the output weights, the stream. -/
abbrev bA : Vec Ideal S8448x1024 .bf16 := V c main_arg0
abbrev bM : Vec Ideal S8448x1024 .bf16 := V c main_arg1
abbrev bWa : Vec Ideal S1024x2048 .bf16 := V c main_v4
abbrev bWm : Vec Ideal S1024x2048 .bf16 := V c main_v6
abbrev bG : Vec Ideal S8448x4096 .bf16 := V c main_arg2
abbrev bY : Vec Ideal S8448x2048 .bf16 := V c main_v7
abbrev bW : Vec Ideal S2048x2048 .bf16 := V c main_v9
abbrev bX : Vec Ideal S8448x2048 .f32 := V c main_v2

/-- The row of the whole at a row of tile `t`, and the column at a column of block `t`. -/
def row (t : ℕ) (r : Fin 768) : Fin 8448 := ⟨t % 11 * 768 + r.val, by omega⟩
def cl (t : ℕ) (h : t < 22) (q : Fin 1024) : Fin 2048 := ⟨t / 11 * 1024 + q.val, by omega⟩

/-! ## The merge -/

theorem ix0 : ∀ t : Fin grid0.N, win0_0.index t = ![t.val % 11, 0] ∧ win0_1.index t = ![t.val % 11, 0] ∧ win0_2.index t = ![0, t.val / 11]
    ∧ win0_3.index t = ![0, t.val / 11] ∧ win0_4.index t = ![t.val % 11, t.val / 11] ∧ win0_5.index t = ![t.val % 11, 2 + t.val / 11]
    ∧ win0_6.index t = ![t.val % 11, t.val / 11] := by
  decide +kernel

def a0 (t : Fin cfg0.N) : Vec Ideal S768x1024 .bf16 := iblk0 V c 0 t
def m0 (t : Fin cfg0.N) : Vec Ideal S768x1024 .bf16 := iblk0 V c 1 t
def wa0 (t : Fin cfg0.N) : Vec Ideal S1024x1024 .bf16 := iblk0 V c 2 t
def wm0 (t : Fin cfg0.N) : Vec Ideal S1024x1024 .bf16 := iblk0 V c 3 t
def u0 (t : Fin cfg0.N) : Vec Ideal S768x1024 .bf16 := iblk0 V c 4 t
def v0 (t : Fin cfg0.N) : Vec Ideal S768x1024 .bf16 := iblk0 V c 5 t

theorem prodA (t : Fin cfg0.N) (r : Fin 768) (q : Fin 1024) :
    prod (fun j => a0 V c t (ix2 r j)) (wa0 V c t) q = prod (fun j => bA V c (ix2 (row t.val r) j)) (bWa V c) (cl t.val t.isLt q) := by
  have e := (ix0 t).1
  have e' := (ix0 t).2.2.1
  unfold prod a0 wa0
  refine Finset.sum_congr rfl fun k _ => ?_
  congr 1 <;> blk_ext [iblk0, e, e', row, cl]
theorem prodM (t : Fin cfg0.N) (r : Fin 768) (q : Fin 1024) :
    prod (fun j => m0 V c t (ix2 r j)) (wm0 V c t) q = prod (fun j => bM V c (ix2 (row t.val r) j)) (bWm V c) (cl t.val t.isLt q) := by
  have e := (ix0 t).2.1
  have e' := (ix0 t).2.2.2.1
  unfold prod m0 wm0
  refine Finset.sum_congr rfl fun k _ => ?_
  congr 1 <;> blk_ext [iblk0, e, e', row, cl]
theorem u0_apply (t : Fin cfg0.N) (r : Fin 768) (q : Fin 1024) :
    u0 V c t (ix2 r q) = bG V c (ix2 (row t.val r) (gcol 0 (by omega) (cl t.val t.isLt q))) := by
  have e := (ix0 t).2.2.2.2.1
  unfold u0
  blk_ext [iblk0, e, row, cl, gcol]
theorem v0_apply (t : Fin cfg0.N) (r : Fin 768) (q : Fin 1024) :
    v0 V c t (ix2 r q) = bG V c (ix2 (row t.val r) (gcol 2048 (by omega) (cl t.val t.isLt q))) := by
  have e := (ix0 t).2.2.2.2.2.1
  unfold v0
  blk_ext [iblk0, e, row, cl, gcol]

def res0 : Vec Ideal S8448x2048 .bf16 := fun i =>
  bG V c (ix2 (i 0) (gcol 0 (by omega) (i 1))) * prod (fun j => bA V c (ix2 (i 0) j)) (bWa V c) (i 1)
    + bG V c (ix2 (i 0) (gcol 2048 (by omega) (i 1))) * prod (fun j => bM V c (ix2 (i 0) j)) (bWm V c) (i 1)

theorem arr0 : (dat0 V c).arrAt 6 cfg0.N = res0 V c := by
  refine (dat0 V c).arrAt_eq_of_covers 6 _ (by decide +kernel) fun t hf y => ?_
  have e := (ix0 t).2.2.2.2.2.2
  obtain ⟨r, q, rfl⟩ : ∃ (r : Fin 768) (q : Fin 1024), y = ix2 r q := ⟨y 0, y 1, by funext a; fin_cases a <;> rfl⟩
  blk_simp
  rw [after0_6]
  frame_out
  refine (pay0_apply (a0 V c t) (m0 V c t) (wa0 V c t) (wm0 V c t) (u0 V c t) (v0 V c t) r q).trans ?_
  have eb : (((cfg0.win 6).blk t).view.emb (ix2 r q)) = (ix2 (row t.val r) (cl t.val t.isLt q) : S8448x2048.Idx) := by
    blk_ext [e, row, cl]
  rw [eb, prodA, prodM, u0_apply, v0_apply]
  rfl

/-! ## The output product, onto the stream -/

theorem ix1' : ∀ t : Fin grid1.N, win1_0.index t = ![t.val % 11, 0] ∧ win1_1.index t = ![0, t.val / 11]
    ∧ win1_2.index t = ![t.val % 11, t.val / 11] ∧ win1_3.index t = ![t.val % 11, t.val / 11] := by
  decide +kernel

def y1 (t : Fin cfg1.N) : Vec Ideal S768x2048 .bf16 := iblk1 V c 0 t
def w1 (t : Fin cfg1.N) : Vec Ideal S2048x1024 .bf16 := iblk1 V c 1 t
def x1 (t : Fin cfg1.N) : Vec Ideal S768x1024 .f32 := iblk1 V c 2 t

theorem prod1 (t : Fin cfg1.N) (r : Fin 768) (q : Fin 1024) :
    prod (fun j => y1 V c t (ix2 r j)) (w1 V c t) q = prod (fun j => bY V c (ix2 (row t.val r) j)) (bW V c) (cl t.val t.isLt q) := by
  have e := (ix1' t).1
  have e' := (ix1' t).2.1
  unfold prod y1 w1
  refine Finset.sum_congr rfl fun k _ => ?_
  congr 1 <;> blk_ext [iblk1, e, e', row, cl]
theorem x1_apply (t : Fin cfg1.N) (r : Fin 768) (q : Fin 1024) :
    x1 V c t (ix2 r q) = bX V c (ix2 (row t.val r) (cl t.val t.isLt q)) := by
  have e := (ix1' t).2.2.1
  unfold x1
  blk_ext [iblk1, e, row, cl]

def res1 : Vec Ideal S8448x2048 .f32 := fun i => bX V c (ix2 (i 0) (i 1)) + prod (fun j => bY V c (ix2 (i 0) j)) (bW V c) (i 1)

theorem arr1 : (dat1 V c).arrAt 3 cfg1.N = res1 V c := by
  refine (dat1 V c).arrAt_eq_of_covers 3 _ (by decide +kernel) fun t hf y => ?_
  have e := (ix1' t).2.2.2
  obtain ⟨r, q, rfl⟩ : ∃ (r : Fin 768) (q : Fin 1024), y = ix2 r q := ⟨y 0, y 1, by funext a; fin_cases a <;> rfl⟩
  blk_simp
  rw [after1_3]
  frame_out
  refine (pay1_apply (y1 V c t) (w1 V c t) (x1 V c t) r q).trans ?_
  have eb : (((cfg1.win 3).blk t).view.emb (ix2 r q)) = (ix2 (row t.val r) (cl t.val t.isLt q) : S8448x2048.Idx) := by
    blk_ext [e, row, cl]
  rw [eb, prod1, x1_apply]
  rfl

end Cert.OutIdeal.Layer
end
-- ==== Proof.OutRun.lean ====
module
public import proofs.«01_k».proof.Proof.OutValue

@[expose] public section

set_option maxRecDepth 16384

/-! # The whole run: every buffer ends at the last boundary's contents -/

noncomputable section

namespace Cert.OutIdeal.Layer

open Cert.OutIdeal Cert.OutIdeal.Gen Cert.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The calls one after the other, with what the last of them leaves. -/
theorem run_all : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = V4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c b hb => h c _ (mem_uc b hb))

/-! ## The buffers the calls read, from the arguments -/

variable (c : Dev nD)

abbrev iA : Vec Ideal S8448x1024 .bf16 := m ((c : Thread nD τ).loc main_arg0)
abbrev iM : Vec Ideal S8448x1024 .bf16 := m ((c : Thread nD τ).loc main_arg1)
abbrev iG : Vec Ideal S8448x4096 .bf16 := m ((c : Thread nD τ).loc main_arg2)
abbrev iP : Vec Ideal S2x4096x2048 .f32 := m ((c : Thread nD τ).loc main_arg3)
abbrev iS : Vec Ideal S32x8x2048 .f32 := m ((c : Thread nD τ).loc main_arg4)
abbrev iWa : Vec Ideal S1x1024x2048 .f32 := m ((c : Thread nD τ).loc main_arg5)
abbrev iWm : Vec Ideal S1x1024x2048 .f32 := m ((c : Thread nD τ).loc main_arg6)
abbrev iWo : Vec Ideal S1x2048x2048 .f32 := m ((c : Thread nD τ).loc main_arg7)

/-- The rows of both groups, one under the other. -/
def rows : Vec Ideal S8448x2048 .f32 :=
  concatenate S8448x2048 0 [⟨S8192x2048, shapeCast S8192x2048 (iP m c) shapeCasts_S2x4096x2048_S8192x2048⟩,
    ⟨S256x2048, shapeCast S256x2048 (iS m c) shapeCasts_S32x8x2048_S256x2048⟩] concatenates_S8192x2048_S256x2048_S8448x2048_d0

theorem V1_X : V1 m ρ c main_v2 = rows m c := by
  show StableHlo.after hostOps0 (W0 m ρ c) _ = _
  unfold hostOps0; after_results_simp; rfl
theorem V1_Wa : V1 m ρ c main_v4
    = (truncf .bf16 (shapeCast S1024x2048 (iWa m c) shapeCasts_S1x1024x2048_S1024x2048 : FVec Ideal S1024x2048 .f32) bitsLt_bf16_f32 : FVec Ideal S1024x2048 .bf16) := by
  show StableHlo.after hostOps0 (W0 m ρ c) _ = _
  unfold hostOps0; after_results_simp; rfl
theorem V1_Wm : V1 m ρ c main_v6
    = (truncf .bf16 (shapeCast S1024x2048 (iWm m c) shapeCasts_S1x1024x2048_S1024x2048 : FVec Ideal S1024x2048 .f32) bitsLt_bf16_f32 : FVec Ideal S1024x2048 .bf16) := by
  show StableHlo.after hostOps0 (W0 m ρ c) _ = _
  unfold hostOps0; after_results_simp; rfl
theorem V3_W : V3 m ρ c main_v9
    = (truncf .bf16 (shapeCast S2048x2048 (iWo m c) shapeCasts_S1x2048x2048_S2048x2048 : FVec Ideal S2048x2048 .f32) bitsLt_bf16_f32 : FVec Ideal S2048x2048 .bf16) := by
  have e := W2_args m ρ c main_arg7 (by decide)
  show StableHlo.after hostOps1 (W2 m ρ c) _ = _
  unfold hostOps1; after_results_simp
  rw [e]; rfl
theorem V3_X : V3 m ρ c main_v2 = rows m c :=
  (W3_of m ρ c main_v2 (by decide)).trans ((W2_of m ρ c main_v2 (by decide)).trans (V1_X m ρ c))
theorem V3_Y : V3 m ρ c main_v7 = res0 (V1 m ρ) c :=
  (W3_of m ρ c main_v7 (by decide)).trans ((W2_arr m ρ c 6).trans (arr0 (V1 m ρ) c))
theorem V1_A : V1 m ρ c main_arg0 = iA m c := W1_args m ρ c main_arg0 (by decide)
theorem V1_M : V1 m ρ c main_arg1 = iM m c := W1_args m ρ c main_arg1 (by decide)
theorem V1_G : V1 m ρ c main_arg2 = iG m c := W1_args m ρ c main_arg2 (by decide)

/-! ## The result at the end -/

theorem Wa_apply (k q : _) : bWa (V1 m ρ) c (ix2 k q) = iWa m c (ix3 (0 : Fin 1) k q) := by
  unfold bWa
  rw [V1_Wa]
  pointwise
theorem Wm_apply (k q : _) : bWm (V1 m ρ) c (ix2 k q) = iWm m c (ix3 (0 : Fin 1) k q) := by
  unfold bWm
  rw [V1_Wm]
  pointwise
theorem W_apply (k q : _) : bW (V3 m ρ) c (ix2 k q) = iWo m c (ix3 (0 : Fin 1) k q) := by
  unfold bW
  rw [V3_W]
  pointwise

/-- The merged row at a column. -/
abbrev join (r : Fin 8448) (q : Fin 2048) : EReal :=
  merged (fun j => iA m c (ix2 r j)) (fun j => iM m c (ix2 r j)) (iWa m c) (iWm m c) (iG m c (ix2 r (gcol 0 (by omega) q)))
    (iG m c (ix2 r (gcol 2048 (by omega) q))) q

theorem A_prod (r : Fin 8448) (q : Fin 2048) : prod (fun j => bA (V1 m ρ) c (ix2 r j)) (bWa (V1 m ρ) c) q
    = ∑ j, iA m c (ix2 r j) * iWa m c (ix3 (0 : Fin 1) j q) :=
  Finset.sum_congr rfl fun k _ => congrArg₂ (· * ·) (congrFun (V1_A m ρ c) (ix2 r k)) (Wa_apply m ρ c k q)
theorem M_prod (r : Fin 8448) (q : Fin 2048) : prod (fun j => bM (V1 m ρ) c (ix2 r j)) (bWm (V1 m ρ) c) q
    = ∑ j, iM m c (ix2 r j) * iWm m c (ix3 (0 : Fin 1) j q) :=
  Finset.sum_congr rfl fun k _ => congrArg₂ (· * ·) (congrFun (V1_M m ρ c) (ix2 r k)) (Wm_apply m ρ c k q)
theorem Y_apply (r : Fin 8448) (q : Fin 2048) : bY (V3 m ρ) c (ix2 r q) = join m c r q :=
  (congrFun (V3_Y m ρ c) (ix2 r q)).trans
    (congrArg₂ (· + ·) (congrArg₂ (· * ·) (congrFun (V1_G m ρ c) _) (A_prod m ρ c r q))
      (congrArg₂ (· * ·) (congrFun (V1_G m ρ c) _) (M_prod m ρ c r q)))

theorem end_apply (r : Fin 8448) (q : Fin 2048) :
    (V4 m ρ c main_v10 : Vec Ideal S8448x2048 .f32) (ix2 r q) = carried (rows m c (ix2 r q)) (fun j => join m c r j) (iWo m c) q :=
  (congrFun ((W4_arr m ρ c 3).trans (arr1 (V3 m ρ) c)) (ix2 r q)).trans
    (congrArg₂ (· + ·) (congrFun (V3_X m ρ c) (ix2 r q))
      (Finset.sum_congr rfl fun k _ => congrArg₂ (· * ·) (Y_apply m ρ c r k) (W_apply m ρ c k q)))

end Cert.OutIdeal.Layer
end
-- ==== Proof.OutClaims.lean ====
module
public import proofs.«01_k».proof.Defs
public import proofs.«01_k».proof.Proof.Gen.Out.Frame
public import proofs.«01_k».proof.Proof.Gen.OutReferenceIdeal.Read
public import proofs.«01_k».proof.Proof.OutRun
public import Idealize.ShloMosaic.Lib.Quiescent

@[expose] public section

set_option maxRecDepth 16384

/-! # The claims about the merge and the output product -/

noncomputable section

namespace Cert.OutReferenceIdeal.Layer

open Cert.OutReferenceIdeal Cert.OutReferenceIdeal.Gen Cert.OutReferenceIdeal.Read Cert.Layer
open Idealize.ShloMosaic Idealize.ShloMosaic.TcCoe

variable (x0 x1 : Vec Ideal S8448x1024 .bf16) (x2 : Vec Ideal S8448x4096 .bf16) (x3 : Vec Ideal S2x4096x2048 .f32)
  (x4 : Vec Ideal S32x8x2048 .f32) (x5 x6 : Vec Ideal S1x1024x2048 .f32) (x7 : Vec Ideal S1x2048x2048 .f32)

/-- The plain program's merged rows at a row and a column. -/
theorem merged_apply (r : Fin 8448) (q : Fin 2048) :
    val_main_v15 (F := Ideal) x0 x1 x2 x5 x6 (ix2 r q)
      = merged (fun j => x0 (ix2 r j)) (fun j => x1 (ix2 r j)) x5 x6 (x2 (ix2 r (gcol 0 (by omega) q)))
          (x2 (ix2 r (gcol 2048 (by omega) q))) q := by
  unfold merged gcol
  pointwise [val_main_v15, val_main_v14, val_main_v13, val_main_v12, val_main_v11, val_main_v10, val_main_v9, val_main_v8, val_main_v7, val_main_v6, val_main_v5, val_main_v4, val_main_v3]

/-- The plain program's result at a row and a column. -/
theorem res_apply (r : Fin 8448) (q : Fin 2048) :
    val_main_v18 (F := Ideal) x0 x1 x2 x3 x4 x5 x6 x7 (ix2 r q)
      = carried (val_main_v2 (F := Ideal) x3 x4 (ix2 r q))
          (fun j => merged (fun i => x0 (ix2 r i)) (fun i => x1 (ix2 r i)) x5 x6 (x2 (ix2 r (gcol 0 (by omega) j)))
            (x2 (ix2 r (gcol 2048 (by omega) j))) j) x7 q := by
  simp only [← merged_apply]
  unfold carried
  pointwise [val_main_v18, val_main_v17, val_main_v16]

end Cert.OutReferenceIdeal.Layer

namespace Cert.Layer

open Idealize.ShloMosaic Idealize.SL.Sem Idealize.ShloMosaic.TcCoe

theorem frame_Out : Cert.quiescent_Out := fun m g _ => Cert.Out.Gen.frame m g
theorem frame_OutIdeal : Cert.quiescent_OutIdeal := fun m g _ => Cert.OutIdeal.Gen.frame m g
theorem frame_OutReferenceIdeal : Cert.quiescent_OutReferenceIdeal := fun m g _ =>
  (θ_run Cert.OutReferenceIdeal.defs _ _).mono (fun r h => ⟨fun c => (h c).2, sem_eq_zero_of_no_sems (by decide) r.2⟩)
    (Cert.OutReferenceIdeal.Value.run m g)

section
open Cert.OutIdeal

theorem alg_out : Cert.algebraic_OutIdeal_OutReferenceIdeal := by
  intro m g m' g' h hargs
  refine ⟨fun c => Cert.OutIdeal.Gen.V4 m g c main_v10, ?_, ?_⟩
  · refine (θ_run Cert.OutIdeal.defs _ _).mono (fun _ hr c => ?_) (Cert.OutIdeal.Layer.run_all m g)
    exact ⟨hr c _ (by decide),
      (hr c _ (by decide)).trans (Cert.OutIdeal.Gen.W4_main_arg0 m g c), (hr c _ (by decide)).trans (Cert.OutIdeal.Gen.W4_main_arg1 m g c),
      (hr c _ (by decide)).trans (Cert.OutIdeal.Gen.W4_main_arg2 m g c), (hr c _ (by decide)).trans (Cert.OutIdeal.Gen.W4_main_arg3 m g c),
      (hr c _ (by decide)).trans (Cert.OutIdeal.Gen.W4_main_arg4 m g c), (hr c _ (by decide)).trans (Cert.OutIdeal.Gen.W4_main_arg5 m g c),
      (hr c _ (by decide)).trans (Cert.OutIdeal.Gen.W4_main_arg6 m g c), (hr c _ (by decide)).trans (Cert.OutIdeal.Gen.W4_main_arg7 m g c)⟩
  · refine (θ_run Cert.OutReferenceIdeal.defs _ _).mono (fun _ hr c => ?_) (Cert.OutReferenceIdeal.Value.run m' g')
    obtain ⟨e0, e1, e2, e3, e4, e5, e6, e7⟩ := hargs c
    refine ⟨(hr c).1.trans ?_, (hr c).2⟩
    rw [Cert.OutReferenceIdeal.Read.val_main_v18_eq, e0, e1, e2, e3, e4, e5, e6, e7]
    funext i
    obtain ⟨r, q, rfl⟩ : ∃ (r : Fin 8448) (q : Fin 2048), i = ix2 r q := ⟨i 0, i 1, by funext a; fin_cases a <;> rfl⟩
    exact (Cert.OutReferenceIdeal.Layer.res_apply _ _ _ _ _ _ _ _ r q).trans (Cert.OutIdeal.Layer.end_apply m g c r q).symm
end

end Cert.Layer
end
-- ==== Proof.PleValue.lean ====
module
public import proofs.«01_k».proof.Proof.Gen.PleIdeal.Value
public import proofs.«01_k».proof.Proof.LayerSpec
public import Idealize.ShloMosaic.Lib.Pipeline.ValueKit
public import Idealize.ShloMosaic.Lib.Pointwise

@[expose] public section

set_option maxRecDepth 16384

/-! # The last call: what its result holds -/

noncomputable section

namespace Cert.PleIdeal.Layer

open Cert.PleIdeal Cert.PleIdeal.Gen Cert.Layer
open Idealize.ShloMosaic Idealize.ShloMosaic.TcCoe
open Idealize.ShloMosaic.Pipeline (Dat Cfg Window)

/-- One block at an index. -/
theorem pay_apply (x : Vec Ideal S768x2048 .bf16) (w : Vec Ideal S2048x1024 .bf16) (p : Vec Ideal S768x256 .bf16) (u : Vec Ideal S256x1024 .bf16)
    (h : Vec Ideal S768x1024 .f32) (r : Fin 768) (q : Fin 1024) :
    k0_pay1 (F := Ideal) x w p u h (ix2 r q)
      = embed (h (ix2 r q)) (prod (fun j => x (ix2 r j)) w q) (prod (fun j => p (ix2 r j)) u q) := by
  unfold embed sigma prod
  pointwise [k0_pay1]

variable (m : (ℓ : Loc nD τ sig) → Buf (Elt Ideal) ℓ) (c : Dev nD)

/-- The arguments. -/
abbrev aH : Vec Ideal S8448x2048 .f32 := m ((c : Thread nD τ).loc main_arg0)
abbrev aN : Vec Ideal S8448x2048 .bf16 := m ((c : Thread nD τ).loc main_arg1)
abbrev aP : Vec Ideal S1x2x4096x256 .f32 := m ((c : Thread nD τ).loc main_arg2)
abbrev aS : Vec Ideal S1x32x8x256 .f32 := m ((c : Thread nD τ).loc main_arg3)
abbrev aW : Vec Ideal S1x2048x2048 .f32 := m ((c : Thread nD τ).loc main_arg4)
abbrev aU : Vec Ideal S1x256x2048 .f32 := m ((c : Thread nD τ).loc main_arg5)

/-- The embeddings of both groups' rows, one under the other. -/
def rows : Vec Ideal S8448x256 .f32 :=
  concatenate S8448x256 0 [⟨S8192x256, shapeCast S8192x256 (shapeCast S2x4096x256 (aP m c) shapeCasts_S1x2x4096x256_S2x4096x256) shapeCasts_S2x4096x256_S8192x256⟩,
    ⟨S256x256, shapeCast S256x256 (shapeCast S32x8x256 (aS m c) shapeCasts_S1x32x8x256_S32x8x256) shapeCasts_S32x8x256_S256x256⟩] concatenates_S8192x256_S256x256_S8448x256_d0

def rowsB : Vec Ideal S8448x256 .bf16 := let e : FVec Ideal S8448x256 .f32 := rows m c
  truncf .bf16 e bitsLt_bf16_f32

/-- What the host has put into the buffers the call reads. -/
theorem V_E : V m c main_v5 = rowsB m c := by
  unfold V hostOps0; after_results_simp; rfl
theorem V_W : (V m c main_v7 : Vec Ideal S2048x2048 .bf16)
    = truncf .bf16 (shapeCast S2048x2048 (aW m c) shapeCasts_S1x2048x2048_S2048x2048 : FVec Ideal S2048x2048 .f32) bitsLt_bf16_f32 := by
  unfold V hostOps0; after_results_simp; rfl
theorem V_U : (V m c main_v9 : Vec Ideal S256x2048 .bf16)
    = truncf .bf16 (shapeCast S256x2048 (aU m c) shapeCasts_S1x256x2048_S256x2048 : FVec Ideal S256x2048 .f32) bitsLt_bf16_f32 := by
  unfold V hostOps0; after_results_simp; rfl
theorem E_apply (r : Fin 8448) (k : Fin 256) : (V m c main_v5 : Vec Ideal S8448x256 .bf16) (ix2 r k) = rows m c (ix2 r k) := by
  rw [V_E]
  unfold rowsB
  pointwise
theorem W_apply (k q : Fin 2048) : (V m c main_v7 : Vec Ideal S2048x2048 .bf16) (ix2 k q) = aW m c (ix3 (0 : Fin 1) k q) := by
  rw [V_W]
  pointwise
theorem U_apply (k : Fin 256) (q : Fin 2048) : (V m c main_v9 : Vec Ideal S256x2048 .bf16) (ix2 k q) = aU m c (ix3 (0 : Fin 1) k q) := by
  rw [V_U]
  pointwise

/-! ## The blocks of a point -/

theorem ixs : ∀ t : Fin grid0.N, win0_0.index t = ![t.val % 11, 0] ∧ win0_1.index t = ![0, t.val / 11] ∧ win0_2.index t = ![t.val % 11, t.val / 11]
    ∧ win0_3.index t = ![t.val % 11, 0] ∧ win0_4.index t = ![0, t.val / 11] ∧ win0_5.index t = ![t.val % 11, t.val / 11] := by decide +kernel

def bN (t : Fin cfg0.N) : Vec Ideal S768x2048 .bf16 := iblk m c 0 t
def bW (t : Fin cfg0.N) : Vec Ideal S2048x1024 .bf16 := iblk m c 1 t
def bH (t : Fin cfg0.N) : Vec Ideal S768x1024 .f32 := iblk m c 2 t
def bE (t : Fin cfg0.N) : Vec Ideal S768x256 .bf16 := iblk m c 3 t
def bU (t : Fin cfg0.N) : Vec Ideal S256x1024 .bf16 := iblk m c 4 t

/-- The row and the column of the whole at a row and a column of block `t`. -/
def row (t : Fin cfg0.N) (r : Fin 768) : Fin 8448 := ⟨t.val % 11 * 768 + r.val, by omega⟩
def col (t : Fin cfg0.N) (q : Fin 1024) : Fin 2048 := ⟨t.val / 11 * 1024 + q.val, by have h : t.val < 22 := t.isLt; omega⟩

variable (t : Fin cfg0.N)

theorem bN_apply (r : Fin 768) (k : Fin 2048) : bN m c t (ix2 r k) = aN m c (ix2 (row t r) k) := by
  have e := (ixs t).1
  unfold aN
  rw [← V_main_arg1 m c]
  unfold bN
  blk_ext [iblk, e, row]
theorem bW_apply (k : Fin 2048) (q : Fin 1024) : bW m c t (ix2 k q) = aW m c (ix3 (0 : Fin 1) k (col t q)) := by
  have e := (ixs t).2.1
  rw [← W_apply m c]
  unfold bW
  blk_ext [iblk, e, col]
theorem bH_apply (r : Fin 768) (q : Fin 1024) : bH m c t (ix2 r q) = aH m c (ix2 (row t r) (col t q)) := by
  have e := (ixs t).2.2.1
  unfold aH
  rw [← V_main_arg0 m c]
  unfold bH
  blk_ext [iblk, e, row, col]
theorem bE_apply (r : Fin 768) (k : Fin 256) : bE m c t (ix2 r k) = rows m c (ix2 (row t r) k) := by
  have e := (ixs t).2.2.2.1
  rw [← E_apply m c]
  unfold bE
  blk_ext [iblk, e, row]
theorem bU_apply (k : Fin 256) (q : Fin 1024) : bU m c t (ix2 k q) = aU m c (ix3 (0 : Fin 1) k (col t q)) := by
  have e := (ixs t).2.2.2.2.1
  rw [← U_apply m c]
  unfold bU
  blk_ext [iblk, e, col]

/-- The result at a row and a column. -/
def at' (r : Fin 8448) (q : Fin 2048) : EReal :=
  embed (aH m c (ix2 r q)) (∑ k : Fin 2048, aN m c (ix2 r k) * aW m c (ix3 (0 : Fin 1) k q)) (∑ k : Fin 256, rows m c (ix2 r k) * aU m c (ix3 (0 : Fin 1) k q))
def res : Vec Ideal S8448x2048 .f32 := fun i => at' m c (i 0) (i 1)

theorem arr : (dats m 0 c).arrAt 5 cfg0.N = res m c := by
  refine (dats m 0 c).arrAt_eq_of_covers 5 _ (by decide +kernel) fun t hf y => ?_
  have e := (ixs t).2.2.2.2.2
  obtain ⟨r, q, rfl⟩ : ∃ (r : Fin 768) (q : Fin 1024), y = ix2 r q := ⟨y 0, y 1, by funext a; fin_cases a <;> rfl⟩
  blk_simp
  rw [after0_5]
  frame_out
  refine (pay_apply (bN m c t) (bW m c t) (bE m c t) (bU m c t) (bH m c t) r q).trans ?_
  have eb : (((cfg0.win 5).blk t).view.emb (ix2 r q)) = (ix2 (row t r) (col t q) : S8448x2048.Idx) := by
    blk_ext [e, row, col]
  rw [eb]
  unfold prod
  simp only [bN_apply, bW_apply, bE_apply, bU_apply, bH_apply]
  rfl

end Cert.PleIdeal.Layer
end
-- ==== Proof.PleClaims.lean ====
module
public import proofs.«01_k».proof.Defs
public import proofs.«01_k».proof.Proof.Gen.Ple.Frame
public import proofs.«01_k».proof.Proof.Gen.PleReferenceIdeal.Read
public import proofs.«01_k».proof.Proof.PleValue
public import Idealize.ShloMosaic.Lib.Quiescent

@[expose] public section

set_option maxRecDepth 16384

/-! # The claims about the last call -/

noncomputable section

namespace Cert.PleReferenceIdeal.Layer

open Cert.PleReferenceIdeal Cert.PleReferenceIdeal.Gen Cert.PleReferenceIdeal.Read Cert.Layer
open Idealize.ShloMosaic Idealize.ShloMosaic.TcCoe

/-- The plain program's result at a row and a column. -/
theorem res_apply (x0 : Vec Ideal S8448x2048 .f32) (x1 : Vec Ideal S8448x2048 .bf16) (x2 : Vec Ideal S1x2x4096x256 .f32)
    (x3 : Vec Ideal S1x32x8x256 .f32) (x4 : Vec Ideal S1x2048x2048 .f32) (x5 : Vec Ideal S1x256x2048 .f32) (r : Fin 8448) (q : Fin 2048) :
    val_main_v17 (F := Ideal) x0 x1 x2 x3 x4 x5 (ix2 r q)
      = embed (x0 (ix2 r q)) (∑ k : Fin 2048, x1 (ix2 r k) * x4 (ix3 (0 : Fin 1) k q))
          (∑ k : Fin 256, val_main_v4 (F := Ideal) x2 x3 (ix2 r k) * x5 (ix3 (0 : Fin 1) k q)) := by
  unfold embed sigma
  pointwise [val_main_v17, val_main_v16, val_main_v15, val_main_v14, val_main_v13, val_main_v12, val_main_v11, val_main_v10, val_main_v9,
    val_main_v8, val_main_v7, val_main_v6, val_main_v5, val_main_cst, val_main_cst_0]
  rw [zero_sub]

end Cert.PleReferenceIdeal.Layer

namespace Cert.Layer

open Idealize.ShloMosaic Idealize.SL.Sem Idealize.ShloMosaic.TcCoe

theorem frame_Ple : Cert.quiescent_Ple := fun m g _ => Cert.Ple.Gen.frame m g
theorem frame_PleIdeal : Cert.quiescent_PleIdeal := fun m g _ => Cert.PleIdeal.Gen.frame m g
theorem frame_PleReferenceIdeal : Cert.quiescent_PleReferenceIdeal := fun m g _ =>
  (θ_run Cert.PleReferenceIdeal.defs _ _).mono (fun r h => ⟨fun c => (h c).2, sem_eq_zero_of_no_sems (by decide) r.2⟩)
    (Cert.PleReferenceIdeal.Value.run m g)

theorem alg_ple : Cert.algebraic_PleIdeal_PleReferenceIdeal := by
  intro m g m' g' h hargs
  refine ⟨fun c => Cert.PleIdeal.Layer.res m c, ?_, ?_⟩
  · refine (θ_run Cert.PleIdeal.defs _ _).mono (fun _ hr c => ?_) (Cert.PleIdeal.Value.run_blocks m g)
    exact ⟨(hr c).1.trans (Cert.PleIdeal.Layer.arr m c), (hr c).2⟩
  · refine (θ_run Cert.PleReferenceIdeal.defs _ _).mono (fun _ hr c => ?_) (Cert.PleReferenceIdeal.Value.run m' g')
    obtain ⟨e0, e1, e2, e3, e4, e5⟩ := hargs c
    refine ⟨(hr c).1.trans ?_, (hr c).2⟩
    rw [Cert.PleReferenceIdeal.Read.val_main_v17_eq, e0, e1, e2, e3, e4, e5]
    funext i
    obtain ⟨r, q, rfl⟩ : ∃ (r : Fin 8448) (q : Fin 2048), i = ix2 r q := ⟨i 0, i 1, by funext a; fin_cases a <;> rfl⟩
    exact (Cert.PleReferenceIdeal.Layer.res_apply _ _ _ _ _ _ r q).trans rfl

end Cert.Layer
end
-- ==== Proof.lean ====
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Flash
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Flash
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Down
public import proofs.«01_k».proof.Proof.Gen.Down.Skeleton
public import proofs.«01_k».proof.Proof.Gen.Down.Launch
public import proofs.«01_k».proof.Proof.Gen.Down.Flash
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Qk
public import proofs.«01_k».proof.Proof.Gen.Qk.Skeleton
public import proofs.«01_k».proof.Proof.Gen.Qk.Launch
public import proofs.«01_k».proof.Proof.Gen.Qk.Frame
public import proofs.«01_k».proof.Proof.Gen.QkIdeal
public import proofs.«01_k».proof.Proof.Gen.QkIdeal.Frame
public import proofs.«01_k».proof.Proof.Gen.QkReferenceIdeal
public import proofs.«01_k».proof.Proof.Gen.QkReferenceIdeal.Run
public import proofs.«01_k».proof.Proof.Gen.QkReferenceIdeal.Read
public import proofs.«01_k».proof.Proof.Gen.Gmlp
public import proofs.«01_k».proof.Proof.Gen.Gmlp.Skeleton
public import proofs.«01_k».proof.Proof.Gen.Gmlp.Launch
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpIdeal.Value
public import proofs.«01_k».proof.Proof.Gen.GmlpReferenceIdeal
public import proofs.«01_k».proof.Proof.Gen.GmlpReferenceIdeal.Run
public import proofs.«01_k».proof.Proof.Gen.GmlpReferenceIdeal.Read
public import proofs.«01_k».proof.Proof.Gen.Out
public import proofs.«01_k».proof.Proof.Gen.Out.Skeleton
public import proofs.«01_k».proof.Proof.Gen.Out.Launch
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Ple
public import proofs.«01_k».proof.Proof.Gen.Ple.Skeleton
public import proofs.«01_k».proof.Proof.Gen.Ple.Launch
public import proofs.«01_k».proof.Proof.Gen.Ple.Frame
public import proofs.«01_k».proof.Proof.Gen.PleIdeal
public import proofs.«01_k».proof.Proof.Gen.PleIdeal.Frame
public import proofs.«01_k».proof.Proof.Gen.PleReferenceIdeal
public import proofs.«01_k».proof.Proof.Gen.PleReferenceIdeal.Run
public import proofs.«01_k».proof.Proof.Gen.PleReferenceIdeal.Read
public import proofs.«01_k».proof.Proof.Gen.PleIdeal.Value
public import proofs.«01_k».proof.Proof.Gen.Pre_up_tables
public import proofs.«01_k».proof.Proof.Gen.Pre_down_tables
public import proofs.«01_k».proof.Proof.UpClaims
public import proofs.«01_k».proof.Proof.DownClaims
public import proofs.«01_k».proof.Proof.MixClaims
public import proofs.«01_k».proof.Proof.QkClaims
public import proofs.«01_k».proof.Proof.GmlpClaims
public import proofs.«01_k».proof.Proof.OutClaims
public import proofs.«01_k».proof.Proof.PleClaims
public import Idealize.ShloMosaic.Adequacy
public import Idealize.ShloMosaic.Init

@[expose] public section

noncomputable section

namespace Cert.Proof

open Idealize.ShloMosaic Idealize.SL.Sem Cert.Up

theorem claim : Cert.Claim := ⟨Cert.Up.Gen.facts, Cert.UpIdeal.Gen.facts, Cert.UpReferenceIdeal.Gen.facts, Cert.Down.Gen.facts, Cert.DownIdeal.Gen.facts, Cert.DownReferenceIdeal.Gen.facts, Cert.Mix.Gen.facts, Cert.MixIdeal.Gen.facts, Cert.MixReferenceIdeal.Gen.facts, Cert.Qk.Gen.facts, Cert.QkIdeal.Gen.facts, Cert.QkReferenceIdeal.Gen.facts, Cert.Gmlp.Gen.facts, Cert.GmlpIdeal.Gen.facts, Cert.GmlpReferenceIdeal.Gen.facts, Cert.Out.Gen.facts, Cert.OutIdeal.Gen.facts, Cert.OutReferenceIdeal.Gen.facts, Cert.Ple.Gen.facts, Cert.PleIdeal.Gen.facts, Cert.PleReferenceIdeal.Gen.facts, Cert.Pre_up_tables.Gen.facts, Cert.Pre_down_tables.Gen.facts,
    Cert.Moe.frame_Up, Cert.Moe.frame_UpIdeal, Cert.Moe.frame_UpReferenceIdeal, Cert.Moe.frame_UpReferenceIdeal_pre,
    Cert.Moe.frame_Down, Cert.Moe.frame_DownIdeal, Cert.Moe.frame_DownReferenceIdeal, Cert.Moe.frame_DownReferenceIdeal_pre,
    Cert.Layer.frame_Mix, Cert.Layer.frame_MixIdeal, Cert.Layer.frame_MixReferenceIdeal,
    Cert.Layer.frame_Qk, Cert.Layer.frame_QkIdeal, Cert.Layer.frame_QkReferenceIdeal,
    Cert.Layer.frame_Gmlp, Cert.Layer.frame_GmlpIdeal, Cert.Layer.frame_GmlpReferenceIdeal,
    Cert.Layer.frame_Out, Cert.Layer.frame_OutIdeal, Cert.Layer.frame_OutReferenceIdeal,
    Cert.Layer.frame_Ple, Cert.Layer.frame_PleIdeal, Cert.Layer.frame_PleReferenceIdeal,
    trivial, Cert.Moe.alg_up, trivial, Cert.Moe.alg_down, trivial, Cert.Layer.alg_mix, trivial, Cert.Layer.alg_qk, trivial, Cert.Layer.alg_gmlp, trivial, Cert.Layer.alg_out, trivial, Cert.Layer.alg_ple⟩

end Cert.Proof

end
